-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_clip_KernelIdeal [hPre_within_clip_KernelIdeal : Cert.Pre_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_clip_ReferenceIdeal [hPre_within_clip_ReferenceIdeal : Cert.Pre_within_clip_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_within_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_within_clip_KernelIdeal [hKernelIdeal : Cert.KernelIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_within_clip_ReferenceIdeal [hReferenceIdeal : Cert.ReferenceIdeal.Facts] [hPre_within_clip_ReferenceIdeal : Cert.Pre_within_clip_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_clip_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1)
      ∧ r.2.mem ((c.tc : Thread Cert.UnclippedIdeal.nD Cert.UnclippedIdeal.τ).loc Cert.UnclippedIdeal.main_arg2) = m ((c.tc : Thread Cert.UnclippedIdeal.nD Cert.UnclippedIdeal.τ).loc Cert.UnclippedIdeal.main_arg2))
      ∧ r.2.sem = fun _ => 0)

def preserves_Kernel_KernelIdeal : Prop :=
  True

def algebraic_KernelIdeal_ReferenceIdeal_pre_within_clip_KernelIdeal [hKernelIdeal : Cert.KernelIdeal.Facts] [hReferenceIdeal : Cert.ReferenceIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_clip_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![1024, 16384]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![4096, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![4096, 1024]⟩ 0 4 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![1024, 4096]⟩ ⟨2, ![1024, 16384]⟩ 1 4 c (m' (((0 : Dev Cert.UnclippedIdeal.nD).tc : Thread Cert.UnclippedIdeal.nD Cert.UnclippedIdeal.τ).loc Cert.UnclippedIdeal.main_arg1))
      ∧ m ((c.tc : Thread Cert.KernelIdeal.nD Cert.KernelIdeal.τ).loc Cert.KernelIdeal.main_arg2) = Layout.block ⟨2, ![4096, 1024]⟩ ⟨2, ![16384, 1024]⟩ 0 4 c (m' (((0 : Dev Cert.UnclippedIdeal.nD).tc : Thread Cert.UnclippedIdeal.nD Cert.UnclippedIdeal.τ).loc Cert.UnclippedIdeal.main_arg2))) →
    ∃ (v0 : Buf (Elt Ideal) (((0 : Dev Cert.UnclippedIdeal.nD).tc : Thread Cert.UnclippedIdeal.nD Cert.UnclippedIdeal.τ).loc Cert.UnclippedIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![4096, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v7) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1)
          ∧ r.2.mem (((0 : Dev Cert.UnclippedIdeal.nD).tc : Thread Cert.UnclippedIdeal.nD Cert.UnclippedIdeal.τ).loc Cert.UnclippedIdeal.main_arg2) = m' (((0 : Dev Cert.UnclippedIdeal.nD).tc : Thread Cert.UnclippedIdeal.nD Cert.UnclippedIdeal.τ).loc Cert.UnclippedIdeal.main_arg2))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_within_clip_KernelIdeal : Cert.Pre_within_clip_KernelIdeal.Facts) (hPre_within_clip_ReferenceIdeal : Cert.Pre_within_clip_ReferenceIdeal.Facts),
    quiescent_Kernel (hKernel := hKernel)
    ∧ quiescent_KernelIdeal (hKernelIdeal := hKernelIdeal)
    ∧ quiescent_KernelIdeal_pre_within_clip_KernelIdeal (hKernelIdeal := hKernelIdeal) (hPre_within_clip_KernelIdeal := hPre_within_clip_KernelIdeal)
    ∧ quiescent_ReferenceIdeal (hReferenceIdeal := hReferenceIdeal)
    ∧ quiescent_ReferenceIdeal_pre_within_clip_ReferenceIdeal (hReferenceIdeal := hReferenceIdeal) (hPre_within_clip_ReferenceIdeal := hPre_within_clip_ReferenceIdeal)
    ∧ quiescent_UnclippedIdeal (hUnclippedIdeal := hUnclippedIdeal)
    ∧ preserves_Kernel_KernelIdeal
    ∧ algebraic_KernelIdeal_ReferenceIdeal_pre_within_clip_KernelIdeal (hKernelIdeal := hKernelIdeal) (hReferenceIdeal := hReferenceIdeal) (hPre_within_clip_KernelIdeal := hPre_within_clip_KernelIdeal)
    ∧ algebraic_KernelIdeal_UnclippedIdeal (hKernelIdeal := hKernelIdeal) (hUnclippedIdeal := hUnclippedIdeal)
-- ==== Pre_within_clip_KernelIdeal.lean ====
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S1024 : Shape := ⟨1, ![1024]⟩
abbrev S4096 : Shape := ⟨1, ![4096]⟩

class Facts : Prop where
  bitsLt_bf16_f32 : FTy.bits .bf16 < FTy.bits .f32
  reducesTo_S1024x1024_S1024_d1 : S1024x1024.ReducesTo [1] S1024
  h_S_ : 0 < S_.numel
  bcast_S_S1024 : S_.BroadcastsInDim S1024 (![] : Fin 0 → Fin S1024.rank)
  reducesTo_S1024x4096_S4096_d0 : S1024x4096.ReducesTo [0] S4096
  bcast_S_S4096 : S_.BroadcastsInDim S4096 (![] : Fin 0 → Fin S4096.rank)

variable [Facts]

def fn {F : FTy → Type} [FloatOps F] (main_arg0 : FVec F S1024x1024 .bf16) (main_arg1 : FVec F S1024x4096 .f32) (main_arg2 : FVec F S4096x1024 .f32) : IVec S1024 1 × IVec S4096 1 :=
  let main_v0 : FVec F S1024x1024 .f32 := (extf .f32 · bitsLt_bf16_f32) main_arg0
  let main_v1 : FVec F S1024x1024 .f32 := mulf main_v0 main_v0
  let main_cst : FVec F S_ .f32 := constant S_ .f32 0x00000000#32
  let main_v2 : FVec F S1024 .f32 := (fun x v => Host.reduceAdd x v reducesTo_S1024x1024_S1024_d1 h_S_) main_v1 main_cst
  let main_cst_0 : FVec F S_ .f32 := constant S_ .f32 0x44C80000#32
  let main_v3 : FVec F S1024 .f32 := broadcastInDim S1024 ![] bcast_S_S1024 main_cst_0
  let main_v4 : IVec S1024 1 := cmpf .ole main_v2 main_v3
  let main_v5 : FVec F S1024x4096 .f32 := mulf main_arg1 main_arg1
  let main_cst_1 : FVec F S_ .f32 := constant S_ .f32 0x00000000#32
  let main_v6 : FVec F S4096 .f32 := (fun x v => Host.reduceAdd x v reducesTo_S1024x4096_S4096_d0 h_S_) main_v5 main_cst_1
  let main_cst_2 : FVec F S_ .f32 := constant S_ .f32 0x40100000#32
  let main_v7 : FVec F S4096 .f32 := broadcastInDim S4096 ![] bcast_S_S4096 main_cst_2
  let main_v8 : IVec S4096 1 := cmpf .ole main_v6 main_v7
  (main_v4, main_v8)
-- ==== Pre_within_clip_ReferenceIdeal.lean ====
abbrev S4096x1024 : Shape := ⟨2, ![4096, 1024]⟩
abbrev S1024x16384 : Shape := ⟨2, ![1024, 16384]⟩
abbrev S16384x1024 : Shape := ⟨2, ![16384, 1024]⟩
abbrev S_ : Shape := ⟨0, ![]⟩
abbrev S4096 : Shape := ⟨1, ![4096]⟩
abbrev S16384 : Shape := ⟨1, ![16384]⟩

class Facts : Prop where
  bitsLt_bf16_f32 : FTy.bits .bf16 < FTy.bits .f32
  reducesTo_S4096x1024_S4096_d1 : S4096x1024.ReducesTo [1] S4096
  h_S_ : 0 < S_.numel
  bcast_S_S4096 : S_.BroadcastsInDim S4096 (![] : Fin 0 → Fin S4096.rank)
  reducesTo_S1024x16384_S16384_d0 : S1024x16384.ReducesTo [0] S16384
  bcast_S_S16384 : S_.BroadcastsInDim S16384 (![] : Fin 0 → Fin S16384.rank)

variable [Facts]

def fn {F : FTy → Type} [FloatOps F] (main_arg0 : FVec F S4096x1024 .bf16) (main_arg1 : FVec F S1024x16384 .f32) (main_arg2 : FVec F S16384x1024 .f32) : IVec S4096 1 × IVec S16384 1 :=
  let main_v0 : FVec F S4096x1024 .f32 := (extf .f32 · bitsLt_bf16_f32) main_arg0
  let main_v1 : FVec F S4096x1024 .f32 := mulf main_v0 main_v0
  let main_cst : FVec F S_ .f32 := constant S_ .f32 0x00000000#32
  let main_v2 : FVec F S4096 .f32 := (fun x v => Host.reduceAdd x v reducesTo_S4096x1024_S4096_d1 h_S_) main_v1 main_cst
  let main_cst_0 : FVec F S_ .f32 := constant S_ .f32 0x44C80000#32
  let main_v3 : FVec F S4096 .f32 := broadcastInDim S4096 ![] bcast_S_S4096 main_cst_0
  let main_v4 : IVec S4096 1 := cmpf .ole main_v2 main_v3
  let main_v5 : FVec F S1024x16384 .f32 := mulf main_arg1 main_arg1
  let main_cst_1 : FVec F S_ .f32 := constant S_ .f32 0x00000000#32
  let main_v6 : FVec F S16384 .f32 := (fun x v => Host.reduceAdd x v reducesTo_S1024x16384_S16384_d0 h_S_) main_v5 main_cst_1
  let main_cst_2 : FVec F S_ .f32 := constant S_ .f32 0x40100000#32
  let main_v7 : FVec F S16384 .f32 := broadcastInDim S16384 ![] bcast_S_S16384 main_cst_2
  let main_v8 : IVec S16384 1 := cmpf .ole main_v6 main_v7
  (main_v4, main_v8)
-- ==== Kernel.lean ====
abbrev S1024x1024 : Shape := ⟨2, ![1024, 1024]⟩
abbrev S1024x4096 : Shape := ⟨2, ![1024, 4096]⟩
abbrev S4096x1024 : Shape := ⟨2, ![4096, 1024]⟩
abbrev S3x1024x1024 : Shape := ⟨3, ![3, 1024, 1024]⟩
abbrev S2x128x4096 : Shape := ⟨3, ![2, 128, 4096]⟩
abbrev S2x256x1024 : Shape := ⟨3, ![2, 256, 1024]⟩
abbrev S3x4 : Shape := ⟨2, ![3, 4]⟩
abbrev S2 : Shape := ⟨1, ![2]⟩
abbrev S_ : Shape := ⟨0, ![]⟩
abbrev S1x1 : Shape := ⟨2, ![1, 1]⟩
abbrev S1x256x1024 : Shape := ⟨3, ![1, 256, 1024]⟩
abbrev S256x1024 : Shape := ⟨2, ![256, 1024]⟩
abbrev S1 : Shape := ⟨1, ![1]⟩
abbrev S1x128x4096 : Shape := ⟨3, ![1, 128, 4096]⟩
abbrev S128x4096 : Shape := ⟨2, ![128, 4096]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S1024x1024, .bf16⟩
  | .hbm, ⟨1, _⟩ => ⟨S1024x4096, .f32⟩
  | .hbm, ⟨2, _⟩ => ⟨S4096x1024, .f32⟩
  | .hbm, ⟨3, _⟩ => ⟨S1024x1024, .f32⟩
  | .local _ .vmem, ⟨0, _⟩ => ⟨S1024x1024, .bf16⟩
  | .local _ .vmem, ⟨1, _⟩ => ⟨S1024x1024, .f32⟩
  | .local _ .vmem, ⟨2, _⟩ => ⟨S3x1024x1024, .bf16⟩
  | .local _ .vmem, ⟨3, _⟩ => ⟨S3x1024x1024, .bf16⟩
  | .local _ .vmem, ⟨4, _⟩ => ⟨S1024x4096, .bf16⟩
  | .local _ .vmem, ⟨5, _⟩ => ⟨S4096x1024, .bf16⟩
  | .local _ .vmem, ⟨6, _⟩ => ⟨S2x128x4096, .f32⟩
  | .local _ .vmem, ⟨7, _⟩ => ⟨S2x256x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_28 : BitVec 32 := 2#32
  let v43 : BitVec 32 := Scalar.addi v2 c2_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_40 : BitVec 32 := 1#32
  let v54 : BitVec 32 := Scalar.muli v53 c1_i32_40
  let v55 : BitVec 32 := Scalar.addi c0_i32_41 v54
  v55.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_46 : BitVec 32 := 2#32
  let v63 : BitVec 32 := Scalar.addi v2 c2_i32_46
  let c4_i32_47 : BitVec 32 := 4#32
  let c0_i32_48 : BitVec 32 := 0#32
  let v64 : BitVec 1 := Scalar.cmpi .eq c4_i32_47 c0_i32_48
  let c1_i32_49 : BitVec 32 := 1#32
  let v65 : BitVec 32 := Scalar.select v64 c1_i32_49 c4_i32_47
  let v66 : BitVec 32 := Scalar.remsi v63 v65
  let c0_i32_51 : BitVec 32 := 0#32
  let v68 : BitVec 1 := Scalar.cmpi .slt v66 c0_i32_51
  let c0_i32_52 : BitVec 32 := 0#32
  let v69 : BitVec 1 := Scalar.cmpi .slt v65 c0_i32_52
  let v70 : BitVec 1 := Scalar.xori v68 v69
  let c0_i32_50 : BitVec 32 := 0#32
  let v67 : BitVec 1 := Scalar.cmpi .ne v66 c0_i32_50
  let v71 : BitVec 1 := Scalar.andi v70 v67
  let v72 : BitVec 32 := Scalar.addi v66 v65
  let v73 : BitVec 32 := Scalar.select v71 v72 v66
  let c1_i32_58 : BitVec 32 := 1#32
  let v74 : BitVec 32 := Scalar.muli v73 c1_i32_58
  let v75 : BitVec 32 := Scalar.addi c0_i32_59 v74
  v75.toNat
def k0_dev6 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_63 : BitVec 32 := 2#32
  let v83 : BitVec 32 := Scalar.addi v2 c2_i32_63
  let c4_i32_64 : BitVec 32 := 4#32
  let c0_i32_65 : BitVec 32 := 0#32
  let v84 : BitVec 1 := Scalar.cmpi .eq c4_i32_64 c0_i32_65
  let c1_i32_66 : BitVec 32 := 1#32
  let v85 : BitVec 32 := Scalar.select v84 c1_i32_66 c4_i32_64
  let v86 : BitVec 32 := Scalar.remsi v83 v85
  let c0_i32_68 : BitVec 32 := 0#32
  let v88 : BitVec 1 := Scalar.cmpi .slt v86 c0_i32_68
  let c0_i32_69 : BitVec 32 := 0#32
  let v89 : BitVec 1 := Scalar.cmpi .slt v85 c0_i32_69
  let v90 : BitVec 1 := Scalar.xori v88 v89
  let c0_i32_67 : BitVec 32 := 0#32
  let v87 : BitVec 1 := Scalar.cmpi .ne v86 c0_i32_67
  let v91 : BitVec 1 := Scalar.andi v90 v87
  let v92 : BitVec 32 := Scalar.addi v86 v85
  let v93 : BitVec 32 := Scalar.select v91 v92 v86
  let c1_i32_75 : BitVec 32 := 1#32
  let v94 : BitVec 32 := Scalar.muli v93 c1_i32_75
  let v95 : BitVec 32 := Scalar.addi c0_i32_76 v94
  v95.toNat
def k0_dev7 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_80 : BitVec 32 := 2#32
  let v103 : BitVec 32 := Scalar.addi v2 c2_i32_80
  let c4_i32_81 : BitVec 32 := 4#32
  let c0_i32_82 : BitVec 32 := 0#32
  let v104 : BitVec 1 := Scalar.cmpi .eq c4_i32_81 c0_i32_82
  let c1_i32_83 : BitVec 32 := 1#32
  let v105 : BitVec 32 := Scalar.select v104 c1_i32_83 c4_i32_81
  let v106 : BitVec 32 := Scalar.remsi v103 v105
  let c0_i32_85 : BitVec 32 := 0#32
  let v108 : BitVec 1 := Scalar.cmpi .slt v106 c0_i32_85
  let c0_i32_86 : BitVec 32 := 0#32
  let v109 : BitVec 1 := Scalar.cmpi .slt v105 c0_i32_86
  let v110 : BitVec 1 := Scalar.xori v108 v109
  let c0_i32_84 : BitVec 32 := 0#32
  let v107 : BitVec 1 := Scalar.cmpi .ne v106 c0_i32_84
  let v111 : BitVec 1 := Scalar.andi v110 v107
  let v112 : BitVec 32 := Scalar.addi v106 v105
  let v113 : BitVec 32 := Scalar.select v111 v112 v106
  let c1_i32_92 : BitVec 32 := 1#32
  let v114 : BitVec 32 := Scalar.muli v113 c1_i32_92
  let v115 : BitVec 32 := Scalar.addi c0_i32_93 v114
  v115.toNat
@[reducible] def k0_t1_loop : Scf.Loop 32 :=
  let c1_i32_103 : BitVec 32 := 1#32
  let c7_i32 : BitVec 32 := 7#32
  let v128 : BitVec 32 := Scalar.addi c1_i32_103 c7_i32
  let c1_i32_104 : BitVec 32 := 1#32
  ⟨c1_i32_103, v128, c1_i32_104⟩
def k0_off1 (k0_t1 : Fin k0_t1_loop.trips) : Fin 1 → Nat :=
  let c1_i32_103 : BitVec 32 := 1#32
  let c1_i32_104 : BitVec 32 := 1#32
  let arg15 : BitVec 32 := Scf.iv c1_i32_103 c1_i32_104 k0_t1
  let c2_i32_345 : BitVec 32 := 2#32
  let c0_i32_346 : BitVec 32 := 0#32
  let v356 : BitVec 1 := Scalar.cmpi .eq c2_i32_345 c0_i32_346
  let c1_i32_347 : BitVec 32 := 1#32
  let v357 : BitVec 32 := Scalar.select v356 c1_i32_347 c2_i32_345
  let v358 : BitVec 32 := Scalar.remsi arg15 v357
  let c0_i32_349 : BitVec 32 := 0#32
  let v360 : BitVec 1 := Scalar.cmpi .slt v358 c0_i32_349
  let c0_i32_350 : BitVec 32 := 0#32
  let v361 : BitVec 1 := Scalar.cmpi .slt v357 c0_i32_350
  let v362 : BitVec 1 := Scalar.xori v360 v361
  let c0_i32_348 : BitVec 32 := 0#32
  let v359 : BitVec 1 := Scalar.cmpi .ne v358 c0_i32_348
  let v363 : BitVec 1 := Scalar.andi v362 v359
  let v364 : BitVec 32 := Scalar.addi v358 v357
  let v365 : BitVec 32 := Scalar.select v363 v364 v358
  ![v365.toNat]
def k0_off2 (k0_t1 : Fin k0_t1_loop.trips) : Fin 3 → Nat :=
  let c1_i32_103 : BitVec 32 := 1#32
  let c1_i32_104 : BitVec 32 := 1#32
  let arg15 : BitVec 32 := Scf.iv c1_i32_103 c1_i32_104 k0_t1
  let c2_i32_339 : BitVec 32 := 2#32
  let c0_i32_340 : BitVec 32 := 0#32
  let v346 : BitVec 1 := Scalar.cmpi .eq c2_i32_339 c0_i32_340
  let c1_i32_341 : BitVec 32 := 1#32
  let v347 : BitVec 32 := Scalar.select v346 c1_i32_341 c2_i32_339
  let v348 : BitVec 32 := Scalar.remsi arg15 v347
  let c0_i32_343 : BitVec 32 := 0#32
  let v350 : BitVec 1 := Scalar.cmpi .slt v348 c0_i32_343
  let c0_i32_344 : BitVec 32 := 0#32
  let v351 : BitVec 1 := Scalar.cmpi .slt v347 c0_i32_344
  let v352 : BitVec 1 := Scalar.xori v350 v351
  let c0_i32_342 : BitVec 32 := 0#32
  let v349 : BitVec 1 := Scalar.cmpi .ne v348 c0_i32_342
  let v353 : BitVec 1 := Scalar.andi v352 v349
  let v354 : BitVec 32 := Scalar.addi v348 v347
  let v355 : BitVec 32 := Scalar.select v353 v354 v348
  let c0_i32_351 : BitVec 32 := 0#32
  let c0_i32_352 : BitVec 32 := 0#32
  ![v355.toNat, 0, 0]
def k0_off3 (k0_t1 : Fin k0_t1_loop.trips) : Fin 2 → Nat :=
  let c1_i32_103 : BitVec 32 := 1#32
  let c1_i32_104 : BitVec 32 := 1#32
  let arg15 : BitVec 32 := Scf.iv c1_i32_103 c1_i32_104 k0_t1
  let c128_i32 : BitVec 32 := 128#32
  let v345 : BitVec 32 := Scalar.muli arg15 c128_i32
  let c0_i32_353 : BitVec 32 := 0#32
  ![v345.toNat, 0]
def k0_off4 (k0_t1 : Fin k0_t1_loop.trips) : Fin 1 → Nat :=
  let c1_i32_103 : BitVec 32 := 1#32
  let c1_i32_104 : BitVec 32 := 1#32
  let arg15 : BitVec 32 := Scf.iv c1_i32_103 c1_i32_104 k0_t1
  let c1_i32_354 : BitVec 32 := 1#32
  let v371 : BitVec 32 := Scalar.subi arg15 c1_i32_354
  let c2_i32_362 : BitVec 32 := 2#32
  let c0_i32_363 : BitVec 32 := 0#32
  let v383 : BitVec 1 := Scalar.cmpi .eq c2_i32_362 c0_i32_363
  let c1_i32_364 : BitVec 32 := 1#32
  let v384 : BitVec 32 := Scalar.select v383 c1_i32_364 c2_i32_362
  let v385 : BitVec 32 := Scalar.remsi v371 v384
  let c0_i32_366 : BitVec 32 := 0#32
  let v387 : BitVec 1 := Scalar.cmpi .slt v385 c0_i32_366
  let c0_i32_367 : BitVec 32 := 0#32
  let v388 : BitVec 1 := Scalar.cmpi .slt v384 c0_i32_367
  let v389 : BitVec 1 := Scalar.xori v387 v388
  let c0_i32_365 : BitVec 32 := 0#32
  let v386 : BitVec 1 := Scalar.cmpi .ne v385 c0_i32_365
  let v390 : BitVec 1 := Scalar.andi v389 v386
  let v391 : BitVec 32 := Scalar.addi v385 v384
  let v392 : BitVec 32 := Scalar.select v390 v391 v385
  ![v392.toNat]
def k0_off5 (k0_t1 : Fin k0_t1_loop.trips) : Fin 3 → Nat :=
  let c1_i32_103 : BitVec 32 := 1#32
  let c1_i32_104 : BitVec 32 := 1#32
  let arg15 : BitVec 32 := Scf.iv c1_i32_103 c1_i32_104 k0_t1
  let c1_i32_354 : BitVec 32 := 1#32
  let v371 : BitVec 32 := Scalar.subi arg15 c1_i32_354
  let c2_i32_356 : BitVec 32 := 2#32
  let c0_i32_357 : BitVec 32 := 0#32
  let v373 : BitVec 1 := Scalar.cmpi .eq c2_i32_356 c0_i32_357
  let c1_i32_358 : BitVec 32 := 1#32
  let v374 : BitVec 32 := Scalar.select v373 c1_i32_358 c2_i32_356
  let v375 : BitVec 32 := Scalar.remsi v371 v374
  let c0_i32_360 : BitVec 32 := 0#32
  let v377 : BitVec 1 := Scalar.cmpi .slt v375 c0_i32_360
  let c0_i32_361 : BitVec 32 := 0#32
  let v378 : BitVec 1 := Scalar.cmpi .slt v374 c0_i32_361
  let v379 : BitVec 1 := Scalar.xori v377 v378
  let c0_i32_359 : BitVec 32 := 0#32
  let v376 : BitVec 1 := Scalar.cmpi .ne v375 c0_i32_359
  let v380 : BitVec 1 := Scalar.andi v379 v376
  let v381 : BitVec 32 := Scalar.addi v375 v374
  let v382 : BitVec 32 := Scalar.select v380 v381 v375
  let c0_i32_368 : BitVec 32 := 0#32
  let c0_i32_369 : BitVec 32 := 0#32
  ![v382.toNat, 0, 0]
def k0_off6 (k0_t1 : Fin k0_t1_loop.trips) : Fin 2 → Nat :=
  let c1_i32_103 : BitVec 32 := 1#32
  let c1_i32_104 : BitVec 32 := 1#32
  let arg15 : BitVec 32 := Scf.iv c1_i32_103 c1_i32_104 k0_t1
  let c1_i32_354 : BitVec 32 := 1#32
  let v371 : BitVec 32 := Scalar.subi arg15 c1_i32_354
  let c128_i32_355 : BitVec 32 := 128#32
  let v372 : BitVec 32 := Scalar.muli v371 c128_i32_355
  let c0_i32_370 : BitVec 32 := 0#32
  ![v372.toNat, 0]
def k0_off7 (k0_t1 : Fin k0_t1_loop.trips) : Fin 3 → Nat :=
  let c1_i32_103 : BitVec 32 := 1#32
  let c1_i32_104 : BitVec 32 := 1#32
  let arg15 : BitVec 32 := Scf.iv c1_i32_103 c1_i32_104 k0_t1
  let c1_i32_371 : BitVec 32 := 1#32
  let v398 : BitVec 32 := Scalar.subi arg15 c1_i32_371
  let c2_i32_372 : BitVec 32 := 2#32
  let c0_i32_373 : BitVec 32 := 0#32
  let v399 : BitVec 1 := Scalar.cmpi .eq c2_i32_372 c0_i32_373
  let c1_i32_374 : BitVec 32 := 1#32
  let v400 : BitVec 32 := Scalar.select v399 c1_i32_374 c2_i32_372
  let v401 : BitVec 32 := Scalar.remsi v398 v400
  let c0_i32_376 : BitVec 32 := 0#32
  let v403 : BitVec 1 := Scalar.cmpi .slt v401 c0_i32_376
  let c0_i32_377 : BitVec 32 := 0#32
  let v404 : BitVec 1 := Scalar.cmpi .slt v400 c0_i32_377
  let v405 : BitVec 1 := Scalar.xori v403 v404
  let c0_i32_375 : BitVec 32 := 0#32
  let v402 : BitVec 1 := Scalar.cmpi .ne v401 c0_i32_375
  let v406 : BitVec 1 := Scalar.andi v405 v402
  let v407 : BitVec 32 := Scalar.addi v401 v400
  let v408 : BitVec 32 := Scalar.select v406 v407 v401
  let v409 : Index := Scalar.indexCast v408
  let c0_378 : Index := 0#32
  let c0_379 : Index := 0#32
  ![v409.toNat, 0, 0]
def k0_off8 (k0_t1 : Fin k0_t1_loop.trips) : Fin 2 → Nat :=
  let c1_i32_103 : BitVec 32 := 1#32
  let c1_i32_104 : BitVec 32 := 1#32
  let arg15 : BitVec 32 := Scf.iv c1_i32_103 c1_i32_104 k0_t1
  let c1_i32_380 : BitVec 32 := 1#32
  let v413 : BitVec 32 := Scalar.subi arg15 c1_i32_380
  let c128_i32_381 : BitVec 32 := 128#32
  let v414 : BitVec 32 := Scalar.muli v413 c128_i32_381
  let v415 : Index := Scalar.indexCast v414
  let c0_382 : Index := 0#32
  ![v415.toNat, 0]
def k0_dev8 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_113 : BitVec 32 := 1#32
  let v140 : BitVec 32 := Scalar.addi v2 c1_i32_113
  let c4_i32_114 : BitVec 32 := 4#32
  let c0_i32_115 : BitVec 32 := 0#32
  let v141 : BitVec 1 := Scalar.cmpi .eq c4_i32_114 c0_i32_115
  let c1_i32_116 : BitVec 32 := 1#32
  let v142 : BitVec 32 := Scalar.select v141 c1_i32_116 c4_i32_114
  let v143 : BitVec 32 := Scalar.remsi v140 v142
  let c0_i32_118 : BitVec 32 := 0#32
  let v145 : BitVec 1 := Scalar.cmpi .slt v143 c0_i32_118
  let c0_i32_119 : BitVec 32 := 0#32
  let v146 : BitVec 1 := Scalar.cmpi .slt v142 c0_i32_119
  let v147 : BitVec 1 := Scalar.xori v145 v146
  let c0_i32_117 : BitVec 32 := 0#32
  let v144 : BitVec 1 := Scalar.cmpi .ne v143 c0_i32_117
  let v148 : BitVec 1 := Scalar.andi v147 v144
  let v149 : BitVec 32 := Scalar.addi v143 v142
  let v150 : BitVec 32 := Scalar.select v148 v149 v143
  let c1_i32_125 : BitVec 32 := 1#32
  let v151 : BitVec 32 := Scalar.muli v150 c1_i32_125
  let v152 : BitVec 32 := Scalar.addi c0_i32_126 v151
  v152.toNat
def k0_dev9 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_131 : BitVec 32 := 3#32
  let v160 : BitVec 32 := Scalar.addi v2 c3_i32_131
  let c4_i32_132 : BitVec 32 := 4#32
  let c0_i32_133 : BitVec 32 := 0#32
  let v161 : BitVec 1 := Scalar.cmpi .eq c4_i32_132 c0_i32_133
  let c1_i32_134 : BitVec 32 := 1#32
  let v162 : BitVec 32 := Scalar.select v161 c1_i32_134 c4_i32_132
  let v163 : BitVec 32 := Scalar.remsi v160 v162
  let c0_i32_136 : BitVec 32 := 0#32
  let v165 : BitVec 1 := Scalar.cmpi .slt v163 c0_i32_136
  let c0_i32_137 : BitVec 32 := 0#32
  let v166 : BitVec 1 := Scalar.cmpi .slt v162 c0_i32_137
  let v167 : BitVec 1 := Scalar.xori v165 v166
  let c0_i32_135 : BitVec 32 := 0#32
  let v164 : BitVec 1 := Scalar.cmpi .ne v163 c0_i32_135
  let v168 : BitVec 1 := Scalar.andi v167 v164
  let v169 : BitVec 32 := Scalar.addi v163 v162
  let v170 : BitVec 32 := Scalar.select v168 v169 v163
  let c1_i32_143 : BitVec 32 := 1#32
  let v171 : BitVec 32 := Scalar.muli v170 c1_i32_143
  let v172 : BitVec 32 := Scalar.addi c0_i32_144 v171
  v172.toNat
def k0_dev10 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_149 : BitVec 32 := 1#32
  let v180 : BitVec 32 := Scalar.addi v2 c1_i32_149
  let c4_i32_150 : BitVec 32 := 4#32
  let c0_i32_151 : BitVec 32 := 0#32
  let v181 : BitVec 1 := Scalar.cmpi .eq c4_i32_150 c0_i32_151
  let c1_i32_152 : BitVec 32 := 1#32
  let v182 : BitVec 32 := Scalar.select v181 c1_i32_152 c4_i32_150
  let v183 : BitVec 32 := Scalar.remsi v180 v182
  let c0_i32_154 : BitVec 32 := 0#32
  let v185 : BitVec 1 := Scalar.cmpi .slt v183 c0_i32_154
  let c0_i32_155 : BitVec 32 := 0#32
  let v186 : BitVec 1 := Scalar.cmpi .slt v182 c0_i32_155
  let v187 : BitVec 1 := Scalar.xori v185 v186
  let c0_i32_153 : BitVec 32 := 0#32
  let v184 : BitVec 1 := Scalar.cmpi .ne v183 c0_i32_153
  let v188 : BitVec 1 := Scalar.andi v187 v184
  let v189 : BitVec 32 := Scalar.addi v183 v182
  let v190 : BitVec 32 := Scalar.select v188 v189 v183
  let c1_i32_161 : BitVec 32 := 1#32
  let v191 : BitVec 32 := Scalar.muli v190 c1_i32_161
  let v192 : BitVec 32 := Scalar.addi c0_i32_162 v191
  v192.toNat
def k0_dev11 (d0 : Dev nD) : Nat :=
  let c0_i32_180 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_167 : BitVec 32 := 3#32
  let v200 : BitVec 32 := Scalar.addi v2 c3_i32_167
  let c4_i32_168 : BitVec 32 := 4#32
  let c0_i32_169 : BitVec 32 := 0#32
  let v201 : BitVec 1 := Scalar.cmpi .eq c4_i32_168 c0_i32_169
  let c1_i32_170 : BitVec 32 := 1#32
  let v202 : BitVec 32 := Scalar.select v201 c1_i32_170 c4_i32_168
  let v203 : BitVec 32 := Scalar.remsi v200 v202
  let c0_i32_172 : BitVec 32 := 0#32
  let v205 : BitVec 1 := Scalar.cmpi .slt v203 c0_i32_172
  let c0_i32_173 : BitVec 32 := 0#32
  let v206 : BitVec 1 := Scalar.cmpi .slt v202 c0_i32_173
  let v207 : BitVec 1 := Scalar.xori v205 v206
  let c0_i32_171 : BitVec 32 := 0#32
  let v204 : BitVec 1 := Scalar.cmpi .ne v203 c0_i32_171
  let v208 : BitVec 1 := Scalar.andi v207 v204
  let v209 : BitVec 32 := Scalar.addi v203 v202
  let v210 : BitVec 32 := Scalar.select v208 v209 v203
  let c1_i32_179 : BitVec 32 := 1#32
  let v211 : BitVec 32 := Scalar.muli v210 c1_i32_179
  let v212 : BitVec 32 := Scalar.addi c0_i32_180 v211
  v212.toNat
def k0_dev12 (d0 : Dev nD) : Nat :=
  let c0_i32_198 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_185 : BitVec 32 := 1#32
  let v220 : BitVec 32 := Scalar.addi v2 c1_i32_185
  let c4_i32_186 : BitVec 32 := 4#32
  let c0_i32_187 : BitVec 32 := 0#32
  let v221 : BitVec 1 := Scalar.cmpi .eq c4_i32_186 c0_i32_187
  let c1_i32_188 : BitVec 32 := 1#32
  let v222 : BitVec 32 := Scalar.select v221 c1_i32_188 c4_i32_186
  let v223 : BitVec 32 := Scalar.remsi v220 v222
  let c0_i32_190 : BitVec 32 := 0#32
  let v225 : BitVec 1 := Scalar.cmpi .slt v223 c0_i32_190
  let c0_i32_191 : BitVec 32 := 0#32
  let v226 : BitVec 1 := Scalar.cmpi .slt v222 c0_i32_191
  let v227 : BitVec 1 := Scalar.xori v225 v226
  let c0_i32_189 : BitVec 32 := 0#32
  let v224 : BitVec 1 := Scalar.cmpi .ne v223 c0_i32_189
  let v228 : BitVec 1 := Scalar.andi v227 v224
  let v229 : BitVec 32 := Scalar.addi v223 v222
  let v230 : BitVec 32 := Scalar.select v228 v229 v223
  let c1_i32_197 : BitVec 32 := 1#32
  let v231 : BitVec 32 := Scalar.muli v230 c1_i32_197
  let v232 : BitVec 32 := Scalar.addi c0_i32_198 v231
  v232.toNat
def k0_dev13 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_203 : BitVec 32 := 3#32
  let v240 : BitVec 32 := Scalar.addi v2 c3_i32_203
  let c4_i32_204 : BitVec 32 := 4#32
  let c0_i32_205 : BitVec 32 := 0#32
  let v241 : BitVec 1 := Scalar.cmpi .eq c4_i32_204 c0_i32_205
  let c1_i32_206 : BitVec 32 := 1#32
  let v242 : BitVec 32 := Scalar.select v241 c1_i32_206 c4_i32_204
  let v243 : BitVec 32 := Scalar.remsi v240 v242
  let c0_i32_208 : BitVec 32 := 0#32
  let v245 : BitVec 1 := Scalar.cmpi .slt v243 c0_i32_208
  let c0_i32_209 : BitVec 32 := 0#32
  let v246 : BitVec 1 := Scalar.cmpi .slt v242 c0_i32_209
  let v247 : BitVec 1 := Scalar.xori v245 v246
  let c0_i32_207 : BitVec 32 := 0#32
  let v244 : BitVec 1 := Scalar.cmpi .ne v243 c0_i32_207
  let v248 : BitVec 1 := Scalar.andi v247 v244
  let v249 : BitVec 32 := Scalar.addi v243 v242
  let v250 : BitVec 32 := Scalar.select v248 v249 v243
  let c1_i32_215 : BitVec 32 := 1#32
  let v251 : BitVec 32 := Scalar.muli v250 c1_i32_215
  let v252 : BitVec 32 := Scalar.addi c0_i32_216 v251
  v252.toNat
def k0_dev14 (d0 : Dev nD) : Nat :=
  let c0_i32_234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_221 : BitVec 32 := 1#32
  let v260 : BitVec 32 := Scalar.addi v2 c1_i32_221
  let c4_i32_222 : BitVec 32 := 4#32
  let c0_i32_223 : BitVec 32 := 0#32
  let v261 : BitVec 1 := Scalar.cmpi .eq c4_i32_222 c0_i32_223
  let c1_i32_224 : BitVec 32 := 1#32
  let v262 : BitVec 32 := Scalar.select v261 c1_i32_224 c4_i32_222
  let v263 : BitVec 32 := Scalar.remsi v260 v262
  let c0_i32_226 : BitVec 32 := 0#32
  let v265 : BitVec 1 := Scalar.cmpi .slt v263 c0_i32_226
  let c0_i32_227 : BitVec 32 := 0#32
  let v266 : BitVec 1 := Scalar.cmpi .slt v262 c0_i32_227
  let v267 : BitVec 1 := Scalar.xori v265 v266
  let c0_i32_225 : BitVec 32 := 0#32
  let v264 : BitVec 1 := Scalar.cmpi .ne v263 c0_i32_225
  let v268 : BitVec 1 := Scalar.andi v267 v264
  let v269 : BitVec 32 := Scalar.addi v263 v262
  let v270 : BitVec 32 := Scalar.select v268 v269 v263
  let c1_i32_233 : BitVec 32 := 1#32
  let v271 : BitVec 32 := Scalar.muli v270 c1_i32_233
  let v272 : BitVec 32 := Scalar.addi c0_i32_234 v271
  v272.toNat
def k0_dev15 (d0 : Dev nD) : Nat :=
  let c0_i32_252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_239 : BitVec 32 := 3#32
  let v280 : BitVec 32 := Scalar.addi v2 c3_i32_239
  let c4_i32_240 : BitVec 32 := 4#32
  let c0_i32_241 : BitVec 32 := 0#32
  let v281 : BitVec 1 := Scalar.cmpi .eq c4_i32_240 c0_i32_241
  let c1_i32_242 : BitVec 32 := 1#32
  let v282 : BitVec 32 := Scalar.select v281 c1_i32_242 c4_i32_240
  let v283 : BitVec 32 := Scalar.remsi v280 v282
  let c0_i32_244 : BitVec 32 := 0#32
  let v285 : BitVec 1 := Scalar.cmpi .slt v283 c0_i32_244
  let c0_i32_245 : BitVec 32 := 0#32
  let v286 : BitVec 1 := Scalar.cmpi .slt v282 c0_i32_245
  let v287 : BitVec 1 := Scalar.xori v285 v286
  let c0_i32_243 : BitVec 32 := 0#32
  let v284 : BitVec 1 := Scalar.cmpi .ne v283 c0_i32_243
  let v288 : BitVec 1 := Scalar.andi v287 v284
  let v289 : BitVec 32 := Scalar.addi v283 v282
  let v290 : BitVec 32 := Scalar.select v288 v289 v283
  let c1_i32_251 : BitVec 32 := 1#32
  let v291 : BitVec 32 := Scalar.muli v290 c1_i32_251
  let v292 : BitVec 32 := Scalar.addi c0_i32_252 v291
  v292.toNat
@[reducible] def k0_t2_loop : Scf.Loop 32 :=
  let c1_i32_263 : BitVec 32 := 1#32
  let c15_i32 : BitVec 32 := 15#32
  let v305 : BitVec 32 := Scalar.addi c1_i32_263 c15_i32
  let c1_i32_264 : BitVec 32 := 1#32
  ⟨c1_i32_263, v305, c1_i32_264⟩
def k0_off9 (k0_t2 : Fin k0_t2_loop.trips) : Fin 1 → Nat :=
  let c1_i32_263 : BitVec 32 := 1#32
  let c1_i32_264 : BitVec 32 := 1#32
  let arg15 : BitVec 32 := Scf.iv c1_i32_263 c1_i32_264 k0_t2
  let c2_i32_346 : BitVec 32 := 2#32
  let c0_i32_347 : BitVec 32 := 0#32
  let v356 : BitVec 1 := Scalar.cmpi .eq c2_i32_346 c0_i32_347
  let c1_i32_348 : BitVec 32 := 1#32
  let v357 : BitVec 32 := Scalar.select v356 c1_i32_348 c2_i32_346
  let v358 : BitVec 32 := Scalar.remsi arg15 v357
  let c0_i32_350 : BitVec 32 := 0#32
  let v360 : BitVec 1 := Scalar.cmpi .slt v358 c0_i32_350
  let c0_i32_351 : BitVec 32 := 0#32
  let v361 : BitVec 1 := Scalar.cmpi .slt v357 c0_i32_351
  let v362 : BitVec 1 := Scalar.xori v360 v361
  let c0_i32_349 : BitVec 32 := 0#32
  let v359 : BitVec 1 := Scalar.cmpi .ne v358 c0_i32_349
  let v363 : BitVec 1 := Scalar.andi v362 v359
  let v364 : BitVec 32 := Scalar.addi v358 v357
  let v365 : BitVec 32 := Scalar.select v363 v364 v358
  ![v365.toNat]
def k0_off10 (k0_t2 : Fin k0_t2_loop.trips) : Fin 3 → Nat :=
  let c1_i32_263 : BitVec 32 := 1#32
  let c1_i32_264 : BitVec 32 := 1#32
  let arg15 : BitVec 32 := Scf.iv c1_i32_263 c1_i32_264 k0_t2
  let c2_i32_340 : BitVec 32 := 2#32
  let c0_i32_341 : BitVec 32 := 0#32
  let v346 : BitVec 1 := Scalar.cmpi .eq c2_i32_340 c0_i32_341
  let c1_i32_342 : BitVec 32 := 1#32
  let v347 : BitVec 32 := Scalar.select v346 c1_i32_342 c2_i32_340
  let v348 : BitVec 32 := Scalar.remsi arg15 v347
  let c0_i32_344 : BitVec 32 := 0#32
  let v350 : BitVec 1 := Scalar.cmpi .slt v348 c0_i32_344
  let c0_i32_345 : BitVec 32 := 0#32
  let v351 : BitVec 1 := Scalar.cmpi .slt v347 c0_i32_345
  let v352 : BitVec 1 := Scalar.xori v350 v351
  let c0_i32_343 : BitVec 32 := 0#32
  let v349 : BitVec 1 := Scalar.cmpi .ne v348 c0_i32_343
  let v353 : BitVec 1 := Scalar.andi v352 v349
  let v354 : BitVec 32 := Scalar.addi v348 v347
  let v355 : BitVec 32 := Scalar.select v353 v354 v348
  let c0_i32_352 : BitVec 32 := 0#32
  let c0_i32_353 : BitVec 32 := 0#32
  ![v355.toNat, 0, 0]
def k0_off11 (k0_t2 : Fin k0_t2_loop.trips) : Fin 2 → Nat :=
  let c1_i32_263 : BitVec 32 := 1#32
  let c1_i32_264 : BitVec 32 := 1#32
  let arg15 : BitVec 32 := Scf.iv c1_i32_263 c1_i32_264 k0_t2
  let c256_i32_339 : BitVec 32 := 256#32
  let v345 : BitVec 32 := Scalar.muli arg15 c256_i32_339
  let c0_i32_354 : BitVec 32 := 0#32
  ![v345.toNat, 0]
def k0_off12 (k0_t2 : Fin k0_t2_loop.trips) : Fin 1 → Nat :=
  let c1_i32_263 : BitVec 32 := 1#32
  let c1_i32_264 : BitVec 32 := 1#32
  let arg15 : BitVec 32 := Scf.iv c1_i32_263 c1_i32_264 k0_t2
  let c1_i32_355 : BitVec 32 := 1#32
  let v371 : BitVec 32 := Scalar.subi arg15 c1_i32_355
  let c2_i32_363 : BitVec 32 := 2#32
  let c0_i32_364 : BitVec 32 := 0#32
  let v383 : BitVec 1 := Scalar.cmpi .eq c2_i32_363 c0_i32_364
  let c1_i32_365 : BitVec 32 := 1#32
  let v384 : BitVec 32 := Scalar.select v383 c1_i32_365 c2_i32_363
  let v385 : BitVec 32 := Scalar.remsi v371 v384
  let c0_i32_367 : BitVec 32 := 0#32
  let v387 : BitVec 1 := Scalar.cmpi .slt v385 c0_i32_367
  let c0_i32_368 : BitVec 32 := 0#32
  let v388 : BitVec 1 := Scalar.cmpi .slt v384 c0_i32_368
  let v389 : BitVec 1 := Scalar.xori v387 v388
  let c0_i32_366 : BitVec 32 := 0#32
  let v386 : BitVec 1 := Scalar.cmpi .ne v385 c0_i32_366
  let v390 : BitVec 1 := Scalar.andi v389 v386
  let v391 : BitVec 32 := Scalar.addi v385 v384
  let v392 : BitVec 32 := Scalar.select v390 v391 v385
  ![v392.toNat]
def k0_off13 (k0_t2 : Fin k0_t2_loop.trips) : Fin 3 → Nat :=
  let c1_i32_263 : BitVec 32 := 1#32
  let c1_i32_264 : BitVec 32 := 1#32
  let arg15 : BitVec 32 := Scf.iv c1_i32_263 c1_i32_264 k0_t2
  let c1_i32_355 : BitVec 32 := 1#32
  let v371 : BitVec 32 := Scalar.subi arg15 c1_i32_355
  let c2_i32_357 : BitVec 32 := 2#32
  let c0_i32_358 : BitVec 32 := 0#32
  let v373 : BitVec 1 := Scalar.cmpi .eq c2_i32_357 c0_i32_358
  let c1_i32_359 : BitVec 32 := 1#32
  let v374 : BitVec 32 := Scalar.select v373 c1_i32_359 c2_i32_357
  let v375 : BitVec 32 := Scalar.remsi v371 v374
  let c0_i32_361 : BitVec 32 := 0#32
  let v377 : BitVec 1 := Scalar.cmpi .slt v375 c0_i32_361
  let c0_i32_362 : BitVec 32 := 0#32
  let v378 : BitVec 1 := Scalar.cmpi .slt v374 c0_i32_362
  let v379 : BitVec 1 := Scalar.xori v377 v378
  let c0_i32_360 : BitVec 32 := 0#32
  let v376 : BitVec 1 := Scalar.cmpi .ne v375 c0_i32_360
  let v380 : BitVec 1 := Scalar.andi v379 v376
  let v381 : BitVec 32 := Scalar.addi v375 v374
  let v382 : BitVec 32 := Scalar.select v380 v381 v375
  let c0_i32_369 : BitVec 32 := 0#32
  let c0_i32_370 : BitVec 32 := 0#32
  ![v382.toNat, 0, 0]
def k0_off14 (k0_t2 : Fin k0_t2_loop.trips) : Fin 2 → Nat :=
  let c1_i32_263 : BitVec 32 := 1#32
  let c1_i32_264 : BitVec 32 := 1#32
  let arg15 : BitVec 32 := Scf.iv c1_i32_263 c1_i32_264 k0_t2
  let c1_i32_355 : BitVec 32 := 1#32
  let v371 : BitVec 32 := Scalar.subi arg15 c1_i32_355
  let c256_i32_356 : BitVec 32 := 256#32
  let v372 : BitVec 32 := Scalar.muli v371 c256_i32_356
  let c0_i32_371 : BitVec 32 := 0#32
  ![v372.toNat, 0]
def k0_off15 (k0_t2 : Fin k0_t2_loop.trips) : Fin 3 → Nat :=
  let c1_i32_263 : BitVec 32 := 1#32
  let c1_i32_264 : BitVec 32 := 1#32
  let arg15 : BitVec 32 := Scf.iv c1_i32_263 c1_i32_264 k0_t2
  let c1_i32_372 : BitVec 32 := 1#32
  let v398 : BitVec 32 := Scalar.subi arg15 c1_i32_372
  let c2_i32_373 : BitVec 32 := 2#32
  let c0_i32_374 : BitVec 32 := 0#32
  let v399 : BitVec 1 := Scalar.cmpi .eq c2_i32_373 c0_i32_374
  let c1_i32_375 : BitVec 32 := 1#32
  let v400 : BitVec 32 := Scalar.select v399 c1_i32_375 c2_i32_373
  let v401 : BitVec 32 := Scalar.remsi v398 v400
  let c0_i32_377 : BitVec 32 := 0#32
  let v403 : BitVec 1 := Scalar.cmpi .slt v401 c0_i32_377
  let c0_i32_378 : BitVec 32 := 0#32
  let v404 : BitVec 1 := Scalar.cmpi .slt v400 c0_i32_378
  let v405 : BitVec 1 := Scalar.xori v403 v404
  let c0_i32_376 : BitVec 32 := 0#32
  let v402 : BitVec 1 := Scalar.cmpi .ne v401 c0_i32_376
  let v406 : BitVec 1 := Scalar.andi v405 v402
  let v407 : BitVec 32 := Scalar.addi v401 v400
  let v408 : BitVec 32 := Scalar.select v406 v407 v401
  let v409 : Index := Scalar.indexCast v408
  let c0_379 : Index := 0#32
  let c0_380 : Index := 0#32
  ![v409.toNat, 0, 0]
def k0_off16 (k0_t2 : Fin k0_t2_loop.trips) : Fin 2 → Nat :=
  let c1_i32_263 : BitVec 32 := 1#32
  let c1_i32_264 : BitVec 32 := 1#32
  let arg15 : BitVec 32 := Scf.iv c1_i32_263 c1_i32_264 k0_t2
  let c1_i32_381 : BitVec 32 := 1#32
  let v413 : BitVec 32 := Scalar.subi arg15 c1_i32_381
  let c256_i32_382 : BitVec 32 := 256#32
  let v414 : BitVec 32 := Scalar.muli v413 c256_i32_382
  let v415 : Index := Scalar.indexCast v414
  let c0_383 : Index := 0#32
  ![v415.toNat, 0]
@[reducible] def k0_t3_loop : Scf.Loop 32 :=
  let c0_i32_275 : BitVec 32 := 0#32
  let c4_i32_276 : BitVec 32 := 4#32
  let v317 : BitVec 32 := Scalar.addi c0_i32_275 c4_i32_276
  let c1_i32_277 : BitVec 32 := 1#32
  ⟨c0_i32_275, v317, c1_i32_277⟩
def k0_off17 (k0_t3 : Fin k0_t3_loop.trips) : Fin 2 → Nat :=
  let c1_i32_350 : BitVec 32 := 1#32
  let c0_i32_275 : BitVec 32 := 0#32
  let c1_i32_277 : BitVec 32 := 1#32
  let arg15 : BitVec 32 := Scf.iv c0_i32_275 c1_i32_277 k0_t3
  ![1, arg15.toNat]
def k0_off18 (k0_t3 : Fin k0_t3_loop.trips) : Fin 3 → Nat :=
  let c1_i32_349 : BitVec 32 := 1#32
  let c0_i32_275 : BitVec 32 := 0#32
  let c1_i32_277 : BitVec 32 := 1#32
  let arg15 : BitVec 32 := Scf.iv c0_i32_275 c1_i32_277 k0_t3
  let c256_i32_341 : BitVec 32 := 256#32
  let v347 : BitVec 32 := Scalar.muli arg15 c256_i32_341
  let c0_i32_354 : BitVec 32 := 0#32
  ![1, v347.toNat, 0]
def k0_off19 (k0_t3 : Fin k0_t3_loop.trips) : Fin 2 → Nat :=
  let c0_i32_275 : BitVec 32 := 0#32
  let c1_i32_277 : BitVec 32 := 1#32
  let arg15 : BitVec 32 := Scf.iv c0_i32_275 c1_i32_277 k0_t3
  let c256_i32_340 : BitVec 32 := 256#32
  let v346 : BitVec 32 := Scalar.muli arg15 c256_i32_340
  let c0_i32_355 : BitVec 32 := 0#32
  ![v346.toNat, 0]
def k0_off20 (k0_t3 : Fin k0_t3_loop.trips) : Fin 3 → Nat :=
  let c1_356 : Index := 1#32
  let c0_i32_275 : BitVec 32 := 0#32
  let c1_i32_277 : BitVec 32 := 1#32
  let arg15 : BitVec 32 := Scf.iv c0_i32_275 c1_i32_277 k0_t3
  let c256_i32_339 : BitVec 32 := 256#32
  let v345 : BitVec 32 := Scalar.muli arg15 c256_i32_339
  let v366 : Index := Scalar.indexCast v345
  let c0_357 : Index := 0#32
  ![1, v366.toNat, 0]
@[reducible] def k0_t4_loop : Scf.Loop 32 :=
  let c0_i32_358 : BitVec 32 := 0#32
  let c4_i32_359 : BitVec 32 := 4#32
  let v370 : BitVec 32 := Scalar.addi c0_i32_358 c4_i32_359
  let c1_i32_360 : BitVec 32 := 1#32
  ⟨c0_i32_358, v370, c1_i32_360⟩
def k0_off21 (k0_t4 : Fin k0_t4_loop.trips) : Fin 2 → Nat :=
  let c0_382 : Index := 0#32
  let c0_i32_358 : BitVec 32 := 0#32
  let c1_i32_360 : BitVec 32 := 1#32
  let arg16 : BitVec 32 := Scf.iv c0_i32_358 c1_i32_360 k0_t4
  let c1024_i32 : BitVec 32 := 1024#32
  let v401 : BitVec 32 := Scalar.muli arg16 c1024_i32
  let v402 : Index := Scalar.indexCast v401
  ![0, v402.toNat]
def k0_off22 (k0_t4 : Fin k0_t4_loop.trips) : Fin 2 → Nat :=
  let c0_i32_358 : BitVec 32 := 0#32
  let c1_i32_360 : BitVec 32 := 1#32
  let arg16 : BitVec 32 := Scf.iv c0_i32_358 c1_i32_360 k0_t4
  let c1024_i32 : BitVec 32 := 1024#32
  let v401 : BitVec 32 := Scalar.muli arg16 c1024_i32
  let v408 : Index := Scalar.indexCast v401
  let c0_384 : Index := 0#32
  ![v408.toNat, 0]
def k0_dev16 (d0 : Dev nD) : Nat :=
  let c0_i32_379 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_366 : BitVec 32 := 1#32
  let v379 : BitVec 32 := Scalar.addi v2 c1_i32_366
  let c1_i32_367 : BitVec 32 := 1#32
  let v380 : BitVec 32 := Scalar.addi v379 c1_i32_367
  let c4_i32_368 : BitVec 32 := 4#32
  let c0_i32_369 : BitVec 32 := 0#32
  let v381 : BitVec 1 := Scalar.cmpi .eq c4_i32_368 c0_i32_369
  let c1_i32_370 : BitVec 32 := 1#32
  let v382 : BitVec 32 := Scalar.select v381 c1_i32_370 c4_i32_368
  let v383 : BitVec 32 := Scalar.remsi v380 v382
  let c0_i32_372 : BitVec 32 := 0#32
  let v385 : BitVec 1 := Scalar.cmpi .slt v383 c0_i32_372
  let c0_i32_373 : BitVec 32 := 0#32
  let v386 : BitVec 1 := Scalar.cmpi .slt v382 c0_i32_373
  let v387 : BitVec 1 := Scalar.xori v385 v386
  let c0_i32_371 : BitVec 32 := 0#32
  let v384 : BitVec 1 := Scalar.cmpi .ne v383 c0_i32_371
  let v388 : BitVec 1 := Scalar.andi v387 v384
  let v389 : BitVec 32 := Scalar.addi v383 v382
  let v390 : BitVec 32 := Scalar.select v388 v389 v383
  let c1_i32_378 : BitVec 32 := 1#32
  let v391 : BitVec 32 := Scalar.muli v390 c1_i32_378
  let v392 : BitVec 32 := Scalar.addi c0_i32_379 v391
  v392.toNat
@[reducible] def k0_t5_loop : Scf.Loop 32 :=
  let c0_i32_279 : BitVec 32 := 0#32
  let c4_i32_280 : BitVec 32 := 4#32
  let v318 : BitVec 32 := Scalar.addi c0_i32_279 c4_i32_280
  let c1_i32_281 : BitVec 32 := 1#32
  ⟨c0_i32_279, v318, c1_i32_281⟩
def k0_off23 (k0_t5 : Fin k0_t5_loop.trips) : Fin 2 → Nat :=
  let c0_i32_350 : BitVec 32 := 0#32
  let c0_i32_279 : BitVec 32 := 0#32
  let c1_i32_281 : BitVec 32 := 1#32
  let arg15 : BitVec 32 := Scf.iv c0_i32_279 c1_i32_281 k0_t5
  ![0, arg15.toNat]
def k0_off24 (k0_t5 : Fin k0_t5_loop.trips) : Fin 3 → Nat :=
  let c0_i32_349 : BitVec 32 := 0#32
  let c0_i32_279 : BitVec 32 := 0#32
  let c1_i32_281 : BitVec 32 := 1#32
  let arg15 : BitVec 32 := Scf.iv c0_i32_279 c1_i32_281 k0_t5
  let c256_i32_341 : BitVec 32 := 256#32
  let v347 : BitVec 32 := Scalar.muli arg15 c256_i32_341
  let c0_i32_354 : BitVec 32 := 0#32
  ![0, v347.toNat, 0]
def k0_off25 (k0_t5 : Fin k0_t5_loop.trips) : Fin 2 → Nat :=
  let c0_i32_279 : BitVec 32 := 0#32
  let c1_i32_281 : BitVec 32 := 1#32
  let arg15 : BitVec 32 := Scf.iv c0_i32_279 c1_i32_281 k0_t5
  let c256_i32_340 : BitVec 32 := 256#32
  let v346 : BitVec 32 := Scalar.muli arg15 c256_i32_340
  let c0_i32_355 : BitVec 32 := 0#32
  ![v346.toNat, 0]
def k0_off26 (k0_t5 : Fin k0_t5_loop.trips) : Fin 3 → Nat :=
  let c0_356 : Index := 0#32
  let c0_i32_279 : BitVec 32 := 0#32
  let c1_i32_281 : BitVec 32 := 1#32
  let arg15 : BitVec 32 := Scf.iv c0_i32_279 c1_i32_281 k0_t5
  let c256_i32_339 : BitVec 32 := 256#32
  let v345 : BitVec 32 := Scalar.muli arg15 c256_i32_339
  let v366 : Index := Scalar.indexCast v345
  let c0_357 : Index := 0#32
  ![0, v366.toNat, 0]
@[reducible] def k0_t6_loop : Scf.Loop 32 :=
  let c0_i32_358 : BitVec 32 := 0#32
  let c4_i32_359 : BitVec 32 := 4#32
  let v370 : BitVec 32 := Scalar.addi c0_i32_358 c4_i32_359
  let c1_i32_360 : BitVec 32 := 1#32
  ⟨c0_i32_358, v370, c1_i32_360⟩
def k0_off27 (k0_t6 : Fin k0_t6_loop.trips) : Fin 2 → Nat :=
  let c0_382 : Index := 0#32
  let c0_i32_358 : BitVec 32 := 0#32
  let c1_i32_360 : BitVec 32 := 1#32
  let arg16 : BitVec 32 := Scf.iv c0_i32_358 c1_i32_360 k0_t6
  let c1024_i32 : BitVec 32 := 1024#32
  let v401 : BitVec 32 := Scalar.muli arg16 c1024_i32
  let v402 : Index := Scalar.indexCast v401
  ![0, v402.toNat]
def k0_off28 (k0_t6 : Fin k0_t6_loop.trips) : Fin 2 → Nat :=
  let c0_i32_358 : BitVec 32 := 0#32
  let c1_i32_360 : BitVec 32 := 1#32
  let arg16 : BitVec 32 := Scf.iv c0_i32_358 c1_i32_360 k0_t6
  let c1024_i32 : BitVec 32 := 1024#32
  let v401 : BitVec 32 := Scalar.muli arg16 c1024_i32
  let v408 : Index := Scalar.indexCast v401
  let c0_384 : Index := 0#32
  ![v408.toNat, 0]
def k0_dev17 (d0 : Dev nD) : Nat :=
  let c0_i32_379 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_366 : BitVec 32 := 0#32
  let v379 : BitVec 32 := Scalar.addi v2 c0_i32_366
  let c1_i32_367 : BitVec 32 := 1#32
  let v380 : BitVec 32 := Scalar.addi v379 c1_i32_367
  let c4_i32_368 : BitVec 32 := 4#32
  let c0_i32_369 : BitVec 32 := 0#32
  let v381 : BitVec 1 := Scalar.cmpi .eq c4_i32_368 c0_i32_369
  let c1_i32_370 : BitVec 32 := 1#32
  let v382 : BitVec 32 := Scalar.select v381 c1_i32_370 c4_i32_368
  let v383 : BitVec 32 := Scalar.remsi v380 v382
  let c0_i32_372 : BitVec 32 := 0#32
  let v385 : BitVec 1 := Scalar.cmpi .slt v383 c0_i32_372
  let c0_i32_373 : BitVec 32 := 0#32
  let v386 : BitVec 1 := Scalar.cmpi .slt v382 c0_i32_373
  let v387 : BitVec 1 := Scalar.xori v385 v386
  let c0_i32_371 : BitVec 32 := 0#32
  let v384 : BitVec 1 := Scalar.cmpi .ne v383 c0_i32_371
  let v388 : BitVec 1 := Scalar.andi v387 v384
  let v389 : BitVec 32 := Scalar.addi v383 v382
  let v390 : BitVec 32 := Scalar.select v388 v389 v383
  let c1_i32_378 : BitVec 32 := 1#32
  let v391 : BitVec 32 := Scalar.muli v390 c1_i32_378
  let v392 : BitVec 32 := Scalar.addi c0_i32_379 v391
  v392.toNat
@[reducible] def k0_t7_loop : Scf.Loop 32 :=
  let c0_i32_283 : BitVec 32 := 0#32
  let c4_i32_284 : BitVec 32 := 4#32
  let v319 : BitVec 32 := Scalar.addi c0_i32_283 c4_i32_284
  let c1_i32_285 : BitVec 32 := 1#32
  ⟨c0_i32_283, v319, c1_i32_285⟩
def k0_off29 (k0_t7 : Fin k0_t7_loop.trips) : Fin 2 → Nat :=
  let c2_i32_350 : BitVec 32 := 2#32
  let c0_i32_283 : BitVec 32 := 0#32
  let c1_i32_285 : BitVec 32 := 1#32
  let arg15 : BitVec 32 := Scf.iv c0_i32_283 c1_i32_285 k0_t7
  ![2, arg15.toNat]
def k0_off30 (k0_t7 : Fin k0_t7_loop.trips) : Fin 3 → Nat :=
  let c2_i32_349 : BitVec 32 := 2#32
  let c0_i32_283 : BitVec 32 := 0#32
  let c1_i32_285 : BitVec 32 := 1#32
  let arg15 : BitVec 32 := Scf.iv c0_i32_283 c1_i32_285 k0_t7
  let c256_i32_341 : BitVec 32 := 256#32
  let v347 : BitVec 32 := Scalar.muli arg15 c256_i32_341
  let c0_i32_354 : BitVec 32 := 0#32
  ![2, v347.toNat, 0]
def k0_off31 (k0_t7 : Fin k0_t7_loop.trips) : Fin 2 → Nat :=
  let c0_i32_283 : BitVec 32 := 0#32
  let c1_i32_285 : BitVec 32 := 1#32
  let arg15 : BitVec 32 := Scf.iv c0_i32_283 c1_i32_285 k0_t7
  let c256_i32_340 : BitVec 32 := 256#32
  let v346 : BitVec 32 := Scalar.muli arg15 c256_i32_340
  let c0_i32_355 : BitVec 32 := 0#32
  ![v346.toNat, 0]
def k0_off32 (k0_t7 : Fin k0_t7_loop.trips) : Fin 3 → Nat :=
  let c2_356 : Index := 2#32
  let c0_i32_283 : BitVec 32 := 0#32
  let c1_i32_285 : BitVec 32 := 1#32
  let arg15 : BitVec 32 := Scf.iv c0_i32_283 c1_i32_285 k0_t7
  let c256_i32_339 : BitVec 32 := 256#32
  let v345 : BitVec 32 := Scalar.muli arg15 c256_i32_339
  let v366 : Index := Scalar.indexCast v345
  let c0_357 : Index := 0#32
  ![2, v366.toNat, 0]
@[reducible] def k0_t8_loop : Scf.Loop 32 :=
  let c0_i32_358 : BitVec 32 := 0#32
  let c4_i32_359 : BitVec 32 := 4#32
  let v370 : BitVec 32 := Scalar.addi c0_i32_358 c4_i32_359
  let c1_i32_360 : BitVec 32 := 1#32
  ⟨c0_i32_358, v370, c1_i32_360⟩
def k0_off33 (k0_t8 : Fin k0_t8_loop.trips) : Fin 2 → Nat :=
  let c0_382 : Index := 0#32
  let c0_i32_358 : BitVec 32 := 0#32
  let c1_i32_360 : BitVec 32 := 1#32
  let arg16 : BitVec 32 := Scf.iv c0_i32_358 c1_i32_360 k0_t8
  let c1024_i32 : BitVec 32 := 1024#32
  let v401 : BitVec 32 := Scalar.muli arg16 c1024_i32
  let v402 : Index := Scalar.indexCast v401
  ![0, v402.toNat]
def k0_off34 (k0_t8 : Fin k0_t8_loop.trips) : Fin 2 → Nat :=
  let c0_i32_358 : BitVec 32 := 0#32
  let c1_i32_360 : BitVec 32 := 1#32
  let arg16 : BitVec 32 := Scf.iv c0_i32_358 c1_i32_360 k0_t8
  let c1024_i32 : BitVec 32 := 1024#32
  let v401 : BitVec 32 := Scalar.muli arg16 c1024_i32
  let v408 : Index := Scalar.indexCast v401
  let c0_384 : Index := 0#32
  ![v408.toNat, 0]
def k0_dev18 (d0 : Dev nD) : Nat :=
  let c0_i32_379 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_366 : BitVec 32 := 2#32
  let v379 : BitVec 32 := Scalar.addi v2 c2_i32_366
  let c1_i32_367 : BitVec 32 := 1#32
  let v380 : BitVec 32 := Scalar.addi v379 c1_i32_367
  let c4_i32_368 : BitVec 32 := 4#32
  let c0_i32_369 : BitVec 32 := 0#32
  let v381 : BitVec 1 := Scalar.cmpi .eq c4_i32_368 c0_i32_369
  let c1_i32_370 : BitVec 32 := 1#32
  let v382 : BitVec 32 := Scalar.select v381 c1_i32_370 c4_i32_368
  let v383 : BitVec 32 := Scalar.remsi v380 v382
  let c0_i32_372 : BitVec 32 := 0#32
  let v385 : BitVec 1 := Scalar.cmpi .slt v383 c0_i32_372
  let c0_i32_373 : BitVec 32 := 0#32
  let v386 : BitVec 1 := Scalar.cmpi .slt v382 c0_i32_373
  let v387 : BitVec 1 := Scalar.xori v385 v386
  let c0_i32_371 : BitVec 32 := 0#32
  let v384 : BitVec 1 := Scalar.cmpi .ne v383 c0_i32_371
  let v388 : BitVec 1 := Scalar.andi v387 v384
  let v389 : BitVec 32 := Scalar.addi v383 v382
  let v390 : BitVec 32 := Scalar.select v388 v389 v383
  let c1_i32_378 : BitVec 32 := 1#32
  let v391 : BitVec 32 := Scalar.muli v390 c1_i32_378
  let v392 : BitVec 32 := Scalar.addi c0_i32_379 v391
  v392.toNat
@[reducible] def k0_t9_loop : Scf.Loop 32 :=
  let c0_i32_287 : BitVec 32 := 0#32
  let c4_i32_288 : BitVec 32 := 4#32
  let v320 : BitVec 32 := Scalar.addi c0_i32_287 c4_i32_288
  let c1_i32_289 : BitVec 32 := 1#32
  ⟨c0_i32_287, v320, c1_i32_289⟩
def k0_off35 (k0_t9 : Fin k0_t9_loop.trips) : Fin 2 → Nat :=
  let c0_i32_287 : BitVec 32 := 0#32
  let c1_i32_289 : BitVec 32 := 1#32
  let arg15 : BitVec 32 := Scf.iv c0_i32_287 c1_i32_289 k0_t9
  let c256_i32_339 : BitVec 32 := 256#32
  let v345 : BitVec 32 := Scalar.muli arg15 c256_i32_339
  let v346 : Index := Scalar.indexCast v345
  let c0_340 : Index := 0#32
  ![v346.toNat, 0]
@[reducible] def k0_t10_loop : Scf.Loop 32 :=
  let c0_i32_341 : BitVec 32 := 0#32
  let c4_i32_342 : BitVec 32 := 4#32
  let v350 : BitVec 32 := Scalar.addi c0_i32_341 c4_i32_342
  let c1_i32_343 : BitVec 32 := 1#32
  ⟨c0_i32_341, v350, c1_i32_343⟩
def k0_off36 (k0_t10 : Fin k0_t10_loop.trips) : Fin 2 → Nat :=
  let c0_346 : Index := 0#32
  let c0_i32_341 : BitVec 32 := 0#32
  let c1_i32_343 : BitVec 32 := 1#32
  let arg16 : BitVec 32 := Scf.iv c0_i32_341 c1_i32_343 k0_t10
  let c1024_i32 : BitVec 32 := 1024#32
  let v354 : BitVec 32 := Scalar.muli arg16 c1024_i32
  let v355 : Index := Scalar.indexCast v354
  ![0, v355.toNat]
def k0_off37 (k0_t10 : Fin k0_t10_loop.trips) : Fin 2 → Nat :=
  let c0_i32_341 : BitVec 32 := 0#32
  let c1_i32_343 : BitVec 32 := 1#32
  let arg16 : BitVec 32 := Scf.iv c0_i32_341 c1_i32_343 k0_t10
  let c1024_i32 : BitVec 32 := 1024#32
  let v354 : BitVec 32 := Scalar.muli arg16 c1024_i32
  let v361 : Index := Scalar.indexCast v354
  let c0_348 : Index := 0#32
  ![v361.toNat, 0]
@[reducible] def k0_t11_loop : Scf.Loop 32 :=
  let c0_i32_291 : BitVec 32 := 0#32
  let c4_i32_292 : BitVec 32 := 4#32
  let v321 : BitVec 32 := Scalar.addi c0_i32_291 c4_i32_292
  let c1_i32_293 : BitVec 32 := 1#32
  ⟨c0_i32_291, v321, c1_i32_293⟩
def k0_off38 (k0_t11 : Fin k0_t11_loop.trips) : Fin 2 → Nat :=
  let c0_i32_351 : BitVec 32 := 0#32
  let c0_i32_291 : BitVec 32 := 0#32
  let c1_i32_293 : BitVec 32 := 1#32
  let arg15 : BitVec 32 := Scf.iv c0_i32_291 c1_i32_293 k0_t11
  ![0, arg15.toNat]
def k0_off39 (k0_t11 : Fin k0_t11_loop.trips) : Fin 3 → Nat :=
  let c0_i32_350 : BitVec 32 := 0#32
  let c0_i32_291 : BitVec 32 := 0#32
  let c1_i32_293 : BitVec 32 := 1#32
  let arg15 : BitVec 32 := Scf.iv c0_i32_291 c1_i32_293 k0_t11
  let c256_i32_340 : BitVec 32 := 256#32
  let v346 : BitVec 32 := Scalar.muli arg15 c256_i32_340
  let c0_i32_355 : BitVec 32 := 0#32
  ![0, v346.toNat, 0]
@[reducible] def k0_t12_loop : Scf.Loop 32 :=
  let c0_i32_295 : BitVec 32 := 0#32
  let c4_i32_296 : BitVec 32 := 4#32
  let v322 : BitVec 32 := Scalar.addi c0_i32_295 c4_i32_296
  let c1_i32_297 : BitVec 32 := 1#32
  ⟨c0_i32_295, v322, c1_i32_297⟩
def k0_off40 (k0_t12 : Fin k0_t12_loop.trips) : Fin 2 → Nat :=
  let c1_i32_351 : BitVec 32 := 1#32
  let c0_i32_295 : BitVec 32 := 0#32
  let c1_i32_297 : BitVec 32 := 1#32
  let arg15 : BitVec 32 := Scf.iv c0_i32_295 c1_i32_297 k0_t12
  ![1, arg15.toNat]
def k0_off41 (k0_t12 : Fin k0_t12_loop.trips) : Fin 3 → Nat :=
  let c1_i32_350 : BitVec 32 := 1#32
  let c0_i32_295 : BitVec 32 := 0#32
  let c1_i32_297 : BitVec 32 := 1#32
  let arg15 : BitVec 32 := Scf.iv c0_i32_295 c1_i32_297 k0_t12
  let c256_i32_340 : BitVec 32 := 256#32
  let v346 : BitVec 32 := Scalar.muli arg15 c256_i32_340
  let c0_i32_355 : BitVec 32 := 0#32
  ![1, v346.toNat, 0]
@[reducible] def k0_t13_loop : Scf.Loop 32 :=
  let c0_i32_299 : BitVec 32 := 0#32
  let c4_i32_300 : BitVec 32 := 4#32
  let v323 : BitVec 32 := Scalar.addi c0_i32_299 c4_i32_300
  let c1_i32_301 : BitVec 32 := 1#32
  ⟨c0_i32_299, v323, c1_i32_301⟩
def k0_off42 (k0_t13 : Fin k0_t13_loop.trips) : Fin 2 → Nat :=
  let c2_i32_351 : BitVec 32 := 2#32
  let c0_i32_299 : BitVec 32 := 0#32
  let c1_i32_301 : BitVec 32 := 1#32
  let arg15 : BitVec 32 := Scf.iv c0_i32_299 c1_i32_301 k0_t13
  ![2, arg15.toNat]
def k0_off43 (k0_t13 : Fin k0_t13_loop.trips) : Fin 3 → Nat :=
  let c2_i32_350 : BitVec 32 := 2#32
  let c0_i32_299 : BitVec 32 := 0#32
  let c1_i32_301 : BitVec 32 := 1#32
  let arg15 : BitVec 32 := Scf.iv c0_i32_299 c1_i32_301 k0_t13
  let c256_i32_340 : BitVec 32 := 256#32
  let v346 : BitVec 32 := Scalar.muli arg15 c256_i32_340
  let c0_i32_355 : BitVec 32 := 0#32
  ![2, v346.toNat, 0]
@[reducible] def k0_t14_loop : Scf.Loop 32 :=
  let c0_i32_315 : BitVec 32 := 0#32
  let c4_i32_316 : BitVec 32 := 4#32
  let v339 : BitVec 32 := Scalar.addi c0_i32_315 c4_i32_316
  let c1_i32_317 : BitVec 32 := 1#32
  ⟨c0_i32_315, v339, c1_i32_317⟩
def k0_off44 (k0_t14 : Fin k0_t14_loop.trips) : Fin 2 → Nat :=
  let c0_i32_349 : BitVec 32 := 0#32
  let c0_i32_315 : BitVec 32 := 0#32
  let c1_i32_317 : BitVec 32 := 1#32
  let arg15 : BitVec 32 := Scf.iv c0_i32_315 c1_i32_317 k0_t14
  ![0, arg15.toNat]
def k0_off45 (k0_t14 : Fin k0_t14_loop.trips) : Fin 2 → Nat :=
  let c0_i32_315 : BitVec 32 := 0#32
  let c1_i32_317 : BitVec 32 := 1#32
  let arg15 : BitVec 32 := Scf.iv c0_i32_315 c1_i32_317 k0_t14
  let c256_i32_339 : BitVec 32 := 256#32
  let v345 : BitVec 32 := Scalar.muli arg15 c256_i32_339
  let c0_i32_352 : BitVec 32 := 0#32
  ![v345.toNat, 0]
def k0_off46 (k0_t14 : Fin k0_t14_loop.trips) : Fin 3 → Nat :=
  let c2_i32_348 : BitVec 32 := 2#32
  let c0_i32_315 : BitVec 32 := 0#32
  let c1_i32_317 : BitVec 32 := 1#32
  let arg15 : BitVec 32 := Scf.iv c0_i32_315 c1_i32_317 k0_t14
  let c256_i32_340 : BitVec 32 := 256#32
  let v346 : BitVec 32 := Scalar.muli arg15 c256_i32_340
  let c0_i32_353 : BitVec 32 := 0#32
  ![2, v346.toNat, 0]
@[reducible] def k0_t15_loop : Scf.Loop 32 :=
  let c0_i32_319 : BitVec 32 := 0#32
  let c4_i32_320 : BitVec 32 := 4#32
  let v340 : BitVec 32 := Scalar.addi c0_i32_319 c4_i32_320
  let c1_i32_321 : BitVec 32 := 1#32
  ⟨c0_i32_319, v340, c1_i32_321⟩
def k0_off47 (k0_t15 : Fin k0_t15_loop.trips) : Fin 2 → Nat :=
  let c1_i32_349 : BitVec 32 := 1#32
  let c0_i32_319 : BitVec 32 := 0#32
  let c1_i32_321 : BitVec 32 := 1#32
  let arg15 : BitVec 32 := Scf.iv c0_i32_319 c1_i32_321 k0_t15
  ![1, arg15.toNat]
def k0_off48 (k0_t15 : Fin k0_t15_loop.trips) : Fin 2 → Nat :=
  let c0_i32_319 : BitVec 32 := 0#32
  let c1_i32_321 : BitVec 32 := 1#32
  let arg15 : BitVec 32 := Scf.iv c0_i32_319 c1_i32_321 k0_t15
  let c256_i32_339 : BitVec 32 := 256#32
  let v345 : BitVec 32 := Scalar.muli arg15 c256_i32_339
  let c0_i32_352 : BitVec 32 := 0#32
  ![v345.toNat, 0]
def k0_off49 (k0_t15 : Fin k0_t15_loop.trips) : Fin 3 → Nat :=
  let c1_i32_348 : BitVec 32 := 1#32
  let c0_i32_319 : BitVec 32 := 0#32
  let c1_i32_321 : BitVec 32 := 1#32
  let arg15 : BitVec 32 := Scf.iv c0_i32_319 c1_i32_321 k0_t15
  let c256_i32_340 : BitVec 32 := 256#32
  let v346 : BitVec 32 := Scalar.muli arg15 c256_i32_340
  let c0_i32_353 : BitVec 32 := 0#32
  ![1, v346.toNat, 0]
@[reducible] def k0_t16_loop : Scf.Loop 32 :=
  let c0_i32_323 : BitVec 32 := 0#32
  let c4_i32_324 : BitVec 32 := 4#32
  let v341 : BitVec 32 := Scalar.addi c0_i32_323 c4_i32_324
  let c1_i32_325 : BitVec 32 := 1#32
  ⟨c0_i32_323, v341, c1_i32_325⟩
def k0_off50 (k0_t16 : Fin k0_t16_loop.trips) : Fin 2 → Nat :=
  let c2_i32_349 : BitVec 32 := 2#32
  let c0_i32_323 : BitVec 32 := 0#32
  let c1_i32_325 : BitVec 32 := 1#32
  let arg15 : BitVec 32 := Scf.iv c0_i32_323 c1_i32_325 k0_t16
  ![2, arg15.toNat]
def k0_off51 (k0_t16 : Fin k0_t16_loop.trips) : Fin 2 → Nat :=
  let c0_i32_323 : BitVec 32 := 0#32
  let c1_i32_325 : BitVec 32 := 1#32
  let arg15 : BitVec 32 := Scf.iv c0_i32_323 c1_i32_325 k0_t16
  let c256_i32_339 : BitVec 32 := 256#32
  let v345 : BitVec 32 := Scalar.muli arg15 c256_i32_339
  let c0_i32_352 : BitVec 32 := 0#32
  ![v345.toNat, 0]
def k0_off52 (k0_t16 : Fin k0_t16_loop.trips) : Fin 3 → Nat :=
  let c0_i32_348 : BitVec 32 := 0#32
  let c0_i32_323 : BitVec 32 := 0#32
  let c1_i32_325 : BitVec 32 := 1#32
  let arg15 : BitVec 32 := Scf.iv c0_i32_323 c1_i32_325 k0_t16
  let c256_i32_340 : BitVec 32 := 256#32
  let v346 : BitVec 32 := Scalar.muli arg15 c256_i32_340
  let c0_i32_353 : BitVec 32 := 0#32
  ![0, v346.toNat, 0]
@[reducible] def k0_t17_loop : Scf.Loop 32 :=
  let c0_i32_327 : BitVec 32 := 0#32
  let c4_i32_328 : BitVec 32 := 4#32
  let v342 : BitVec 32 := Scalar.addi c0_i32_327 c4_i32_328
  let c1_i32_329 : BitVec 32 := 1#32
  ⟨c0_i32_327, v342, c1_i32_329⟩
def k0_off53 (k0_t17 : Fin k0_t17_loop.trips) : Fin 2 → Nat :=
  let c0_i32_351 : BitVec 32 := 0#32
  let c0_i32_327 : BitVec 32 := 0#32
  let c1_i32_329 : BitVec 32 := 1#32
  let arg15 : BitVec 32 := Scf.iv c0_i32_327 c1_i32_329 k0_t17
  ![0, arg15.toNat]
def k0_off54 (k0_t17 : Fin k0_t17_loop.trips) : Fin 3 → Nat :=
  let c0_i32_350 : BitVec 32 := 0#32
  let c0_i32_327 : BitVec 32 := 0#32
  let c1_i32_329 : BitVec 32 := 1#32
  let arg15 : BitVec 32 := Scf.iv c0_i32_327 c1_i32_329 k0_t17
  let c256_i32_339 : BitVec 32 := 256#32
  let v345 : BitVec 32 := Scalar.muli arg15 c256_i32_339
  let c0_i32_354 : BitVec 32 := 0#32
  ![0, v345.toNat, 0]
@[reducible] def k0_t18_loop : Scf.Loop 32 :=
  let c0_i32_331 : BitVec 32 := 0#32
  let c4_i32_332 : BitVec 32 := 4#32
  let v343 : BitVec 32 := Scalar.addi c0_i32_331 c4_i32_332
  let c1_i32_333 : BitVec 32 := 1#32
  ⟨c0_i32_331, v343, c1_i32_333⟩
def k0_off55 (k0_t18 : Fin k0_t18_loop.trips) : Fin 2 → Nat :=
  let c1_i32_351 : BitVec 32 := 1#32
  let c0_i32_331 : BitVec 32 := 0#32
  let c1_i32_333 : BitVec 32 := 1#32
  let arg15 : BitVec 32 := Scf.iv c0_i32_331 c1_i32_333 k0_t18
  ![1, arg15.toNat]
def k0_off56 (k0_t18 : Fin k0_t18_loop.trips) : Fin 3 → Nat :=
  let c1_i32_350 : BitVec 32 := 1#32
  let c0_i32_331 : BitVec 32 := 0#32
  let c1_i32_333 : BitVec 32 := 1#32
  let arg15 : BitVec 32 := Scf.iv c0_i32_331 c1_i32_333 k0_t18
  let c256_i32_339 : BitVec 32 := 256#32
  let v345 : BitVec 32 := Scalar.muli arg15 c256_i32_339
  let c0_i32_354 : BitVec 32 := 0#32
  ![1, v345.toNat, 0]
@[reducible] def k0_t19_loop : Scf.Loop 32 :=
  let c0_i32_335 : BitVec 32 := 0#32
  let c4_i32_336 : BitVec 32 := 4#32
  let v344 : BitVec 32 := Scalar.addi c0_i32_335 c4_i32_336
  let c1_i32_337 : BitVec 32 := 1#32
  ⟨c0_i32_335, v344, c1_i32_337⟩
def k0_off57 (k0_t19 : Fin k0_t19_loop.trips) : Fin 2 → Nat :=
  let c2_i32_351 : BitVec 32 := 2#32
  let c0_i32_335 : BitVec 32 := 0#32
  let c1_i32_337 : BitVec 32 := 1#32
  let arg15 : BitVec 32 := Scf.iv c0_i32_335 c1_i32_337 k0_t19
  ![2, arg15.toNat]
def k0_off58 (k0_t19 : Fin k0_t19_loop.trips) : Fin 3 → Nat :=
  let c2_i32_350 : BitVec 32 := 2#32
  let c0_i32_335 : BitVec 32 := 0#32
  let c1_i32_337 : BitVec 32 := 1#32
  let arg15 : BitVec 32 := Scf.iv c0_i32_335 c1_i32_337 k0_t19
  let c256_i32_339 : BitVec 32 := 256#32
  let v345 : BitVec 32 := Scalar.muli arg15 c256_i32_339
  let c0_i32_354 : BitVec 32 := 0#32
  ![2, v345.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x1024 : Shape := ⟨2, ![4096, 1024]⟩
abbrev S1024x16384 : Shape := ⟨2, ![1024, 16384]⟩
abbrev S16384x1024 : Shape := ⟨2, ![16384, 1024]⟩
abbrev S4096x16384 : Shape := ⟨2, ![4096, 16384]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x16384, .f32⟩
  | .hbm, ⟨2, _⟩ => ⟨S16384x1024, .f32⟩
  | .hbm, ⟨3, _⟩ => ⟨S4096x1024, .f32⟩
  | .hbm, ⟨4, _⟩ => ⟨S4096x16384, .f32⟩
  | .hbm, ⟨5, _⟩ => ⟨S_, .i32⟩
  | .hbm, ⟨6, _⟩ => ⟨S_, .i32⟩
  | .hbm, ⟨7, _⟩ => ⟨S_, .f32⟩
  | .hbm, ⟨8, _⟩ => ⟨S4096x16384, .f32⟩
  | .hbm, ⟨9, _⟩ => ⟨S4096x16384, .f32⟩
  | .hbm, ⟨10, _⟩ => ⟨S_, .f32⟩
  | .hbm, ⟨11, _⟩ => ⟨S4096x16384, .f32⟩
  | .hbm, ⟨12, _⟩ => ⟨S4096x16384, .f32⟩
  | .hbm, ⟨13, _⟩ => ⟨S4096x16384, .f32⟩
  | .hbm, ⟨14, _⟩ => ⟨S4096x16384, .f32⟩
  | .hbm, ⟨15, _⟩ => ⟨S_, .f32⟩
  | .hbm, ⟨16, _⟩ => ⟨S4096x16384, .f32⟩
  | .hbm, ⟨17, _⟩ => ⟨S4096x16384, .f32⟩
  | .hbm, ⟨18, _⟩ => ⟨S4096x16384, .f32⟩
  | .hbm, ⟨19, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== UnclippedIdeal.lean ====
abbrev S4096x1024 : Shape := ⟨2, ![4096, 1024]⟩
abbrev S1024x16384 : Shape := ⟨2, ![1024, 16384]⟩
abbrev S16384x1024 : Shape := ⟨2, ![16384, 1024]⟩
abbrev S4096x16384 : Shape := ⟨2, ![4096, 16384]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x16384, .f32⟩
  | .hbm, ⟨2, _⟩ => ⟨S16384x1024, .f32⟩
  | .hbm, ⟨3, _⟩ => ⟨S4096x1024, .f32⟩
  | .hbm, ⟨4, _⟩ => ⟨S4096x16384, .f32⟩
  | .hbm, ⟨5, _⟩ => ⟨S4096x16384, .f32⟩
  | .hbm, ⟨6, _⟩ => ⟨S4096x16384, .f32⟩
  | .hbm, ⟨7, _⟩ => ⟨S_, .f32⟩
  | .hbm, ⟨8, _⟩ => ⟨S4096x16384, .f32⟩
  | .hbm, ⟨9, _⟩ => ⟨S4096x16384, .f32⟩
  | .hbm, ⟨10, _⟩ => ⟨S4096x16384, .f32⟩
  | .hbm, ⟨11, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Protocol.lean ====
/-
The cross-device protocol of the kernel: the peers, the tiles, the semaphore cells, what each landing hands over.

Four devices. Device `c` reaches the three others as `pl s c = c + s + 1`, `s = 0, 1, 2`; seen from the peer `pl s c`
the device `c` is the peer number `rev s = 2 - s`.

* Barrier: `c` signals each peer once and waits for three. The signal that `c` receives from its peer `pl d c` hands over
  the landing buffers that `c` will write on that peer: slot `rev d` of the gathered inputs and slot `d` of the
  partial results.
* Gather: `c` copies row tile `t` of its input into slot `rev s` of the gathered inputs of `pl s c`. The landing hands the
  receiver the tile holding the sender's rows; the send cell hands back the share of the input that was read.
* Scatter: `c` replaces the rows gathered in slot `s` by its partial result for those rows and copies them to slot `s`
  of the partial results of `pl s c`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

noncomputable section

namespace Cert.AggRun

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the pipeline's copy, the protocol's rounds, the counters of the local copies -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER (F := F)).LandsIn (upEmb : UEmb _ (MT nD τ sig Unit (Elt F) ℕ UU ℕ)) := by
  unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-! ## The peers -/

set_option backward.proofsInPublic true in
/-- The peer number `s` of device `c`. -/
def pl (s : Fin 3) (c : Dev nD) : Dev nD := ⟨(c.val + s.val + 1) % 4, Nat.mod_lt _ (by decide)⟩
set_option backward.proofsInPublic true in
/-- The number under which the peer `pl s c` sees `c`. -/
def rev (s : Fin 3) : Fin 3 := ⟨2 - s.val, by omega⟩

theorem rev_rev (s : Fin 3) : rev (rev s) = s := by revert s; decide
theorem pl_rev_pl (s : Fin 3) (c : Dev nD) : pl (rev s) (pl s c) = c := by revert s c; decide
theorem pl_pl_rev (s : Fin 3) (c : Dev nD) : pl s (pl (rev s) c) = c := by revert s c; decide

/-- Going to the peer number `s` is a rearrangement of the devices. -/
def plE (s : Fin 3) : Dev nD ≃ Dev nD := ⟨pl s, pl (rev s), pl_rev_pl s, pl_pl_rev s⟩

/-! ## The memrefs and their tiles -/

abbrev xM : Memref sig .tc .vmem S1024x1024 .bf16 := Memref.whole cc0_stg0_0
abbrev oM : Memref sig .tc .vmem S1024x1024 .f32 := Memref.whole cc0_stg1_0
abbrev gM : Memref sig .tc .vmem S3x1024x1024 .bf16 := Memref.whole cc0_scratch0
abbrev pM : Memref sig .tc .vmem S3x1024x1024 .bf16 := Memref.whole cc0_scratch1
abbrev aM : Memref sig .tc .vmem S1024x4096 .bf16 := Memref.whole cc0_scratch2
abbrev bM : Memref sig .tc .vmem S4096x1024 .bf16 := Memref.whole cc0_scratch3
abbrev uM : Memref sig .tc .vmem S2x128x4096 .f32 := Memref.whole cc0_scratch4
abbrev vM : Memref sig .tc .vmem S2x256x1024 .f32 := Memref.whole cc0_scratch5
abbrev w1M : Memref sig .tc .hbm S1024x4096 .f32 := Memref.whole main_arg1
abbrev w2M : Memref sig .tc .hbm S4096x1024 .f32 := Memref.whole main_arg2

theorem inb_slot (s : Fin 3) (t : Fin 4) : ∀ a, (![s.val, 256 * t.val, 0] : Fin 3 → ℕ) a + S1x256x1024.size a ≤ S3x1024x1024.size a := by
  revert s t; decide
theorem inb_row (t : Fin 4) : ∀ a, (![256 * t.val, 0] : Fin 2 → ℕ) a + S256x1024.size a ≤ S1024x1024.size a := by
  revert t; decide
theorem inb_sem (s : Fin 3) (t : Fin 4) : ∀ a, (![s.val, t.val] : Fin 2 → ℕ) a + S1x1.size a ≤ S3x4.size a := by
  revert s t; decide

/-- Row tile `t` of slot `s`, as a rectangle. -/
abbrev slotR (s : Fin 3) (t : Fin 4) : Rect S3x1024x1024 :=
  Rect.unit (s := S3x1024x1024) ![s.val, 256 * t.val, 0] S1x256x1024.size (inb_slot s t)
/-- Row tile `t` of a whole block, as a rectangle. -/
abbrev rowR (t : Fin 4) : Rect S1024x1024 := Rect.unit (s := S1024x1024) ![256 * t.val, 0] S256x1024.size (inb_row t)

/-- Row tile `t` of slot `s` of the gathered inputs, of the partial results; row tile `t` of the input. -/
abbrev gT (s : Fin 3) (t : Fin 4) : Memref sig .tc .vmem S256x1024 .bf16 :=
  (gM.slice (slotR s t) (fun _ => rfl)).squeeze S256x1024 squeezes_S1x256x1024_S256x1024
abbrev pT (s : Fin 3) (t : Fin 4) : Memref sig .tc .vmem S256x1024 .bf16 :=
  (pM.slice (slotR s t) (fun _ => rfl)).squeeze S256x1024 squeezes_S1x256x1024_S256x1024
abbrev xT (t : Fin 4) : Memref sig .tc .vmem S256x1024 .bf16 := xM.slice (rowR t) (fun _ => rfl)

/-! ## The semaphores -/

/-- The runtime's barrier semaphore. -/
abbrev barS : Sem sig := (SemArray.scalar (sig.barrier 0 rfl) : Sems sig S_).sem

/-- The DMA semaphore of stage `k` (0 gather send, 1 gather landing, 2 scatter send, 3 scatter landing), slot `s`,
    tile `t`. -/
def dsem (k : Fin 4) (s : Fin 3) (t : Fin 4) : DmaSem sig :=
  ⟨2 + 12 * k.val + 4 * s.val + t.val, by have : sig.nDmaSem = 52 := rfl; omega⟩

theorem semAt0 (s : Fin 3) (t : Fin 4) (h) : ((cc0_scratch6.slice (Rect.unit (s := S3x4) ![s.val, t.val] S1x1.size h)).squeeze S_ squeezes_S1x1_S_).sem = dsem 0 s t := by
  revert s t; decide
theorem semAt1 (s : Fin 3) (t : Fin 4) (h) : ((cc0_scratch7.slice (Rect.unit (s := S3x4) ![s.val, t.val] S1x1.size h)).squeeze S_ squeezes_S1x1_S_).sem = dsem 1 s t := by
  revert s t; decide
theorem semAt2 (s : Fin 3) (t : Fin 4) (h) : ((cc0_scratch8.slice (Rect.unit (s := S3x4) ![s.val, t.val] S1x1.size h)).squeeze S_ squeezes_S1x1_S_).sem = dsem 2 s t := by
  revert s t; decide
theorem semAt3 (s : Fin 3) (t : Fin 4) (h) : ((cc0_scratch9.slice (Rect.unit (s := S3x4) ![s.val, t.val] S1x1.size h)).squeeze S_ squeezes_S1x1_S_).sem = dsem 3 s t := by
  revert s t; decide

/-- The two semaphores of the local copies of the weights. -/
def wsem (p : Fin 2) : DmaSem sig := ⟨50 + p.val, by have : sig.nDmaSem = 52 := rfl; omega⟩

abbrev barCell (c : Dev nD) : GSem nD τ sig := ((c : Thread nD τ), .reg barS)
abbrev dCell (k : Fin 4) (s : Fin 3) (t : Fin 4) (c : Dev nD) : GSem nD τ sig := ((c : Thread nD τ), .dma (dsem k s t))

/-- The credit of one tile copy. -/
def N : ℕ := (gT 0 0).view.dmaCredit
theorem N_pos : 0 < N := View.dmaCredit_pos _ (by decide)
theorem credit_gT (s : Fin 3) (t : Fin 4) : (gT s t).view.dmaCredit = N := rfl
theorem credit_pT (s : Fin 3) (t : Fin 4) : (pT s t).view.dmaCredit = N := rfl
theorem credit_xT (t : Fin 4) : (xT t).view.dmaCredit = N := rfl

/-! ## The contents -/

/-- Device `c`'s block of the input, as staged. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s weights, rounded to the storage format of the resident copies. -/
def w1C (c : Dev nD) : FVec F S1024x4096 .bf16 :=
  truncf .bf16 ((m ((c : Thread nD τ).loc main_arg1)) : FVec F S1024x4096 .f32) bitsLt_bf16_f32
def w2C (c : Dev nD) : FVec F S4096x1024 .bf16 :=
  truncf .bf16 ((m ((c : Thread nD τ).loc main_arg2)) : FVec F S4096x1024 .f32) bitsLt_bf16_f32

/-- Column slab `n` of the first weights, row slab `n` of the second. -/
def w1s (c : Dev nD) (n : ℕ) : FVec F S1024x1024 .bf16 :=
  fun j => w1C m c (ix2 (j 0) ⟨(1024 * n + (j 1).val) % 4096, Nat.mod_lt _ (by decide)⟩)
def w2s (c : Dev nD) (n : ℕ) : FVec F S1024x1024 .bf16 :=
  fun j => w2C m c (ix2 ⟨(1024 * n + (j 0).val) % 4096, Nat.mod_lt _ (by decide)⟩ (j 1))

/-- The sum over the first `n` slabs of the hidden dimension, for the rows `x` and the weights of device `c`. -/
def gacc (x : FVec F S256x1024 .bf16) (c : Dev nD) : ℕ → FVec F S256x1024 .f32
  | 0 => k0_pay16
  | n + 1 => k0_pay17 x (gacc x c n) (w1s m c n) (w2s m c n)

/-- Row tile `t` of device `p`'s input. -/
def xTile (p : Dev nD) (t : ℕ) : FVec F S256x1024 .bf16 :=
  fun j => xstg m ρ p (ix2 ⟨(256 * t + (j 0).val) % 1024, Nat.mod_lt _ (by decide)⟩ (j 1))

/-- The partial result of device `c` for row tile `t` of device `p`. -/
def gemmT (c p : Dev nD) (t : ℕ) : FVec F S256x1024 .f32 := gacc m (xTile m ρ p t) c 4

/-- The gathered inputs on device `c`: slot `s` holds the rows of `pl s c`. -/
def xgC (c : Dev nD) : (cc0_scratch0 : Ref sig .tc).ty.Contents (Elt F) :=
  fun i => xstg m ρ (pl (i 0) c) (ix2 (i 1) (i 2))
/-- The same buffer after the computation: slot `s` holds device `c`'s partial results for the rows of `pl s c`. -/
def pC (c : Dev nD) : (cc0_scratch0 : Ref sig .tc).ty.Contents (Elt F) :=
  fun i => (truncf .bf16 (gemmT m ρ c (pl (i 0) c) ((i 1).val / 256)) bitsLt_bf16_f32 : FVec F S256x1024 .bf16)
    (ix2 ⟨(i 1).val % 256, Nat.mod_lt _ (by decide)⟩ (i 2))
/-- The received partial results on device `c`: slot `s` comes from the device whose peer number `s` is `c`. -/
def prC (c : Dev nD) : (cc0_scratch1 : Ref sig .tc).ty.Contents (Elt F) :=
  fun i => pC m ρ (pl (rev (i 0)) c) i
/-- Device `c`'s partial result for its own rows. -/
def ownC (c : Dev nD) : (cc0_stg1_0 : Ref sig .tc).ty.Contents (Elt F) :=
  fun i => gemmT m ρ c c ((i 0).val / 256) (ix2 ⟨(i 0).val % 256, Nat.mod_lt _ (by decide)⟩ (i 1))
/-- Slot `s` of the received partial results. -/
def prSlot (c : Dev nD) (s : Fin 3) : FVec F S1x1024x1024 .bf16 := fun j => prC m ρ c (ix3 s (j 1) (j 2))
/-- The kernel's result on device `c`. -/
def outC (c : Dev nD) : (cc0_stg1_0 : Ref sig .tc).ty.Contents (Elt F) :=
  k0_pay18 (ownC m ρ c) (prSlot m ρ c 0) (prSlot m ρ c 1) (prSlot m ρ c 2)

/-! ## What is held of the buffers -/

/-- The share of the input that the copies to the peer number `s` read; the share the device keeps. -/
def qs (s : Fin 3) : PosShare TreeShare := match s with
  | 0 => fullShare.right.left
  | 1 => fullShare.right.right.left
  | 2 => fullShare.right.right.right
def qo : PosShare TreeShare := fullShare.left

def gP (c : Dev nD) (s : Fin 3) (t : Fin 4) (f : (cc0_scratch0 : Ref sig .tc).ty.Contents (Elt F)) : sProp 𝕄 :=
  (gT s t).view.loc (c : Thread nD τ) ↦[(gT s t).view.set]{fullShare} f
def pP (c : Dev nD) (s : Fin 3) (t : Fin 4) (f : (cc0_scratch1 : Ref sig .tc).ty.Contents (Elt F)) : sProp 𝕄 :=
  (pT s t).view.loc (c : Thread nD τ) ↦[(pT s t).view.set]{fullShare} f
def xP (c : Dev nD) (s : Fin 3) (t : Fin 4) : sProp 𝕄 :=
  (xT t).view.loc (c : Thread nD τ) ↦[(xT t).view.set]{qs s} xstg m ρ c

omit [FloatOps F] in
instance gP_storable (c : Dev nD) (s t f) : BI.Storable (upEmb : UEmb _ 𝕄) (gP (F := F) c s t f) := by unfold gP; infer_instance
omit [FloatOps F] in
instance pP_storable (c : Dev nD) (s t f) : BI.Storable (upEmb : UEmb _ 𝕄) (pP (F := F) c s t f) := by unfold pP; infer_instance
omit [FloatOps F] in
instance xP_storable (c : Dev nD) (s t) : BI.Storable (upEmb : UEmb _ 𝕄) (xP (F := F) m ρ c s t) := by unfold xP; infer_instance

/-- The four row tiles of slot `s` at any contents. -/
def gAny (c : Dev nD) (s : Fin 3) : sProp 𝕄 := bigSep Finset.univ fun t : Fin 4 => iprop(∃ f, gP c s t f)
def pAny (c : Dev nD) (s : Fin 3) : sProp 𝕄 := bigSep Finset.univ fun t : Fin 4 => iprop(∃ f, pP c s t f)
omit [FloatOps F] in
instance gAny_storable (c : Dev nD) (s) : BI.Storable (upEmb : UEmb _ 𝕄) (gAny (F := F) c s) := by unfold gAny; infer_instance
omit [FloatOps F] in
instance pAny_storable (c : Dev nD) (s) : BI.Storable (upEmb : UEmb _ 𝕄) (pAny (F := F) c s) := by unfold pAny; infer_instance

/-! ## The schedule -/

/-- What the barrier signal of `pl d c` hands device `c`. -/
def barPay (c : Dev nD) (d : Fin 3) : sProp 𝕄 := iprop(gAny (pl d c) (rev d) ∗ pAny (pl d c) d)
/-- What the landing on the semaphore of stage `k`, slot `s`, tile `t` hands device `c`. -/
def xferPay (c : Dev nD) (k : Fin 4) (s : Fin 3) (t : Fin 4) : sProp 𝕄 := match k with
  | 0 => xP m ρ c s t
  | 1 => gP c s t (xgC m ρ c)
  | 2 => gP c s t (pC m ρ c)
  | 3 => pP c s t (prC m ρ c)
instance barPay_storable (c : Dev nD) (d) : BI.Storable (upEmb : UEmb _ 𝕄) (barPay (F := F) c d) := by unfold barPay; infer_instance
instance xferPay_storable (c : Dev nD) (k s t) : BI.Storable (upEmb : UEmb _ 𝕄) (xferPay (F := F) m ρ c k s t) := by
  unfold xferPay; fin_cases k <;> infer_instance

set_option backward.proofsInPublic true in
/-- Stage, slot and tile of a DMA semaphore, from its number. -/
def stageOf (q : ℕ) : Fin 4 := ⟨(q - 2) / 12 % 4, Nat.mod_lt _ (by decide)⟩
set_option backward.proofsInPublic true in
def slotOf (q : ℕ) : Fin 3 := ⟨(q - 2) % 12 / 4 % 3, Nat.mod_lt _ (by decide)⟩
set_option backward.proofsInPublic true in
def tileOf (q : ℕ) : Fin 4 := ⟨(q - 2) % 4, Nat.mod_lt _ (by decide)⟩
theorem stageOf_dsem (k s t) : stageOf (dsem k s t).val = k := by
  revert k s t; decide
theorem slotOf_dsem (k s t) : slotOf (dsem k s t).val = s := by
  revert k s t; decide
theorem tileOf_dsem (k s t) : tileOf (dsem k s t).val = t := by
  revert k s t; decide
theorem dsem_range (k s t) : 2 ≤ (dsem k s t).val ∧ (dsem k s t).val < 50 := by
  revert k s t; decide

/-- Which duties a semaphore's one round has, the amount and the payload of each. -/
def dutyAt : SemLoc sig → Finset (Fin 3)
  | .reg b => if b = barS then Finset.univ else ∅
  | .dma q => if 2 ≤ q.val ∧ q.val < 50 then {0} else ∅
def amtAt : SemLoc sig → ℕ
  | .reg _ => 1
  | .dma _ => N
def payAt (c : Dev nD) (d : Fin 3) : SemLoc sig → sProp 𝕄
  | .reg _ => barPay c d
  | .dma q => xferPay m ρ c (stageOf q.val) (slotOf q.val) (tileOf q.val)
theorem amtAt_pos (l : SemLoc sig) : 0 < amtAt l := by
  cases l
  · exact Nat.one_pos
  · exact N_pos

/-- One round, round 0: a barrier cell has three duties of one unit, a transfer's cell one duty of the tile's credit. -/
def sched : Rounds.Schedule (GSem nD τ sig) (Fin 3) 𝕄 where
  duties g r := if r = 0 ∧ g.1.2 = .tc then dutyAt g.2 else ∅
  unitless _ := False
  amount g _ _ := amtAt g.2
  payload g _ d := payAt m ρ g.1.1 d g.2
  amount_pos g _ _ _ := amtAt_pos g.2

instance sched_payload_storable (g : GSem nD τ sig) (r : ℕ) (d : Fin 3) :
    BI.Storable (upEmb : UEmb _ 𝕄) ((sched (F := F) m ρ).payload g r d) := by
  show BI.Storable upEmb (payAt m ρ g.1.1 d g.2)
  unfold payAt; split <;> infer_instance

section Tables
variable (c : Dev nD)

theorem duties_bar : (sched (F := F) m ρ).duties (barCell c) 0 = Finset.univ := by
  show (if (0 : ℕ) = 0 ∧ (c : Thread nD τ).2 = .tc then dutyAt (.reg barS) else ∅) = _
  rw [if_pos ⟨rfl, rfl⟩]
  show (if barS = barS then Finset.univ else ∅) = _
  exact if_pos rfl
theorem duties_d (k s t) : (sched (F := F) m ρ).duties (dCell k s t c) 0 = {0} := by
  show (if (0 : ℕ) = 0 ∧ (c : Thread nD τ).2 = .tc then dutyAt (.dma (dsem k s t)) else ∅) = _
  rw [if_pos ⟨rfl, rfl⟩]; exact if_pos (dsem_range k s t)
theorem duties_later (g : GSem nD τ sig) : ∀ r, 1 ≤ r → (sched (F := F) m ρ).duties g r = ∅ :=
  fun r hr => if_neg fun h => by omega
theorem amount_bar (d) : (sched (F := F) m ρ).amount (barCell c) 0 d = 1 := rfl
theorem amount_d (k s t d) : (sched (F := F) m ρ).amount (dCell k s t c) 0 d = N := rfl
theorem expect_bar : (sched (F := F) m ρ).expect (barCell c) 0 = 3 := by
  unfold Schedule.expect Schedule.amountOf
  rw [duties_bar, Finset.sum_congr rfl fun d _ => amount_bar m ρ c d]; rfl
theorem expect_d (k s t) : (sched (F := F) m ρ).expect (dCell k s t c) 0 = N := by
  unfold Schedule.expect Schedule.amountOf; rw [duties_d, Finset.sum_singleton, amount_d]
theorem payload_bar (d) : (sched (F := F) m ρ).payload (barCell c) 0 d = barPay c d := rfl
theorem payload_d (k s t d) : (sched (F := F) m ρ).payload (dCell k s t c) 0 d = xferPay m ρ c k s t := by
  show xferPay m ρ c (stageOf _) (slotOf _) (tileOf _) = _
  rw [stageOf_dsem, slotOf_dsem, tileOf_dsem]
theorem rest_bar : bigSep ((sched (F := F) m ρ).duties (barCell c) 0 \ ∅) (fun d => (sched (F := F) m ρ).payload (barCell c) 0 d)
    = bigSep Finset.univ fun d : Fin 3 => barPay c d := by
  rw [Finset.sdiff_empty, duties_bar]; rfl
theorem rest_d (k s t) : bigSep ((sched (F := F) m ρ).duties (dCell k s t c) 0 \ ∅) (fun d => (sched (F := F) m ρ).payload (dCell k s t c) 0 d)
    = xferPay m ρ c k s t := by
  rw [Finset.sdiff_empty, duties_d, bigSep_singleton, payload_d]

end Tables

/-! ## What a device owes; the levels -/

/-- The slot that the remote copies serve `i`-th. -/
def ord (i : ℕ) : Fin 3 := match i with
  | 0 => 1
  | 1 => 0
  | _ => 2

/-- The cell on device `d` of the payment that leaves `r` payments outstanding, among those made to the peer `d`, and the
    peer's number: first the barrier signals, then the gather's landings, then the scatter's. -/
def payPeer (r : ℕ) : Fin 3 :=
  if r < 12 then ord ((11 - r) / 4)
  else if r < 20 then (if (19 - r) % 2 = 0 then 0 else 2)
  else if r < 24 then 1
  else ⟨(26 - r) % 3, Nat.mod_lt _ (by decide)⟩
def payCell (r : ℕ) (d : Dev nD) : GSem nD τ sig :=
  if r < 12 then dCell 3 (ord ((11 - r) / 4)) ⟨(11 - r) % 4, Nat.mod_lt _ (by decide)⟩ d
  else if r < 20 then dCell 1 (if (19 - r) % 2 = 0 then 2 else 0) ⟨(19 - r) / 2 % 4, Nat.mod_lt _ (by decide)⟩ d
  else if r < 24 then dCell 1 1 ⟨(23 - r) % 4, Nat.mod_lt _ (by decide)⟩ d
  else barCell d
def payAmt (r : ℕ) : ℕ := if r < 24 then N else 1

/-- What device `c` owes with `r` payments outstanding. -/
def owe (c : Dev nD) : ℕ → CellTallies nD τ sig Unit
  | 0 => 0
  | r + 1 => owe c r + tallyAt (payCell r (pl (payPeer r) c)) () (payAmt r)

theorem owe_pos {c : Dev nD} {g : GSem nD τ sig} {u : Unit} : ∀ {n : ℕ}, 0 < owe c n g u → ∃ r, r < n ∧ ∃ d, g = payCell r d
  | 0, h => absurd h (Nat.lt_irrefl 0)
  | n + 1, h => by
    unfold owe at h
    rw [Pi.add_apply, Finsupp.add_apply] at h
    by_cases h1 : 0 < owe c n g u
    · obtain ⟨r, hr, d, hd⟩ := owe_pos h1
      exact ⟨r, by omega, d, hd⟩
    · refine ⟨n, by omega, pl (payPeer n) c, ?_⟩
      rw [tallyAt_apply] at h
      by_contra hn
      rw [if_neg (fun h' => hn h'.1)] at h
      omega

def L (g : GSem nD τ sig) : Finset Unit := if g.1.2 = .tc then {()} else ∅
/-- The level of a semaphore: barrier 1, gather landings 2, scatter landings 3, all others 0. -/
def lvS : SemLoc sig → ℕ
  | .reg _ => 1
  | .dma q => if 14 ≤ q.val ∧ q.val < 26 then 2 else if 38 ≤ q.val ∧ q.val < 50 then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_dsem1 (s t) : lvS (.dma (dsem 1 s t)) = 2 := by revert s t; decide
theorem lvS_dsem3 (s t) : lvS (.dma (dsem 3 s t)) = 3 := by revert s t; decide
theorem lvS_dsem0 (s t) : lvS (.dma (dsem 0 s t)) = 0 := by revert s t; decide
theorem lvS_dsem2 (s t) : lvS (.dma (dsem 2 s t)) = 0 := by revert s t; decide
theorem lvS_wsem (p) : lvS (.dma (wsem p)) = 0 := by revert p; decide

theorem payCell_tc (r : ℕ) (d : Dev nD) : (payCell r d).1.2 = .tc := by
  unfold payCell; split; · rfl
  split; · rfl
  split <;> rfl
theorem lv_payCell (r : ℕ) (d : Dev nD) : lvS (payCell r d).2 = if r < 12 then 3 else if r < 24 then 2 else 1 := by
  unfold payCell
  by_cases h1 : r < 12
  · rw [if_pos h1, if_pos h1]; exact lvS_dsem3 _ _
  rw [if_neg h1, if_neg h1]
  by_cases h2 : r < 20
  · rw [if_pos h2, if_pos (show r < 24 by omega)]; exact lvS_dsem1 _ _
  rw [if_neg h2]
  by_cases h3 : r < 24
  · rw [if_pos h3, if_pos h3]; exact lvS_dsem1 _ _
  · rw [if_neg h3, if_neg h3]; rfl

/-- A wait on a semaphore of level below everything still owed is allowed. -/
theorem mayWait (c : Dev nD) (sm : SemLoc sig) (n : ℕ) (h : ∀ r, r < n → lvS sm < if r < 12 then 3 else if r < 24 then 2 else 1) :
    (levAts L lv : sProp 𝕄) ⊢ MayWait (c : Thread nD τ) sm () (owe c n) :=
  MayOwe.of_cut (L := L) (lev := lv) (lvS sm) (fun p hp => by rw [Finset.mem_singleton.mp hp, L_tc]; exact Finset.mem_singleton_self _)
    (fun g u hg => by
      obtain ⟨r, hr, d, rfl⟩ := owe_pos hg
      unfold L; rw [if_pos (payCell_tc r d)]; exact Finset.mem_singleton_self _)
    (fun p hp => by rw [Finset.mem_singleton.mp hp]; exact le_rfl)
    (fun g u hg => by
      obtain ⟨r, hr, d, rfl⟩ := owe_pos hg
      show lvS sm < lvS (payCell r d).2
      rw [lv_payCell]; exact h r hr)

/-- A wait on a cell of level 0 is always allowed; -/
theorem mayWait_low (c : Dev nD) (sm : SemLoc sig) (n : ℕ) (h : lvS sm = 0) :
    (levAts L lv : sProp 𝕄) ⊢ MayWait (c : Thread nD τ) sm () (owe c n) :=
  mayWait c sm n fun r _ => by rw [h]; split <;> [skip; split] <;> decide
/-- the barrier once the signals are given; -/
theorem mayWait_bar (c : Dev nD) : (levAts L lv : sProp 𝕄) ⊢ MayWait (c : Thread nD τ) (.reg barS) () (owe c 24) :=
  mayWait c _ _ fun r h => by
    show 1 < _
    by_cases h1 : r < 12
    · rw [if_pos h1]; decide
    · rw [if_neg h1, if_pos h]; decide
/-- a gather landing once the gather's copies are issued; -/
theorem mayWait_ag (c : Dev nD) (s t) {n : ℕ} (hn : n ≤ 12) : (levAts L lv : sProp 𝕄) ⊢ MayWait (c : Thread nD τ) (.dma (dsem 1 s t)) () (owe c n) :=
  mayWait c _ _ fun r h => by
    rw [lvS_dsem1, if_pos (by omega)]; decide
/-- anything once nothing is owed. -/
theorem mayWait_done (c : Dev nD) (sm : SemLoc sig) : (levAts L lv : sProp 𝕄) ⊢ MayWait (c : Thread nD τ) sm () (owe c 0) :=
  mayWait c _ _ fun r h => absurd h (Nat.not_lt_zero _)

end Cert.AggRun

end
-- ==== Proof.Views.lean ====
/-
The tiles of the kernel's buffers as sets of indices, and what reading or writing a tile means for the whole buffer.
-/
module

public import proofs.«01_k».proof.Proof.Protocol
public import Idealize.ShloMosaic.Lib.ViewIndex
public import Idealize.ShloMosaic.Lib.Ring
public import Idealize.ShloMosaic.Lib.Pipeline.Value

@[expose] public section

noncomputable section

namespace Cert.AggRun

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Held contents -/

/-- What a view holds after a write through it is any contents that read through it as the written values. -/
theorem pts_landed {c : Thread nD τ} {sp : Space} {s : Shape} {e : EltTy} (v : View sig c.2.kind sp s e) {q : PosShare TreeShare}
    (fd g : Buf (Elt F) (v.loc c)) (w : s.Idx → Elt F e) (h : v.read (Elt F) g = w) :
    (v.loc c ↦[v.set]{q} (v.write (Elt F) fd w Finset.univ) : sProp 𝕄) = (v.loc c ↦[v.set]{q} g) := by
  refine pointsTo_congr fun i hi => ?_
  obtain ⟨x, -, rfl⟩ := Finset.mem_map.mp hi
  refine View.eq_of_read_eq (v := v) ?_
  rw [View.read_write_of_mem _ _ (Finset.mem_univ _), h]

/-! ## The further tiles: of the resident weights, of the two streaming buffers, of the weights in high-bandwidth memory -/

theorem inb_a (k : Fin 8) : ∀ a, (![128 * k.val, 0] : Fin 2 → ℕ) a + S128x4096.size a ≤ S1024x4096.size a := by revert k; decide
theorem inb_b (k : Fin 16) : ∀ a, (![256 * k.val, 0] : Fin 2 → ℕ) a + S256x1024.size a ≤ S4096x1024.size a := by revert k; decide
theorem inb_u (p : Fin 2) : ∀ a, (![p.val, 0, 0] : Fin 3 → ℕ) a + S1x128x4096.size a ≤ S2x128x4096.size a := by revert p; decide
theorem inb_v (p : Fin 2) : ∀ a, (![p.val, 0, 0] : Fin 3 → ℕ) a + S1x256x1024.size a ≤ S2x256x1024.size a := by revert p; decide
theorem inb_w (p : Fin 2) : ∀ a, (![p.val] : Fin 1 → ℕ) a + S1.size a ≤ S2.size a := by revert p; decide
theorem inb_p (s : Fin 3) : ∀ a, (![s.val, 0, 0] : Fin 3 → ℕ) a + S1x1024x1024.size a ≤ S3x1024x1024.size a := by revert s; decide

abbrev aR (k : Fin 8) : Rect S1024x4096 := Rect.unit (s := S1024x4096) ![128 * k.val, 0] S128x4096.size (inb_a k)
abbrev bR (k : Fin 16) : Rect S4096x1024 := Rect.unit (s := S4096x1024) ![256 * k.val, 0] S256x1024.size (inb_b k)
abbrev uR (p : Fin 2) : Rect S2x128x4096 := Rect.unit (s := S2x128x4096) ![p.val, 0, 0] S1x128x4096.size (inb_u p)
abbrev vR (p : Fin 2) : Rect S2x256x1024 := Rect.unit (s := S2x256x1024) ![p.val, 0, 0] S1x256x1024.size (inb_v p)

abbrev uT (p : Fin 2) : Memref sig .tc .vmem S128x4096 .f32 := (uM.slice (uR p) (fun _ => rfl)).squeeze S128x4096 squeezes_S1x128x4096_S128x4096
abbrev vT (p : Fin 2) : Memref sig .tc .vmem S256x1024 .f32 := (vM.slice (vR p) (fun _ => rfl)).squeeze S256x1024 squeezes_S1x256x1024_S256x1024
abbrev w1T (k : Fin 8) : Memref sig .tc .hbm S128x4096 .f32 := w1M.slice (aR k) (fun _ => rfl)
abbrev w2T (k : Fin 16) : Memref sig .tc .hbm S256x1024 .f32 := w2M.slice (bR k) (fun _ => rfl)

theorem semAtw (p : Fin 2) (h) : ((cc0_scratch10.slice (Rect.unit (s := S2) ![p.val] S1.size h)).squeeze S_ squeezes_S1_S_).sem = wsem p := by
  revert p; decide

/-! ## The tiles as sets -/

theorem mem_rowBlock {n w : ℕ} {d : Fin 2 → ℕ} {k : ℕ} {h} (i : (⟨2, d⟩ : Shape).Idx) (h0 : w = d 1) (hn : 0 < n) :
    i ∈ (Rect.unit (s := ⟨2, d⟩) ![n * k, 0] ![n, w] h).set ↔ (i 0).val / n = k := by
  rw [LoadRect.mem_set]
  constructor
  · intro hi
    obtain ⟨j, hj, e⟩ := hi 0
    have e' : (i 0).val = n * k + 1 * j := e
    have hj' : j < n := hj
    rw [e', one_mul, Nat.mul_add_div hn, Nat.div_eq_of_lt hj', Nat.add_zero]
  · intro hk a
    have hmod := Nat.div_add_mod (i 0).val n
    match a with
    | ⟨0, _⟩ => exact ⟨(i 0).val % n, Nat.mod_lt _ hn, by show (i 0).val = n * k + 1 * _; rw [← hk]; omega⟩
    | ⟨1, _⟩ => exact ⟨(i 1).val, by show (i 1).val < w; rw [h0]; exact (i 1).isLt, by show (i 1).val = 0 + 1 * _; omega⟩

theorem mem_slot {n0 n1 n2 : ℕ} {k : ℕ} {h} (i : (⟨3, ![n0, n1, n2]⟩ : Shape).Idx) :
    i ∈ (Rect.unit (s := ⟨3, ![n0, n1, n2]⟩) ![k, 0, 0] ![1, n1, n2] h).set ↔ (i 0).val = k := by
  rw [LoadRect.mem_set]
  constructor
  · intro hi
    obtain ⟨j, hj, e⟩ := hi 0
    have e' : (i 0).val = k + 1 * j := e
    have hj' : j < 1 := hj
    omega
  · intro hk a
    match a with
    | ⟨0, _⟩ => exact ⟨0, Nat.one_pos, by show (i 0).val = k + 1 * 0; omega⟩
    | ⟨1, _⟩ => exact ⟨(i 1).val, (i 1).isLt, by show (i 1).val = 0 + 1 * _; omega⟩
    | ⟨2, _⟩ => exact ⟨(i 2).val, (i 2).isLt, by show (i 2).val = 0 + 1 * _; omega⟩

theorem mem_slotR {s : Fin 3} {t : Fin 4} (i : S3x1024x1024.Idx) : i ∈ (slotR s t).set ↔ (i 0).val = s.val ∧ (i 1).val / 256 = t.val := by
  rw [LoadRect.mem_set]
  constructor
  · intro hi
    obtain ⟨j, hj, e⟩ := hi 0
    have e' : (i 0).val = s.val + 1 * j := e
    have hj' : j < 1 := hj
    obtain ⟨j1, hj1, e1⟩ := hi 1
    have e1' : (i 1).val = 256 * t.val + 1 * j1 := e1
    have hj1' : j1 < 256 := hj1
    omega
  · rintro ⟨hk, ht⟩ a
    match a with
    | ⟨0, _⟩ => exact ⟨0, Nat.one_pos, by show (i 0).val = s.val + 1 * 0; omega⟩
    | ⟨1, _⟩ => exact ⟨(i 1).val % 256, Nat.mod_lt _ (by decide), by show (i 1).val = 256 * t.val + 1 * _; omega⟩
    | ⟨2, _⟩ => exact ⟨(i 2).val, (i 2).isLt, by show (i 2).val = 0 + 1 * _; omega⟩

theorem gT_set (s t) : (gT s t).view.set = (slotR s t).set :=
  (View.set_reshape _ _).trans (View.set_slice_whole _ _)
theorem pT_set (s t) : (pT s t).view.set = (slotR s t).set :=
  (View.set_reshape _ _).trans (View.set_slice_whole _ _)
theorem xT_set (t) : (xT t).view.set = (rowR t).set := View.set_slice_whole _ _
theorem uT_set (p) : (uT p).view.set = (uR p).set := (View.set_reshape _ _).trans (View.set_slice_whole _ _)
theorem vT_set (p) : (vT p).view.set = (vR p).set := (View.set_reshape _ _).trans (View.set_slice_whole _ _)
theorem gAcc_set (s t) : (gM.access (slotR s t)).set = (gT s t).view.set := (View.set_reshape _ _).symm

/-! ## Whole buffers as their tiles -/

/-- Sets told apart by a function to the block numbers, together with the covering, from the membership criterion. -/
theorem blocks_facts {ι α : Type} [Fintype α] [Fintype ι] [DecidableEq α] [DecidableEq ι] (I : ι → Finset α) (φ : α → ι) (h : ∀ b i, i ∈ I b ↔ φ i = b) :
    (∀ b b', b ≠ b' → Disjoint (I b) (I b')) ∧ Finset.univ.biUnion I = Finset.univ :=
  ⟨fun b b' hb => Finset.disjoint_left.mpr fun i hi hi' => hb (((h b i).mp hi).symm.trans ((h b' i).mp hi')),
    Finset.eq_univ_iff_forall.mpr fun i => Finset.mem_biUnion.mpr ⟨φ i, Finset.mem_univ _, (h _ i).mpr rfl⟩⟩

theorem mem_g (b : Fin 3 × Fin 4) (i : S3x1024x1024.Idx) :
    i ∈ (slotR b.1 b.2).set ↔ ((i 0, ⟨(i 1).val / 256, by have : (i 1).val < 1024 := (i 1).isLt; omega⟩) : Fin 3 × Fin 4) = b := by
  rw [mem_slotR]
  constructor
  · rintro ⟨h1, h2⟩; exact Prod.ext (Fin.ext h1) (Fin.ext h2)
  · rintro rfl; exact ⟨rfl, rfl⟩
theorem mem_x (b : Fin 4) (i : S1024x1024.Idx) :
    i ∈ (rowR b).set ↔ (⟨(i 0).val / 256, by have : (i 0).val < 1024 := (i 0).isLt; omega⟩ : Fin 4) = b :=
  (mem_rowBlock (n := 256) (w := 1024) (d := ![1024, 1024]) i rfl (by decide)).trans ⟨fun h => Fin.ext h, fun h => congrArg Fin.val h⟩
theorem mem_a (b : Fin 8) (i : S1024x4096.Idx) :
    i ∈ (aR b).set ↔ (⟨(i 0).val / 128, by have : (i 0).val < 1024 := (i 0).isLt; omega⟩ : Fin 8) = b :=
  (mem_rowBlock (n := 128) (w := 4096) (d := ![1024, 4096]) i rfl (by decide)).trans ⟨fun h => Fin.ext h, fun h => congrArg Fin.val h⟩
theorem mem_b (b : Fin 16) (i : S4096x1024.Idx) :
    i ∈ (bR b).set ↔ (⟨(i 0).val / 256, by have : (i 0).val < 4096 := (i 0).isLt; omega⟩ : Fin 16) = b :=
  (mem_rowBlock (n := 256) (w := 1024) (d := ![4096, 1024]) i rfl (by decide)).trans ⟨fun h => Fin.ext h, fun h => congrArg Fin.val h⟩
theorem mem_u (b : Fin 2) (i : S2x128x4096.Idx) : i ∈ (uR b).set ↔ (i 0 : Fin 2) = b :=
  (mem_slot (n0 := 2) (n1 := 128) (n2 := 4096) i).trans ⟨fun h => Fin.ext h, fun h => congrArg Fin.val h⟩
theorem mem_v (b : Fin 2) (i : S2x256x1024.Idx) : i ∈ (vR b).set ↔ (i 0 : Fin 2) = b :=
  (mem_slot (n0 := 2) (n1 := 256) (n2 := 1024) i).trans ⟨fun h => Fin.ext h, fun h => congrArg Fin.val h⟩

/-! ## Reading a tile -/

theorem emb_slot (s : Fin 3) (t : Fin 4) (j : S1x256x1024.Idx) :
    (slotR s t).emb j = (ix3 s ⟨256 * t.val + (j 1).val, by have : (j 1).val < 256 := (j 1).isLt; omega⟩ (j 2) : S3x1024x1024.Idx) := by
  have h0 : (j 0).val < 1 := (j 0).isLt
  refine Shape.idx3_ext ?_ ?_ ?_
  · show s.val + 1 * (j 0).val = s.val; omega
  · show 256 * t.val + 1 * (j 1).val = 256 * t.val + (j 1).val; omega
  · show 0 + 1 * (j 2).val = (j 2).val; omega
theorem emb_row (t : Fin 4) (j : S256x1024.Idx) :
    (rowR t).emb j = (ix2 ⟨256 * t.val + (j 0).val, by have : (j 0).val < 256 := (j 0).isLt; omega⟩ (j 1) : S1024x1024.Idx) := by
  refine funext fun a => Fin.ext ?_
  match a with
  | ⟨0, _⟩ => show 256 * t.val + 1 * (j 0).val = 256 * t.val + (j 0).val; omega
  | ⟨1, _⟩ => show 0 + 1 * (j 1).val = (j 1).val; omega

/-- Dropping the unit axis of a `1 × a × b` index. -/
theorem unsqueeze {a b : ℕ} (h : (⟨2, ![a, b]⟩ : Shape).numel = (⟨3, ![1, a, b]⟩ : Shape).numel) (j : (⟨2, ![a, b]⟩ : Shape).Idx) :
    Shape.reshapeEquiv h j = (ix3 0 (j 0) (j 1) : (⟨3, ![1, a, b]⟩ : Shape).Idx) := by
  refine Shape.reshapeEquiv_eq_of_rowMajor h ?_
  rw [Shape.rowMajor_val_three, Shape.rowMajor_val_two]
  show (0 * a + (j 0).val) * b + (j 1).val = (j 0).val * b + (j 1).val
  rw [Nat.zero_mul, Nat.zero_add]

theorem read_gT (s t) (f : (cc0_scratch0 : Ref sig .tc).ty.Contents (Elt F)) :
    (gT s t).view.read (Elt F) f
      = fun j : S256x1024.Idx => f (ix3 s ⟨256 * t.val + (j 0).val, by have : (j 0).val < 256 := (j 0).isLt; omega⟩ (j 1)) := by
  funext j
  show f ((slotR s t).emb (Shape.reshapeEquiv _ j)) = _
  rw [unsqueeze, emb_slot]
theorem read_pT (s t) (f : (cc0_scratch1 : Ref sig .tc).ty.Contents (Elt F)) :
    (pT s t).view.read (Elt F) f
      = fun j : S256x1024.Idx => f (ix3 s ⟨256 * t.val + (j 0).val, by have : (j 0).val < 256 := (j 0).isLt; omega⟩ (j 1)) := by
  funext j
  show f ((slotR s t).emb (Shape.reshapeEquiv _ j)) = _
  rw [unsqueeze, emb_slot]
theorem read_xT (t) (f : (cc0_stg0_0 : Ref sig .tc).ty.Contents (Elt F)) :
    (xT t).view.read (Elt F) f
      = fun j : S256x1024.Idx => f (ix2 ⟨256 * t.val + (j 0).val, by have : (j 0).val < 256 := (j 0).isLt; omega⟩ (j 1)) := by
  funext j
  show f ((rowR t).emb j) = _
  rw [emb_row]

variable (m : (ℓ : Loc nD τ sig) → Buf (Elt F) ℓ) (ρ : Dev nD → PrngReg)

theorem read_xT_xstg (c : Dev nD) (t : Fin 4) : (xT t).view.read (Elt F) (xstg m ρ c) = xTile m ρ c t.val := by
  rw [read_xT]; funext j
  unfold xTile
  congr 2
  have : (j 0).val < 256 := (j 0).isLt
  refine Fin.ext ?_
  show 256 * t.val + (j 0).val = (256 * t.val + (j 0).val) % 1024
  omega
theorem read_gT_xgC (c : Dev nD) (s t) : (gT s t).view.read (Elt F) (xgC m ρ c) = xTile m ρ (pl s c) t.val := by
  rw [read_gT, ← read_xT_xstg, read_xT]; rfl
theorem read_gT_pC (c : Dev nD) (s : Fin 3) (t : Fin 4) : (gT s t).view.read (Elt F) (pC m ρ c)
    = (truncf .bf16 (gemmT m ρ c (pl s c) t.val) bitsLt_bf16_f32 : FVec F S256x1024 .bf16) := by
  rw [read_gT]; funext j
  have h : (j 0).val < 256 := (j 0).isLt
  show (truncf .bf16 (gemmT m ρ c (pl s c) ((256 * t.val + (j 0).val) / 256)) bitsLt_bf16_f32 : FVec F S256x1024 .bf16)
    (ix2 ⟨(256 * t.val + (j 0).val) % 256, _⟩ (j 1)) = _
  have e1 : (256 * t.val + (j 0).val) / 256 = t.val := by omega
  have e2 : (⟨(256 * t.val + (j 0).val) % 256, Nat.mod_lt _ (by decide)⟩ : Fin 256) = j 0 := Fin.ext (by show _ % 256 = (j 0).val; omega)
  rw [e1]
  refine congrArg _ ?_
  rw [e2]
  exact (eq_ix2 (n0 := 256) (n1 := 1024) j).symm
theorem read_pT_prC (c : Dev nD) (s : Fin 3) (t : Fin 4) : (pT s t).view.read (Elt F) (prC m ρ c)
    = (gT s t).view.read (Elt F) (pC m ρ (pl (rev s) c)) := by
  rw [read_pT, read_gT]; rfl

/-- Row tile `t` of device `p`'s rows lands as slot `rev s` of its peer number `s`. -/
theorem ag_landed (c : Dev nD) (s t) (fd : Buf (Elt F) ((gT (rev s) t).view.loc ((pl s c : Dev nD) : Thread nD τ))) :
    ((gT (rev s) t).view.loc ((pl s c : Dev nD) : Thread nD τ) ↦[(gT (rev s) t).view.set]{fullShare}
      ((gT (rev s) t).view.write (Elt F) fd ((xT t).view.read (Elt F) (xstg m ρ c)) Finset.univ) : sProp 𝕄)
      = gP (pl s c) (rev s) t (xgC m ρ (pl s c)) := by
  unfold gP
  refine pts_landed (c := ((pl s c : Dev nD) : Thread nD τ)) (gT (rev s) t).view fd _ _ ?_
  rw [read_gT_xgC, pl_rev_pl, read_xT_xstg]
theorem rs_landed (c : Dev nD) (s t) (fd : Buf (Elt F) ((pT s t).view.loc ((pl s c : Dev nD) : Thread nD τ))) :
    ((pT s t).view.loc ((pl s c : Dev nD) : Thread nD τ) ↦[(pT s t).view.set]{fullShare}
      ((pT s t).view.write (Elt F) fd ((gT s t).view.read (Elt F) (pC m ρ c)) Finset.univ) : sProp 𝕄)
      = pP (pl s c) s t (prC m ρ (pl s c)) := by
  unfold pP
  refine pts_landed (c := ((pl s c : Dev nD) : Thread nD τ)) (pT s t).view fd _ _ ?_
  rw [read_pT_prC, pl_rev_pl]

end Cert.AggRun

end
-- ==== Proof.Steps.lean ====
/-
The cross-device steps of one device, each as a rule that names what the step takes and gives: a signal, the barrier's
wait, a gather copy, a scatter copy, the wait for any of the 48 transfers.
-/
module

public import proofs.«01_k».proof.Proof.Views

@[expose] public section

noncomputable section

namespace Cert.AggRun

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No call is made, so nothing bounds one. -/
abbrev 𝒱₀ : Variants := Variants.none

/-! ## The protocol's records -/

/-- The cells of one device: the barrier's, and the 48 transfers'. -/
abbrev CI : Type := Option (Fin 4 × Fin 3 × Fin 4)
def cellAt : Dev nD × CI → GSem nD τ sig
  | (c, none) => barCell c
  | (c, some (k, s, t)) => dCell k s t c

/-- Every cell of every device is under its invariant, at round 0 or later: usable any number of times. -/
def records (K : Dev nD × CI → ℕ) : sProp 𝕄 :=
  iprop((bigSep Finset.univ fun p : Dev nD × CI => cellInv ER (sched m ρ) (K p) (cellAt p))
    ∗ bigSep Finset.univ fun p : Dev nD × CI => reached ER (cellAt p) 0)

instance records_persistent (K : Dev nD × CI → ℕ) : BI.Persistent (records (F := F) m ρ K) := by
  unfold records; infer_instance

variable (K : Dev nD × CI → ℕ)

theorem records_inv (p : Dev nD × CI) : records (F := F) m ρ K ⊢ cellInv ER (sched m ρ) (K p) (cellAt p) := by
  have h : (bigSep Finset.univ fun p : Dev nD × CI => (cellInv ER (sched m ρ) (K p) (cellAt p) : sProp 𝕄)) ⊢ cellInv ER (sched m ρ) (K p) (cellAt p) :=
    bigSep_elim (Finset.mem_univ p)
  unfold records; iintro ⟨H, -⟩
  iapply h; iexact H
theorem records_reached (p : Dev nD × CI) : records (F := F) m ρ K ⊢ reached ER (cellAt p) 0 := by
  have h : (bigSep Finset.univ fun p : Dev nD × CI => (reached ER (cellAt p) 0 : sProp 𝕄)) ⊢ reached ER (cellAt p) 0 :=
    bigSep_elim (Finset.mem_univ p)
  unfold records; iintro ⟨-, H⟩
  iapply h; iexact H

/-- The body of a device, from the point of view of the run: what it still owes. -/
def ow (c : Dev nD) (n : ℕ) : sProp 𝕄 := iprop(∃ W, owes (c : Thread nD τ) (owe c n) W)

section Rules

/-- A barrier signal to the peer number `s`: it hands over the peer's landing buffers here. -/
theorem wp_bar_signal {α : Type} {Ψ : α → sProp 𝕄} {k : PUnit → Prog (TpuEff nD τ sig (Elt F) Λ₀ .tc) α}
    (c n : Dev nD) (s : Fin 3) (hn : n = pl s c) (r : ℕ)
    (hr : owe c (r + 1) = owe c r + tallyAt (barCell (pl s c)) () 1) :
    iprop(records m ρ K ∗ ow c (r + 1) ∗ dutyTok ER (barCell (pl s c)) 0 (rev s) ∗ gAny c s ∗ pAny c (rev s))
      ⊢ iprop((ow c r -∗ wp frame (wpE (defs₀ (F := F)) 𝒱₀ (c : Thread nD τ) none) Set.univ (k ⟨⟩) Ψ) -∗ wp frame (wpE (defs₀ (F := F)) 𝒱₀ (c : Thread nD τ) none) Set.univ (.op (.semSignal ((n : Dev nD) : Thread nD τ) barS 1) k) Ψ) := by
  subst hn
  have hp : iprop(gAny (F := F) c s ∗ pAny c (rev s)) = (sched m ρ).payload (barCell (pl s c)) 0 (rev s) := by
    rw [payload_bar]; unfold barPay; rw [pl_rev_pl, rev_rev]
  unfold ow
  iintro ⟨#HR, ⟨%W, HO⟩, Ht, Hg, Hp⟩ Hk
  ihave #HI := (records_inv m ρ K (pl s c, none)) $$ HR
  ihave #Hr := (records_reached m ρ K (pl s c, none)) $$ HR
  iapply (Rounds.wp_signal 𝒱₀ ER (sched m ρ) (c : Thread nD τ) none (dst := ((pl s c : Dev nD) : Thread nD τ)) (κ := K (pl s c, none)) (d := rev s)
    (by rw [duties_bar]; exact Finset.mem_univ _) (amount_bar m ρ (pl s c) (rev s)) () (owe c r) hr) $$ [HO Ht Hg Hp]
  · isplitr; · iexact HI
    isplitl [HO]; · iexact HO
    isplitl [Ht]; · iexact Ht
    isplitl [Hg Hp]
    · iapply (Entails.of_eq hp)
      isplitl [Hg] <;> iassumption
    iexact Hr
  iintro HO
  iapply Hk
  iexists W; iexact HO

/-- The barrier's wait: the three peers' landing buffers. -/
theorem wp_bar_wait {α : Type} {Ψ : α → sProp 𝕄} {k : PUnit → Prog (TpuEff nD τ sig (Elt F) Λ₀ .tc) α}
    (c : Dev nD) :
    iprop(records m ρ K ∗ levAts L lv ∗ ow c 24 ∗ cred (tallyAt (barCell c) () 3) ∗ atPos ER (barCell c) 0 ∅ 0)
      ⊢ iprop(((ow c 24 ∗ semVal (barCell c) 0 ∗ bigSep Finset.univ fun d : Fin 3 => barPay c d) -∗ wp frame (wpE (defs₀ (F := F)) 𝒱₀ (c : Thread nD τ) none) Set.univ (k ⟨⟩) Ψ)
          -∗ wp frame (wpE (defs₀ (F := F)) 𝒱₀ (c : Thread nD τ) none) Set.univ (.op (.semWait barS 3) k) Ψ) := by
  unfold ow
  iintro ⟨#HR, #HL, ⟨%W, HO⟩, Hc, Hat⟩ Hk
  ihave #HI := (records_inv m ρ K (c, none)) $$ HR
  iapply (Rounds.wp_wait_rest_token 𝒱₀ ER (sched m ρ) (c : Thread nD τ) none (κ := K (c, none)) (wpE_semWait_eq 𝒱₀ (c : Thread nD τ) none Set.univ)
    (Set.mem_univ _) () (O := owe c 24) (W := W) (R := 0) (m := 0) (T := ∅) (by rw [expect_bar])) $$ [Hc HO Hat]
  · isplitr; · iexact HI
    isplitl [Hc]; · iexact Hc
    isplitl [HO]; · iexact HO
    isplitr
    · iapply (mayWait_bar c) $$ HL
    iexact Hat
  iintro ⟨HO, Hat, -, Hpay⟩
  imod (Rounds.cell_close ER (sched m ρ) (Set.mem_univ (K (c, none))) (fun h => h) (R := 0 + 1) (duties_later m ρ (barCell c))) $$ [Hat] with Hsem
  · isplitr; · iexact HI
    iexact Hat
  iapply Hk
  isplitl [HO]; · iexists _; iexact HO
  isplitl [Hsem]; · iexact Hsem
  iapply (Entails.of_eq (rest_bar m ρ c)); iexact Hpay

/-- The wait for one transfer: what its landing hands over, the cell back at zero. -/
theorem wp_xfer_wait {α : Type} {Ψ : α → sProp 𝕄} {k : PUnit → Prog (TpuEff nD τ sig (Elt F) Λ₀ .tc) α}
    (c : Dev nD) (st : Fin 4) (s : Fin 3) (t : Fin 4) (n : ℕ) {q : DmaSem sig} (hq : q = dsem st s t)
    (hlev : ∀ r, r < n → lvS (.dma (dsem st s t)) < if r < 12 then 3 else if r < 24 then 2 else 1)
    {sp sp' : Space} {s' : Shape} {e' : EltTy} {srcw : Memref sig .tc sp' s' e'} {s'' : Shape} {e'' : EltTy} {dstw : Memref sig .tc sp s'' e''}
    {hsrc : srcw.view.WordExact} {hdst : dstw.view.WordExact} (hN : dstw.view.dmaCredit = N) :
    iprop(records m ρ K ∗ levAts L lv ∗ ow c n ∗ cred (tallyAt (dCell st s t c) () N) ∗ atPos ER (dCell st s t c) 0 ∅ 0)
      ⊢ iprop(((ow c n ∗ semVal (dCell st s t c) 0 ∗ xferPay m ρ c st s t) -∗ wp frame (wpE (defs₀ (F := F)) 𝒱₀ (c : Thread nD τ) none) Set.univ (k ⟨⟩) Ψ)
          -∗ wp frame (wpE (defs₀ (F := F)) 𝒱₀ (c : Thread nD τ) none) Set.univ (.op (.waitDma2 q srcw dstw hsrc hdst) k) Ψ) := by
  subst hq
  unfold ow
  iintro ⟨#HR, #HL, ⟨%W, HO⟩, Hc, Hat⟩ Hk
  ihave #HI := (records_inv m ρ K (c, some (st, s, t))) $$ HR
  iapply (Rounds.wp_wait_rest_token 𝒱₀ ER (sched m ρ) (c : Thread nD τ) none (κ := K (c, some (st, s, t))) (wpE_waitDma2_eq 𝒱₀ (c : Thread nD τ) none Set.univ)
    (Set.mem_univ _) () (O := owe c n) (W := W) (R := 0) (m := 0) (T := ∅) (by rw [expect_d, Nat.zero_add]; exact hN)) $$ [Hc HO Hat]
  · isplitr; · iexact HI
    isplitl [Hc]; · rw [hN]; iexact Hc
    isplitl [HO]; · iexact HO
    isplitr
    · iapply (mayWait c (.dma (dsem st s t)) n hlev) $$ HL
    iexact Hat
  iintro ⟨HO, Hat, -, Hpay⟩
  imod (Rounds.cell_close ER (sched m ρ) (Set.mem_univ (K (c, some (st, s, t)))) (fun h => h) (R := 0 + 1) (duties_later m ρ (dCell st s t c))) $$ [Hat] with Hsem
  · isplitr; · iexact HI
    iexact Hat
  iapply Hk
  isplitl [HO]; · iexists _; iexact HO
  isplitl [Hsem]; · iexact Hsem
  iapply (Entails.of_eq (rest_d m ρ c st s t)); iexact Hpay

/-- A gather copy of row tile `t` to the peer number `s`. -/
theorem wp_ag_send {α : Type} {Ψ : α → sProp 𝕄} {k : PUnit → Prog (TpuEff nD τ sig (Elt F) Λ₀ .tc) α}
    (c n : Dev nD) (s : Fin 3) (t : Fin 4) (hn : n = pl s c) (r : ℕ)
    (hr : owe c (r + 1) = owe c r + tallyAt (dCell 1 (rev s) t (pl s c)) () N)
    {src : Memref sig .tc .vmem S256x1024 .bf16} {dst : Memref sig .tc .vmem S256x1024 .bf16} (hs : src = xT t) (hd : dst = gT (rev s) t)
    {qS qR : DmaSem sig} (hqS : qS = dsem 0 s t) (hqR : qR = dsem 1 (rev s) t)
    {hsc : (dst : Memref sig (Dev.tc n : Thread nD τ).2.kind .vmem S256x1024 .bf16).view.ref.isScScratch = false}
    {hsrc : src.view.WordExact} {hdst : dst.view.WordExact}
    {hsem : DmaTarget.Typed .vmem (.dma qR) (.remote (Dev.tc n : Thread nD τ) dst (.dma qS) hsc)} :
    iprop(records m ρ K ∗ ow c (r + 1) ∗ dutyTok ER (dCell 0 s t c) 0 0 ∗ dutyTok ER (dCell 1 (rev s) t (pl s c)) 0 0
        ∗ xP m ρ c s t ∗ (∃ f, gP (pl s c) (rev s) t f))
      ⊢ iprop(((ow c r ∗ cred (tallyAt (dCell 0 s t c) () N)) -∗ wp frame (wpE (defs₀ (F := F)) 𝒱₀ (c : Thread nD τ) none) Set.univ (k ⟨⟩) Ψ)
          -∗ wp frame (wpE (defs₀ (F := F)) 𝒱₀ (c : Thread nD τ) none) Set.univ (.op (.enqueueDma src (.remote (Dev.tc n : Thread nD τ) dst (.dma qS) hsc) (.dma qR) hsrc hdst hsem) k) Ψ) := by
  subst hn hs hd hqS hqR
  unfold ow
  iintro ⟨#HR, ⟨%W, HO⟩, Ht, Ht', Hx, ⟨%f, Hg⟩⟩ Hk
  ihave #HI := (records_inv m ρ K (c, some (0, s, t))) $$ HR
  ihave #HI' := (records_inv m ρ K (pl s c, some (1, rev s, t))) $$ HR
  ihave #Hr := (records_reached m ρ K (c, some (0, s, t))) $$ HR
  ihave #Hr' := (records_reached m ρ K (pl s c, some (1, rev s, t))) $$ HR
  have hpay₁ : xP m ρ c s t ⊢ (sched m ρ).payload (dCell 0 s t c) 0 0 := by rw [payload_d]; exact BI.Entails.refl _
  have hpay₂ := Entails.of_eq (ag_landed m ρ c s t f)
  rw [show gP (pl s c) (rev s) t (xgC m ρ (pl s c)) = (sched m ρ).payload (dCell 1 (rev s) t (pl s c)) 0 0 from (payload_d m ρ (pl s c) 1 (rev s) t 0).symm] at hpay₂
  unfold gP xP at *
  iapply (Rounds.wp_send_pointsTo 𝒱₀ ER (sched m ρ) (c : Thread nD τ) none (c' := ((pl s c : Dev nD) : Thread nD τ)) (src := xT t) (dst := gT (rev s) t) (sS := .dma (dsem 0 s t)) (sem := .dma (dsem 1 (rev s) t)) (κ₁ := K (c, some (0, s, t))) (κ₂ := K (pl s c, some (1, rev s, t)))
    (r₁ := 0) (r₂ := 0) (d₁ := 0) (d₂ := 0) (fd := f)
    (by rw [duties_d]; exact Finset.mem_singleton_self _) (by rw [duties_d]; exact Finset.mem_singleton_self _)
    () () N (credit_gT (rev s) t) (amount_d m ρ c 0 s t 0) (amount_d m ρ (pl s c) 1 (rev s) t 0) (owe c r) hr (W := W)
    hpay₁ hpay₂) $$ [HO Ht Ht' Hx Hg]
  · isplitr; · iexact HI
    isplitr; · iexact HI'
    isplitl [Hx]; · iexact Hx
    isplitl [Hg]; · iexact Hg
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  iexact Hc

/-- A scatter copy of the partial results of row tile `t` to the peer number `s`. -/
theorem wp_rs_send {α : Type} {Ψ : α → sProp 𝕄} {k : PUnit → Prog (TpuEff nD τ sig (Elt F) Λ₀ .tc) α}
    (c n : Dev nD) (s : Fin 3) (t : Fin 4) (hn : n = pl s c) (r : ℕ)
    (hr : owe c (r + 1) = owe c r + tallyAt (dCell 3 s t (pl s c)) () N)
    {src : Memref sig .tc .vmem S256x1024 .bf16} {dst : Memref sig .tc .vmem S256x1024 .bf16} (hs : src = gT s t) (hd : dst = pT s t)
    {qS qR : DmaSem sig} (hqS : qS = dsem 2 s t) (hqR : qR = dsem 3 s t)
    {hsc : (dst : Memref sig (Dev.tc n : Thread nD τ).2.kind .vmem S256x1024 .bf16).view.ref.isScScratch = false}
    {hsrc : src.view.WordExact} {hdst : dst.view.WordExact}
    {hsem : DmaTarget.Typed .vmem (.dma qR) (.remote (Dev.tc n : Thread nD τ) dst (.dma qS) hsc)} :
    iprop(records m ρ K ∗ ow c (r + 1) ∗ dutyTok ER (dCell 2 s t c) 0 0 ∗ dutyTok ER (dCell 3 s t (pl s c)) 0 0
        ∗ gP c s t (pC m ρ c) ∗ (∃ f, pP (pl s c) s t f))
      ⊢ iprop(((ow c r ∗ cred (tallyAt (dCell 2 s t c) () N)) -∗ wp frame (wpE (defs₀ (F := F)) 𝒱₀ (c : Thread nD τ) none) Set.univ (k ⟨⟩) Ψ)
          -∗ wp frame (wpE (defs₀ (F := F)) 𝒱₀ (c : Thread nD τ) none) Set.univ (.op (.enqueueDma src (.remote (Dev.tc n : Thread nD τ) dst (.dma qS) hsc) (.dma qR) hsrc hdst hsem) k) Ψ) := by
  subst hn hs hd hqS hqR
  unfold ow
  iintro ⟨#HR, ⟨%W, HO⟩, Ht, Ht', Hx, ⟨%f, Hg⟩⟩ Hk
  ihave #HI := (records_inv m ρ K (c, some (2, s, t))) $$ HR
  ihave #HI' := (records_inv m ρ K (pl s c, some (3, s, t))) $$ HR
  ihave #Hr := (records_reached m ρ K (c, some (2, s, t))) $$ HR
  ihave #Hr' := (records_reached m ρ K (pl s c, some (3, s, t))) $$ HR
  have hpay₁ : gP c s t (pC m ρ c) ⊢ (sched m ρ).payload (dCell 2 s t c) 0 0 := by rw [payload_d]; exact BI.Entails.refl _
  have hpay₂ := Entails.of_eq (rs_landed m ρ c s t f)
  rw [show pP (pl s c) s t (prC m ρ (pl s c)) = (sched m ρ).payload (dCell 3 s t (pl s c)) 0 0 from (payload_d m ρ (pl s c) 3 s t 0).symm] at hpay₂
  unfold pP gP at *
  iapply (Rounds.wp_send_pointsTo 𝒱₀ ER (sched m ρ) (c : Thread nD τ) none (c' := ((pl s c : Dev nD) : Thread nD τ)) (src := gT s t) (dst := pT s t) (sS := .dma (dsem 2 s t)) (sem := .dma (dsem 3 s t)) (κ₁ := K (c, some (2, s, t))) (κ₂ := K (pl s c, some (3, s, t)))
    (r₁ := 0) (r₂ := 0) (d₁ := 0) (d₂ := 0) (fd := f)
    (by rw [duties_d]; exact Finset.mem_singleton_self _) (by rw [duties_d]; exact Finset.mem_singleton_self _)
    () () N (credit_pT s t) (amount_d m ρ c 2 s t 0) (amount_d m ρ (pl s c) 3 s t 0) (owe c r) hr (W := W)
    hpay₁ hpay₂) $$ [HO Ht Ht' Hx Hg]
  · isplitr; · iexact HI
    isplitr; · iexact HI'
    isplitl [Hx]; · iexact Hx
    isplitl [Hg]; · iexact Hg
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  iexact Hc

end Rules

end Cert.AggRun

end
-- ==== Proof.Loops.lean ====
/-
Loops over tiles: a resource of a family is changed tile by tile. The contraction loop, and one trip of a scatter loop.
-/
module

public import proofs.«01_k».proof.Proof.Steps
public import Idealize.ShloMosaic.Lib.Scf

@[expose] public section

noncomputable section

namespace Cert.AggRun

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A family changed one member at a time -/

/-- The members below `k` at `D`, the others at `T`. -/
def upTo {n : ℕ} (D T : Fin n → sProp 𝕄) (k : ℕ) : sProp 𝕄 := bigSep Finset.univ fun t : Fin n => if t.val < k then D t else T t

theorem upTo_zero {n : ℕ} (D T : Fin n → sProp 𝕄) : upTo D T 0 = bigSep Finset.univ T := by
  unfold upTo; exact bigSep_congr fun t _ => if_neg (Nat.not_lt_zero _)
theorem upTo_full {n : ℕ} (D T : Fin n → sProp 𝕄) : upTo D T n = bigSep Finset.univ D := by
  unfold upTo; exact bigSep_congr fun t _ => if_pos t.isLt
theorem upTo_step {n : ℕ} (D T : Fin n → sProp 𝕄) (k : Fin n) : upTo D T k.val ⊢ iprop(T k ∗ (D k -∗ upTo D T (k.val + 1))) := by
  have e1 : upTo D T k.val = iprop(T k ∗ bigSep (Finset.univ.erase k) fun t : Fin n => if t.val < k.val then D t else T t) := by
    unfold upTo
    rw [bigSep_erase (Finset.mem_univ k), if_neg (Nat.lt_irrefl _)]
    rfl
  have e2 : upTo D T (k.val + 1) = iprop(D k ∗ bigSep (Finset.univ.erase k) fun t : Fin n => if t.val < k.val then D t else T t) := by
    unfold upTo
    rw [bigSep_erase (Finset.mem_univ k), if_pos (Nat.lt_succ_self _)]
    refine congrArg _ (bigSep_congr fun t ht => ?_)
    have hne : t.val ≠ k.val := fun h => (Finset.mem_erase.mp ht).1 (Fin.ext h)
    by_cases h : t.val < k.val
    · rw [if_pos h, if_pos (by omega)]
    · rw [if_neg h, if_neg (by omega)]
  rw [e1, e2]
  iintro ⟨HT, HR⟩
  isplitl [HT]; · iexact HT
  iintro HD
  isplitl [HD] <;> iassumption

/-- A loop whose trips each turn one member of a family from `T` to `D` beside a running state `J`. -/
theorem wp_tiles_loop {c : Dev nD} (lp : Scf.Loop 32) (ok : lp.OK) {n : ℕ} (hn : lp.trips = n)
    (body : Fin lp.trips → Unit → Prog (TpuEff nD τ sig (Elt F) Λ₀ .tc) Unit) (J : ℕ → sProp 𝕄) (D T : Fin n → sProp 𝕄)
    (hbody : ∀ k : Fin lp.trips, iprop(J k.val ∗ T (Fin.cast hn k))
      ⊢ wp frame (wpE (defs₀ (F := F)) 𝒱₀ (c : Thread nD τ) none) Set.univ (body k ()) fun _ => iprop(J (k.val + 1) ∗ D (Fin.cast hn k)))
    {Ψ : Unit → sProp 𝕄} :
    iprop(J 0 ∗ bigSep Finset.univ T)
      ⊢ iprop(((J n ∗ bigSep Finset.univ D) -∗ Ψ ())
          -∗ wp frame (wpE (defs₀ (F := F)) 𝒱₀ (c : Thread nD τ) none) Set.univ (Scf.Loop.for lp ok () body) Ψ) := by
  iintro ⟨HJ, HT⟩ Hk
  iapply (Scf.wp_for frame (wpE (defs₀ (F := F)) 𝒱₀ (c : Thread nD τ) none) Set.univ lp.lb lp.ub lp.st ok () body (fun k _ => iprop(J k ∗ upTo D T k))
    (fun k acc => by
      have hs : upTo D T k.val ⊢ iprop(T (Fin.cast hn k) ∗ (D (Fin.cast hn k) -∗ upTo D T (k.val + 1))) := upTo_step D T (Fin.cast hn k)
      iintro ⟨HJ, HU⟩
      ihave HU := hs $$ HU
      icases HU with ⟨HT, HU⟩
      iapply (wp_wand_r frame (wpE (defs₀ (F := F)) 𝒱₀ (c : Thread nD τ) none) Set.univ)
      isplitl [HJ HT]
      · iapply (hbody k); isplitl [HJ] <;> iassumption
      iintro %a ⟨HJ, HD⟩
      isplitl [HJ]; · iexact HJ
      iapply HU; iexact HD))
  isplitl [HJ HT]
  · isplitl [HJ]; · iexact HJ
    rw [upTo_zero]; iexact HT
  iintro %a ⟨HJ, HU⟩
  cases a
  have e : Scf.trips lp.lb lp.ub lp.st = n := hn
  rw [e]
  iapply Hk
  isplitl [HJ]; · iexact HJ
  iapply (Entails.of_eq (upTo_full D T)); iexact HU

variable (m : (ℓ : Loc nD τ sig) → Buf (Elt F) ℓ) (ρ : Dev nD → PrngReg)

/-! ## The contraction -/

/-- The resident weights of device `c`. -/
def wt (c : Dev nD) : sProp 𝕄 := iprop((aM.view.loc (c : Thread nD τ) ↦{fullShare} w1C m c) ∗ (bM.view.loc (c : Thread nD τ) ↦{fullShare} w2C m c))

theorem readAt_slab1 (c : Dev nD) (n : ℕ) (hn : n < 4) {off : Fin 2 → ℕ} (ho : off = ![0, 1024 * n]) (h) :
    aM.view.readAt (Elt F) (Rect.unit (s := S1024x4096) off S1024x1024.size h).toLoadRect (w1C m c) = w1s m c n := by
  subst ho
  funext j
  show w1C m c ((Rect.unit (s := S1024x4096) ![0, 1024 * n] S1024x1024.size h).toLoadRect.idx j) = w1C m c _
  refine congrArg _ (funext fun a => Fin.ext ?_)
  have h1 : (j 1).val < 1024 := (j 1).isLt
  match a with
  | ⟨0, _⟩ => show 0 + 1 * (j 0).val = (j 0).val; omega
  | ⟨1, _⟩ => show 1024 * n + 1 * (j 1).val = (1024 * n + (j 1).val) % 4096; omega
theorem readAt_slab2 (c : Dev nD) (n : ℕ) (hn : n < 4) {off : Fin 2 → ℕ} (ho : off = ![1024 * n, 0]) (h) :
    bM.view.readAt (Elt F) (Rect.unit (s := S4096x1024) off S1024x1024.size h).toLoadRect (w2C m c) = w2s m c n := by
  subst ho
  funext j
  show w2C m c ((Rect.unit (s := S4096x1024) ![1024 * n, 0] S1024x1024.size h).toLoadRect.idx j) = w2C m c _
  refine congrArg _ (funext fun a => Fin.ext ?_)
  have h0 : (j 0).val < 1024 := (j 0).isLt
  match a with
  | ⟨0, _⟩ => show 1024 * n + 1 * (j 0).val = (1024 * n + (j 0).val) % 4096; omega
  | ⟨1, _⟩ => show 0 + 1 * (j 1).val = (j 1).val; omega

/-- The contraction loop over the four slabs of the hidden dimension. -/
theorem wp_gemm_loop (c : Dev nD) (lp : Scf.Loop 32) (ok : lp.OK) (h4 : lp.trips = 4) (x : FVec F S256x1024 .bf16)
    (init : FVec F S256x1024 .f32) (hinit : init = k0_pay16)
    (oA oB : Fin lp.trips → Fin 2 → ℕ) (hA : ∀ k, oA k = ![0, 1024 * k.val]) (hB : ∀ k, oB k = ![1024 * k.val, 0])
    (iA : ∀ k, ∀ a, oA k a + S1024x1024.size a ≤ S1024x4096.size a) (iB : ∀ k, ∀ a, oB k a + S1024x1024.size a ≤ S4096x1024.size a)
    (lA : ∀ k, aM.view.LoadsAt (Rect.unit (s := S1024x4096) (oA k) S1024x1024.size (iA k)).toLoadRect)
    (lB : ∀ k, bM.view.LoadsAt (Rect.unit (s := S4096x1024) (oB k) S1024x1024.size (iB k)).toLoadRect)
    (pay : FVec F S256x1024 .f32 → Vec F S1024x1024 .bf16 → Vec F S1024x1024 .bf16 → FVec F S256x1024 .f32)
    (hpay : ∀ acc a b, pay acc a b = k0_pay17 x acc a b)
    (body : Fin lp.trips → FVec F S256x1024 .f32 → Prog (TpuEff nD τ sig (Elt F) Λ₀ .tc) (FVec F S256x1024 .f32))
    (hbody : ∀ k acc, body k acc = .op (.load aM (Rect.unit (s := S1024x4096) (oA k) S1024x1024.size (iA k)).toLoadRect (lA k)) fun w1 =>
      .op (.load bM (Rect.unit (s := S4096x1024) (oB k) S1024x1024.size (iB k)).toLoadRect (lB k)) fun w2 => .ret (pay acc w1 w2))
    {Ψ : FVec F S256x1024 .f32 → sProp 𝕄} :
    wt m c ⊢ iprop((wt m c -∗ Ψ (gacc m x c 4))
      -∗ wp frame (wpE (defs₀ (F := F)) 𝒱₀ (c : Thread nD τ) none) Set.univ (Scf.Loop.for lp ok init body) Ψ) := by
  iintro HW Hk
  iapply (Scf.wp_for frame (wpE (defs₀ (F := F)) 𝒱₀ (c : Thread nD τ) none) Set.univ lp.lb lp.ub lp.st ok init body
    (fun k acc => iprop(⌜acc = gacc m x c k⌝ ∗ wt m c))
    (fun k acc => by
      have hk4 : k.val < 4 := lt_of_lt_of_eq k.isLt h4
      rw [hbody]
      unfold wt
      iintro ⟨%hacc, Ha, Hb⟩
      iapply (wp_load 𝒱₀ (c : Thread nD τ) none Set.univ (m := aM) (Finset.subset_univ _)) $$ Ha
      iintro Ha
      iapply (wp_load 𝒱₀ (c : Thread nD τ) none Set.univ (m := bM) (Finset.subset_univ _)) $$ Hb
      iintro Hb
      rw [wp_ret]
      imodintro
      isplitr
      · ipureintro
        show pay acc (aM.view.readAt (Elt F) (Rect.unit (s := S1024x4096) (oA k) S1024x1024.size (iA k)).toLoadRect (w1C m c)) (bM.view.readAt (Elt F) (Rect.unit (s := S4096x1024) (oB k) S1024x1024.size (iB k)).toLoadRect (w2C m c)) = gacc m x c (k.val + 1)
        rw [readAt_slab1 m c k.val hk4 (hA k), readAt_slab2 m c k.val hk4 (hB k), hpay, hacc]; rfl
      isplitl [Ha] <;> iassumption))
  isplitl [HW]
  · isplitr; · ipureintro; exact hinit
    iexact HW
  iintro %acc ⟨%hacc, HW⟩
  have e : Scf.trips lp.lb lp.ub lp.st = 4 := h4
  rw [hacc, e]
  iapply Hk; iexact HW

/-! ## A buffer as its blocks -/

/-- A whole buffer is its blocks, told apart by a function from indices to block numbers. -/
theorem whole_eq_blocks {ι : Type} [Fintype ι] [DecidableEq ι] {ℓ : Loc nD τ sig} (I : ι → Finset (Idx ℓ)) (φ : Idx ℓ → ι)
    (h : ∀ b i, i ∈ I b ↔ φ i = b) {q : PosShare TreeShare} (f : Buf (Elt F) ℓ) :
    (ℓ ↦{q} f : sProp 𝕄) = bigSep Finset.univ fun b => ℓ ↦[I b]{q} f :=
  Ring.pointsTo_blocks I (blocks_facts I φ h).1 (blocks_facts I φ h).2 f
/-- Blocks at contents of their own join to the buffer at some contents. -/
theorem blocks_join {ι : Type} [Fintype ι] [DecidableEq ι] {ℓ : Loc nD τ sig} (I : ι → Finset (Idx ℓ)) (φ : Idx ℓ → ι)
    (h : ∀ b i, i ∈ I b ↔ φ i = b) {q : PosShare TreeShare} (f₀ : Buf (Elt F) ℓ) :
    (bigSep Finset.univ fun b => iprop(∃ f, ℓ ↦[I b]{q} f)) ⊢ (iprop(∃ g, ℓ ↦{q} g) : sProp 𝕄) :=
  Ring.pointsTo_blocks_join_exists I (blocks_facts I φ h).1 (blocks_facts I φ h).2 f₀

end Cert.AggRun

end
-- ==== Proof.Stream.lean ====
/-
The weights: streamed tile by tile through two slots into the resident copies, the copy of the next tile under way while
one tile is taken.
-/
module

public import proofs.«01_k».proof.Proof.Loops

@[expose] public section

noncomputable section

namespace Cert.AggRun

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## A stream of tiles through two slots -/

/-- Of a family without one member, another member may be taken and the missing one put back. -/
theorem erase_swap {ι : Type} [Fintype ι] [DecidableEq ι] (Φ : ι → sProp 𝕄) {a b : ι} (hab : b ≠ a) :
    bigSep (Finset.univ.erase a) Φ ⊢ iprop(Φ b ∗ (Φ a -∗ bigSep (Finset.univ.erase b) Φ)) := by
  have e1 : bigSep (Finset.univ.erase a) Φ = iprop(Φ b ∗ bigSep ((Finset.univ.erase a).erase b) Φ) :=
    bigSep_erase (Finset.mem_erase.mpr ⟨hab, Finset.mem_univ _⟩)
  have e2 : bigSep (Finset.univ.erase b) Φ = iprop(Φ a ∗ bigSep ((Finset.univ.erase a).erase b) Φ) := by
    rw [Finset.erase_right_comm]
    exact bigSep_erase (Finset.mem_erase.mpr ⟨hab.symm, Finset.mem_univ _⟩)
  rw [e1, e2]
  iintro ⟨H, HR⟩
  isplitl [H]; · iexact H
  iintro H
  isplitl [H] <;> iassumption

set_option backward.proofsInPublic true in
/-- The slot of tile `k`. -/
def par (k : ℕ) : Fin 2 := ⟨k % 2, Nat.mod_lt _ (by decide)⟩

/-- Trip `k` issues the copy of tile `k + 1` into the free slot and takes tile `k`, whose copy was in flight. -/
theorem wp_stream_loop {c : Dev nD} (lp : Scf.Loop 32) (ok : lp.OK) (n : ℕ) (hn : lp.trips = n)
    (body : Fin lp.trips → Unit → Prog (TpuEff nD τ sig (Elt F) Λ₀ .tc) Unit)
    (J : sProp 𝕄) (free : Fin 2 → sProp 𝕄) (src fly D T : Fin (n + 1) → sProp 𝕄)
    (hbody : ∀ k : Fin lp.trips, iprop(J ∗ fly (Fin.cast hn k).castSucc ∗ src (Fin.cast hn k).succ ∗ free (par (k.val + 1)) ∗ T (Fin.cast hn k).castSucc)
      ⊢ wp frame (wpE (defs₀ (F := F)) 𝒱₀ (c : Thread nD τ) none) Set.univ (body k ()) fun _ => iprop(J ∗ fly (Fin.cast hn k).succ ∗ src (Fin.cast hn k).castSucc ∗ free (par k.val) ∗ D (Fin.cast hn k).castSucc))
    {Ψ : Unit → sProp 𝕄} :
    iprop(J ∗ fly 0 ∗ free 1 ∗ bigSep (Finset.univ.erase 0) src ∗ bigSep Finset.univ T)
      ⊢ iprop(((J ∗ fly (Fin.last n) ∗ free (par (n + 1)) ∗ bigSep (Finset.univ.erase (Fin.last n)) src ∗ upTo D T n) -∗ Ψ ())
          -∗ wp frame (wpE (defs₀ (F := F)) 𝒱₀ (c : Thread nD τ) none) Set.univ (Scf.Loop.for lp ok () body) Ψ) := by
  iintro ⟨HJ, Hf, Hs, Hsrc, HT⟩ Hk
  iapply (Scf.wp_for frame (wpE (defs₀ (F := F)) 𝒱₀ (c : Thread nD τ) none) Set.univ lp.lb lp.ub lp.st ok () body
    (fun k _ => iprop(∃ h : k < n + 1, J ∗ fly ⟨k, h⟩ ∗ free (par (k + 1)) ∗ bigSep (Finset.univ.erase ⟨k, h⟩) src ∗ upTo D T k))
    (fun k acc => by
      have hk : k.val < n := lt_of_lt_of_eq k.isLt hn
      have hs : upTo D T k.val ⊢ iprop(T (Fin.cast hn k).castSucc ∗ (D (Fin.cast hn k).castSucc -∗ upTo D T (k.val + 1))) := upTo_step D T (Fin.cast hn k).castSucc
      have he : ∀ h : k.val < n + 1, bigSep (Finset.univ.erase ⟨k.val, h⟩) src ⊢ iprop(src (Fin.cast hn k).succ ∗ (src (Fin.cast hn k).castSucc -∗ bigSep (Finset.univ.erase (Fin.cast hn k).succ) src)) :=
        fun _ => erase_swap src (fun h => by have := congrArg Fin.val h; simp at this)
      have hp : free (par k.val) = free (par (k.val + 1 + 1)) := congrArg free (Fin.ext (by show k.val % 2 = (k.val + 1 + 1) % 2; omega))
      iintro ⟨%h, HJ, Hf, Hs, Hsrc, HU⟩
      ihave HU := hs $$ HU
      icases HU with ⟨HT, HU⟩
      ihave Hsrc := (he h) $$ Hsrc
      icases Hsrc with ⟨Hn, Hsrc⟩
      iapply (wp_wand_r frame (wpE (defs₀ (F := F)) 𝒱₀ (c : Thread nD τ) none) Set.univ)
      isplitl [HJ Hf Hs Hn HT]
      · iapply (hbody k)
        isplitl [HJ]; · iexact HJ
        isplitl [Hf]; · iapply (Entails.of_eq (show fly ⟨k.val, h⟩ = fly (Fin.cast hn k).castSucc from rfl)); iexact Hf
        isplitl [Hn]; · iexact Hn
        isplitl [Hs] <;> iassumption
      iintro %a ⟨HJ, Hf, Ho, Hs, HD⟩
      iexists (Nat.succ_lt_succ hk)
      isplitl [HJ]; · iexact HJ
      isplitl [Hf]; · iapply (Entails.of_eq (show fly (Fin.cast hn k).succ = fly ⟨k.val + 1, Nat.succ_lt_succ hk⟩ from rfl)); iexact Hf
      isplitl [Hs]; · iapply (Entails.of_eq hp); iexact Hs
      isplitl [Hsrc Ho]
      · iapply (Entails.of_eq (show bigSep (Finset.univ.erase (Fin.cast hn k).succ) src = bigSep (Finset.univ.erase ⟨k.val + 1, Nat.succ_lt_succ hk⟩) src from rfl))
        iapply Hsrc; iexact Ho
      iapply HU; iexact HD))
  isplitl [HJ Hf Hs Hsrc HT]
  · iexists (Nat.succ_pos n)
    isplitl [HJ]; · iexact HJ
    isplitl [Hf]; · iapply (Entails.of_eq (show fly 0 = fly ⟨0, Nat.succ_pos n⟩ from rfl)); iexact Hf
    isplitl [Hs]; · iapply (Entails.of_eq (show free 1 = free (par (0 + 1)) from rfl)); iexact Hs
    isplitl [Hsrc]; · iexact Hsrc
    rw [upTo_zero]; iexact HT
  iintro %a ⟨%h, HJ, Hf, Hs, Hsrc, HU⟩
  cases a
  have e : Scf.trips lp.lb lp.ub lp.st = n := hn
  have hf : fly ⟨Scf.trips lp.lb lp.ub lp.st, h⟩ = fly (Fin.last n) := congrArg fly (Fin.ext e)
  have hsr : bigSep (Finset.univ.erase ⟨Scf.trips lp.lb lp.ub lp.st, h⟩) src = bigSep (Finset.univ.erase (Fin.last n)) src :=
    congrArg (fun i => bigSep (Finset.univ.erase i) src) (Fin.ext e)
  have hfr : free (par (Scf.trips lp.lb lp.ub lp.st + 1)) = free (par (n + 1)) := by rw [e]
  have hu : upTo D T (Scf.trips lp.lb lp.ub lp.st) = upTo D T n := by rw [e]
  iapply Hk
  isplitl [HJ]; · iexact HJ
  isplitl [Hf]; · iapply (Entails.of_eq hf); iexact Hf
  isplitl [Hs]; · iapply (Entails.of_eq hfr); iexact Hs
  isplitl [Hsrc]; · iapply (Entails.of_eq hsr); iexact Hsrc
  iapply (Entails.of_eq hu); iexact HU

theorem semw_of (p : Fin 2) {off : Fin 1 → ℕ} (ho : off = ![p.val]) (h) :
    ((cc0_scratch10.slice (Rect.unit (s := S2) off S1.size h)).squeeze S_ squeezes_S1_S_).sem = wsem p := by
  subst ho; exact semAtw p h

/-- What a streaming wait needs: the levels, what is owed. -/
def stJ (c : Dev nD) (n : ℕ) : sProp 𝕄 := iprop(levAts L lv ∗ ow c n)

/-! ## The stream of the weights number 1 -/

def w1V (c : Dev nD) : (main_arg1 : Ref sig .tc).ty.Contents (Elt F) := m ((c : Thread nD τ).loc main_arg1)
/-- A slot holding tile `k` of the weights. -/
def uTC (c : Dev nD) (k : ℕ) : (cc0_scratch4 : Ref sig .tc).ty.Contents (Elt F) :=
  fun j => w1V m c (ix2 ⟨(128 * k + (j 1).val) % 1024, Nat.mod_lt _ (by decide)⟩ (j 2))
def N1 : ℕ := (uT 0).view.dmaCredit
theorem N1_pos : 0 < N1 := View.dmaCredit_pos _ (by decide)

theorem read_uT (p : Fin 2) (f : (cc0_scratch4 : Ref sig .tc).ty.Contents (Elt F)) :
    (uT p).view.read (Elt F) f = fun j : S128x4096.Idx => f (ix3 p (j 0) (j 1)) := by
  funext j
  show f ((uR p).emb (Shape.reshapeEquiv _ j)) = _
  rw [unsqueeze]
  refine congrArg f (Shape.idx3_ext ?_ ?_ ?_)
  · show p.val + 1 * 0 = p.val; omega
  · show 0 + 1 * (j 0).val = (j 0).val; omega
  · show 0 + 1 * (j 1).val = (j 1).val; omega
theorem emb_aR (k : Fin 8) (j : S128x4096.Idx) :
    (aR k).emb j = (ix2 ⟨128 * k.val + (j 0).val, by have : (j 0).val < 128 := (j 0).isLt; omega⟩ (j 1) : S1024x4096.Idx) := by
  refine funext fun a => Fin.ext ?_
  match a with
  | ⟨0, _⟩ => show 128 * k.val + 1 * (j 0).val = 128 * k.val + (j 0).val; omega
  | ⟨1, _⟩ => show 0 + 1 * (j 1).val = (j 1).val; omega
theorem read_uTC (c : Dev nD) (p : Fin 2) (k : Fin 8) :
    (uT p).view.read (Elt F) (uTC m c k.val) = (w1T k).view.read (Elt F) (w1V m c) := by
  rw [read_uT]
  funext j
  have h : (j 0).val < 128 := (j 0).isLt
  show w1V m c _ = w1V m c ((aR k).emb j)
  rw [emb_aR]
  exact congrArg _ (congrArg (fun a => ix2 a (j 1)) (Fin.ext (Nat.mod_eq_of_lt (show 128 * k.val + (j 0).val < 1024 by omega))))

def uTP (c : Dev nD) (p : Fin 2) (f : (cc0_scratch4 : Ref sig .tc).ty.Contents (Elt F)) : sProp 𝕄 :=
  (uT p).view.loc (c : Thread nD τ) ↦[(uT p).view.set]{fullShare} f
/-- Tile `k` of the weights in high-bandwidth memory; of the resident weights at contents `f`. -/
def w1TP (c : Dev nD) (k : Fin 8) : sProp 𝕄 := (w1T k).view.loc (c : Thread nD τ) ↦[(w1T k).view.set]{fullShare} w1V m c
def aRP (c : Dev nD) (k : Fin 8) (f : (cc0_scratch2 : Ref sig .tc).ty.Contents (Elt F)) : sProp 𝕄 :=
  aM.view.loc (c : Thread nD τ) ↦[(aR k).set]{fullShare} f
/-- A free slot; the copy of tile `k` in flight. -/
def uTF (c : Dev nD) (p : Fin 2) : sProp 𝕄 := iprop((∃ f, uTP c p f) ∗ semVal ((c : Thread nD τ), .dma (wsem p)) 0)
def fly1 (c : Dev nD) (k : Fin 8) : sProp 𝕄 :=
  Transfers.Flight EC (c : Thread nD τ) (.dma (wsem (par k.val))) () N1 iprop(uTP c (par k.val) (uTC m c k.val) ∗ w1TP m c k)

theorem uT_landed (c : Dev nD) (p : Fin 2) (k : Fin 8) (fd : Buf (Elt F) ((uT p).view.loc (c : Thread nD τ))) :
    ((uT p).view.loc (c : Thread nD τ) ↦[(uT p).view.set]{fullShare}
      ((uT p).view.write (Elt F) fd ((w1T k).view.read (Elt F) (w1V m c)) Finset.univ) : sProp 𝕄) = uTP c p (uTC m c k.val) := by
  unfold uTP
  exact pts_landed (c := (c : Thread nD τ)) (uT p).view fd _ _ (read_uTC m c p k)

theorem wp_issue1 {α : Type} {Ψ : α → sProp 𝕄} {kk : PUnit → Prog (TpuEff nD τ sig (Elt F) Λ₀ .tc) α} (c : Dev nD) (k : Fin 8)
    {oq : Fin 1 → ℕ} {ou : Fin 3 → ℕ} {oa : Fin 2 → ℕ} (hoq : oq = ![(par k.val).val]) (hou : ou = ![(par k.val).val, 0, 0]) (hoa : oa = ![128 * k.val, 0])
    {iq : ∀ a, oq a + S1.size a ≤ S2.size a} {iu : ∀ a, ou a + S1x128x4096.size a ≤ S2x128x4096.size a} {ia : ∀ a, oa a + S128x4096.size a ≤ S1024x4096.size a}
    {hsrc hdst hsem} :
    iprop(uTF c (par k.val) ∗ w1TP m c k)
      ⊢ iprop((fly1 m c k -∗ wp frame (wpE (defs₀ (F := F)) 𝒱₀ (c : Thread nD τ) none) Set.univ (kk ⟨⟩) Ψ)
        -∗ wp frame (wpE (defs₀ (F := F)) 𝒱₀ (c : Thread nD τ) none) Set.univ (.op (.enqueueDma (w1M.slice (Rect.unit (s := S1024x4096) oa S128x4096.size ia) (fun _ => rfl))
            (.here ((uM.slice (Rect.unit (s := S2x128x4096) ou S1x128x4096.size iu) (fun _ => rfl)).squeeze S128x4096 squeezes_S1x128x4096_S128x4096))
            (.dma ((cc0_scratch10.slice (Rect.unit (s := S2) oq S1.size iq)).squeeze S_ squeezes_S1_S_).sem) hsrc hdst hsem) kk) Ψ) := by
  have hq := semw_of (par k.val) hoq iq
  subst hou hoa
  revert hsem
  rw [hq]
  intro hsem
  have hf : ∀ f, (Transfers.Flight EC (c : Thread nD τ) (.dma (wsem (par k.val))) () N1
        iprop(((uT (par k.val)).view.loc (c : Thread nD τ) ↦[(uT (par k.val)).view.set]{fullShare}
          ((uT (par k.val)).view.write (Elt F) f ((w1T k).view.read (Elt F) (w1V m c)) Finset.univ)) ∗ w1TP m c k) : sProp 𝕄) ⊢ fly1 m c k := fun f => by
    rw [uT_landed]; exact BI.Entails.refl _
  unfold uTF
  iintro ⟨⟨⟨%f, Hu⟩, Hs⟩, Hw⟩ Hk
  unfold uTP w1TP
  iapply (Transfers.wp_dmaLocal EC 𝒱₀ (c : Thread nD τ) none (src := w1T k) (dst := uT (par k.val)) (hsrc := hsrc) (hdst := hdst) (hsem := hsem) () N1 rfl N1_pos (Finset.Subset.refl _)) $$ [Hu Hs Hw]
  · isplitl [Hw]; · iexact Hw
    isplitl [Hu] <;> iassumption
  iintro Hfl
  iapply Hk
  iapply (hf f)
  unfold w1TP
  iexact Hfl

theorem aRAcc_set (k : Fin 8) : (aM.access (aR k)).set = (aR k).set := View.set_slice_whole _ _
theorem uTAcc_set (p : Fin 2) : (uM.access (uR p)).set = (uT p).view.set := (View.set_reshape _ _).symm
theorem shape_uT (p : Fin 2) (f : (cc0_scratch4 : Ref sig .tc).ty.Contents (Elt F)) :
    (shapeCast S128x4096 ((uM.access (uR p)).read (Elt F) f) shapeCasts_S1x128x4096_S128x4096 : FVec F S128x4096 .f32) = (uT p).view.read (Elt F) f := rfl
theorem aR_stored (c : Dev nD) (p : Fin 2) (k : Fin 8) (f : (cc0_scratch2 : Ref sig .tc).ty.Contents (Elt F)) :
    ((aM.access (aR k)).loc (c : Thread nD τ) ↦[(aR k).set]{fullShare}
      ((aM.access (aR k)).write (Elt F) f (truncf .bf16 (shapeCast S128x4096 ((uM.access (uR p)).read (Elt F) (uTC m c k.val)) shapeCasts_S1x128x4096_S128x4096 : FVec F S128x4096 .f32) bitsLt_bf16_f32 : FVec F S128x4096 .bf16) Finset.univ) : sProp 𝕄)
      = aRP c k (w1C m c) := by
  unfold aRP
  rw [← aRAcc_set, shape_uT, read_uTC]
  exact pts_landed (c := (c : Thread nD τ)) (aM.access (aR k)) f _ _ rfl

theorem wp_take1 {α : Type} {Ψ : α → sProp 𝕄} {kk : PUnit → Prog (TpuEff nD τ sig (Elt F) Λ₀ .tc) α} (c : Dev nD) (k : Fin 8) (n : ℕ)
    {oq : Fin 1 → ℕ} {ou ou' : Fin 3 → ℕ} {oa : Fin 2 → ℕ} (hoq : oq = ![(par k.val).val]) (hou : ou = ![(par k.val).val, 0, 0]) (hou' : ou' = ![(par k.val).val, 0, 0])
    (hoa : oa = ![128 * k.val, 0])
    {iq : ∀ a, oq a + S1.size a ≤ S2.size a} {iu : ∀ a, ou a + S1x128x4096.size a ≤ S2x128x4096.size a} {iu' : ∀ a, ou' a + S1x128x4096.size a ≤ S2x128x4096.size a} {ia : ∀ a, oa a + S128x4096.size a ≤ S1024x4096.size a}
    {sp' : Space} {s' : Shape} {e' : EltTy} {srcw : Memref sig .tc sp' s' e'} {hsrcw : srcw.view.WordExact} {hdstw hl hl'}
    (pay : Vec F S1x128x4096 .f32 → FVec F S128x4096 .bf16) (hpay : ∀ v, pay v = truncf .bf16 (shapeCast S128x4096 v shapeCasts_S1x128x4096_S128x4096 : FVec F S128x4096 .f32) bitsLt_bf16_f32)
    {hst : (aM.access (Rect.unit (s := S1024x4096) oa S128x4096.size ia)).Stores Finset.univ} {hm} :
    iprop(stJ c n ∗ fly1 m c k ∗ (∃ f, aRP c k f))
      ⊢ iprop(((stJ c n ∗ uTF c (par k.val) ∗ w1TP m c k ∗ aRP c k (w1C m c)) -∗ wp frame (wpE (defs₀ (F := F)) 𝒱₀ (c : Thread nD τ) none) Set.univ (kk ⟨⟩) Ψ)
        -∗ wp frame (wpE (defs₀ (F := F)) 𝒱₀ (c : Thread nD τ) none) Set.univ (.op (.waitDma2 ((cc0_scratch10.slice (Rect.unit (s := S2) oq S1.size iq)).squeeze S_ squeezes_S1_S_).sem srcw
            ((uM.slice (Rect.unit (s := S2x128x4096) ou S1x128x4096.size iu) (fun _ => rfl)).squeeze S128x4096 squeezes_S1x128x4096_S128x4096) hsrcw hdstw) fun _ =>
          .op (.load uM (Rect.unit (s := S2x128x4096) ou' S1x128x4096.size iu').toLoadRect hl) fun v =>
          .op (.load aM (Rect.unit (s := S1024x4096) oa S128x4096.size ia).toLoadRect hl') fun _ =>
          .op (.store aM (Rect.unit (s := S1024x4096) oa S128x4096.size ia) (pay v) Finset.univ hst hm) kk) Ψ) := by
  have hq := semw_of (par k.val) hoq iq
  subst hou hou' hoa
  rw [hq]
  unfold stJ fly1 ow
  iintro ⟨⟨#HL, ⟨%W, HO⟩⟩, Hf, ⟨%f, Ha⟩⟩ Hk
  iapply (Transfers.wp_waitLocalO EC 𝒱₀ (c : Thread nD τ) none (hsrc := hsrcw) (hdst := hdstw) () (N := N1) rfl (O := owe c n) (W := W)) $$ [HO Hf]
  · isplitl [Hf]; · iexact Hf
    isplitl [HO]; · iexact HO
    iapply (mayWait_low c (.dma (wsem (par k.val))) n (lvS_wsem _)) $$ HL
  iintro ⟨⟨Hu, Hw⟩, Hs, HO⟩
  unfold uTP
  iapply (wp_load_rect 𝒱₀ (c : Thread nD τ) none Set.univ (m := uM) (r := uR (par k.val)) (uTAcc_set _).le) $$ Hu
  iintro Hu
  unfold aRP
  iapply (wp_load_rect 𝒱₀ (c : Thread nD τ) none Set.univ (m := aM) (r := aR k) (aRAcc_set k).le) $$ Ha
  iintro Ha
  iapply (wp_store 𝒱₀ (c : Thread nD τ) none Set.univ (m := aM) (r := aR k) (aRAcc_set k).le) $$ Ha
  rw [hpay]
  iintro Ha
  ihave Ha := (Entails.of_eq (aR_stored m c (par k.val) k f)) $$ Ha
  iapply Hk
  isplitl [HO]
  · isplitr; · iexact HL
    iexists _; iexact HO
  isplitl [Hu Hs]
  · unfold uTF uTP
    isplitl [Hu]; · iexists _; iexact Hu
    iexact Hs
  isplitl [Hw]; · iexact Hw
  unfold aRP
  iexact Ha

theorem k0_off1_par : ∀ k : Fin k0_t1_loop.trips, k0_off1 k = ![(par (k.val + 1)).val] := by decide +kernel
theorem k0_off2_par : ∀ k : Fin k0_t1_loop.trips, k0_off2 k = ![(par (k.val + 1)).val, 0, 0] := by decide +kernel
theorem k0_off3_par : ∀ k : Fin k0_t1_loop.trips, k0_off3 k = ![128 * (k.val + 1), 0] := by decide +kernel
theorem k0_off4_par : ∀ k : Fin k0_t1_loop.trips, k0_off4 k = ![(par k.val).val] := by decide +kernel
theorem k0_off5_par : ∀ k : Fin k0_t1_loop.trips, k0_off5 k = ![(par k.val).val, 0, 0] := by decide +kernel
theorem k0_off7_par : ∀ k : Fin k0_t1_loop.trips, k0_off7 k = ![(par k.val).val, 0, 0] := by decide +kernel

/-- The streaming loop of the weights number 1. -/
theorem wp_t1 (c : Dev nD) (v2 : BitVec 32) {Ψ : Unit → sProp 𝕄} :
    iprop(stJ c 20 ∗ fly1 m c 0 ∗ uTF c 1 ∗ bigSep (Finset.univ.erase 0) (w1TP m c) ∗ bigSep Finset.univ fun k => iprop(∃ f, aRP c k f))
      ⊢ iprop(((stJ c 20 ∗ fly1 m c (Fin.last 7) ∗ uTF c (par 8) ∗ bigSep (Finset.univ.erase (Fin.last 7)) (w1TP m c)
            ∗ upTo (fun k => aRP c k (w1C m c)) (fun k => iprop(∃ f, aRP c k f)) 7) -∗ Ψ ())
          -∗ wp frame (wpE (defs₀ (F := F)) 𝒱₀ (c : Thread nD τ) none) Set.univ (Scf.Loop.for k0_t1_loop k0_t1_ok ⟨⟩ (k0_t1_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 v2)) Ψ) := by
  have hn : k0_t1_loop.trips = 7 := by decide +kernel
  exact wp_stream_loop (c := c) k0_t1_loop k0_t1_ok 7 hn (k0_t1_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 v2) (stJ c 20) (uTF c) (w1TP m c) (fly1 m c)
    (fun k => aRP c k (w1C m c)) (fun k => iprop(∃ f, aRP c k f)) (fun k => by
      unfold k0_t1_body
      rw [k0_part1_eq_skeleton, k0_part2_eq_skeleton]
      unfold k0_part1_skel k0_part2_skel
      simp only [Prog.lift, Prog.bind_op, Prog.bind_ret, Prog.pure_eq_ret, bind_assoc]
      iintro ⟨HJ, Hf, Hn, Hs, Ha⟩
      iapply (wp_issue1 m c (Fin.cast hn k).succ (k0_off1_par k) (k0_off2_par k) (k0_off3_par k)) $$ [Hn Hs]
      · isplitl [Hs]; · iexact Hs
        iexact Hn
      iintro Hfn
      iapply (wp_take1 m c (Fin.cast hn k).castSucc 20 (k0_off4_par k) (k0_off5_par k) (k0_off7_par k) (k0_off8_eq k)
        (fun v => k0_pay12 (k0_pay1 v)) (fun v => by unfold k0_pay12 k0_pay1; simp only [shapeCast_self])) $$ [HJ Hf Ha]
      · isplitl [HJ]; · iexact HJ
        isplitl [Hf]; · iexact Hf
        iexact Ha
      iintro ⟨HJ, Hs, Hw, Ha⟩
      rw [wp_ret]
      imodintro
      isplitl [HJ]; · iexact HJ
      isplitl [Hfn]; · iexact Hfn
      isplitl [Hw]; · iexact Hw
      isplitl [Hs]; · iexact Hs
      iexact Ha)

/-! ## The stream of the weights number 2 -/

def w2V (c : Dev nD) : (main_arg2 : Ref sig .tc).ty.Contents (Elt F) := m ((c : Thread nD τ).loc main_arg2)
/-- A slot holding tile `k` of the weights. -/
def vTC (c : Dev nD) (k : ℕ) : (cc0_scratch5 : Ref sig .tc).ty.Contents (Elt F) :=
  fun j => w2V m c (ix2 ⟨(256 * k + (j 1).val) % 4096, Nat.mod_lt _ (by decide)⟩ (j 2))
def N2 : ℕ := (vT 0).view.dmaCredit
theorem N2_pos : 0 < N2 := View.dmaCredit_pos _ (by decide)

theorem read_vT (p : Fin 2) (f : (cc0_scratch5 : Ref sig .tc).ty.Contents (Elt F)) :
    (vT p).view.read (Elt F) f = fun j : S256x1024.Idx => f (ix3 p (j 0) (j 1)) := by
  funext j
  show f ((vR p).emb (Shape.reshapeEquiv _ j)) = _
  rw [unsqueeze]
  refine congrArg f (Shape.idx3_ext ?_ ?_ ?_)
  · show p.val + 1 * 0 = p.val; omega
  · show 0 + 1 * (j 0).val = (j 0).val; omega
  · show 0 + 1 * (j 1).val = (j 1).val; omega
theorem emb_bR (k : Fin 16) (j : S256x1024.Idx) :
    (bR k).emb j = (ix2 ⟨256 * k.val + (j 0).val, by have : (j 0).val < 256 := (j 0).isLt; omega⟩ (j 1) : S4096x1024.Idx) := by
  refine funext fun a => Fin.ext ?_
  match a with
  | ⟨0, _⟩ => show 256 * k.val + 1 * (j 0).val = 256 * k.val + (j 0).val; omega
  | ⟨1, _⟩ => show 0 + 1 * (j 1).val = (j 1).val; omega
theorem read_vTC (c : Dev nD) (p : Fin 2) (k : Fin 16) :
    (vT p).view.read (Elt F) (vTC m c k.val) = (w2T k).view.read (Elt F) (w2V m c) := by
  rw [read_vT]
  funext j
  have h : (j 0).val < 256 := (j 0).isLt
  show w2V m c _ = w2V m c ((bR k).emb j)
  rw [emb_bR]
  exact congrArg _ (congrArg (fun a => ix2 a (j 1)) (Fin.ext (Nat.mod_eq_of_lt (show 256 * k.val + (j 0).val < 4096 by omega))))

def vTP (c : Dev nD) (p : Fin 2) (f : (cc0_scratch5 : Ref sig .tc).ty.Contents (Elt F)) : sProp 𝕄 :=
  (vT p).view.loc (c : Thread nD τ) ↦[(vT p).view.set]{fullShare} f
/-- Tile `k` of the weights in high-bandwidth memory; of the resident weights at contents `f`. -/
def w2TP (c : Dev nD) (k : Fin 16) : sProp 𝕄 := (w2T k).view.loc (c : Thread nD τ) ↦[(w2T k).view.set]{fullShare} w2V m c
def bRP (c : Dev nD) (k : Fin 16) (f : (cc0_scratch3 : Ref sig .tc).ty.Contents (Elt F)) : sProp 𝕄 :=
  bM.view.loc (c : Thread nD τ) ↦[(bR k).set]{fullShare} f
/-- A free slot; the copy of tile `k` in flight. -/
def vTF (c : Dev nD) (p : Fin 2) : sProp 𝕄 := iprop((∃ f, vTP c p f) ∗ semVal ((c : Thread nD τ), .dma (wsem p)) 0)
def fly2 (c : Dev nD) (k : Fin 16) : sProp 𝕄 :=
  Transfers.Flight EC (c : Thread nD τ) (.dma (wsem (par k.val))) () N2 iprop(vTP c (par k.val) (vTC m c k.val) ∗ w2TP m c k)

theorem vT_landed (c : Dev nD) (p : Fin 2) (k : Fin 16) (fd : Buf (Elt F) ((vT p).view.loc (c : Thread nD τ))) :
    ((vT p).view.loc (c : Thread nD τ) ↦[(vT p).view.set]{fullShare}
      ((vT p).view.write (Elt F) fd ((w2T k).view.read (Elt F) (w2V m c)) Finset.univ) : sProp 𝕄) = vTP c p (vTC m c k.val) := by
  unfold vTP
  exact pts_landed (c := (c : Thread nD τ)) (vT p).view fd _ _ (read_vTC m c p k)

theorem wp_issue2 {α : Type} {Ψ : α → sProp 𝕄} {kk : PUnit → Prog (TpuEff nD τ sig (Elt F) Λ₀ .tc) α} (c : Dev nD) (k : Fin 16)
    {oq : Fin 1 → ℕ} {ou : Fin 3 → ℕ} {oa : Fin 2 → ℕ} (hoq : oq = ![(par k.val).val]) (hou : ou = ![(par k.val).val, 0, 0]) (hoa : oa = ![256 * k.val, 0])
    {iq : ∀ a, oq a + S1.size a ≤ S2.size a} {iu : ∀ a, ou a + S1x256x1024.size a ≤ S2x256x1024.size a} {ia : ∀ a, oa a + S256x1024.size a ≤ S4096x1024.size a}
    {hsrc hdst hsem} :
    iprop(vTF c (par k.val) ∗ w2TP m c k)
      ⊢ iprop((fly2 m c k -∗ wp frame (wpE (defs₀ (F := F)) 𝒱₀ (c : Thread nD τ) none) Set.univ (kk ⟨⟩) Ψ)
        -∗ wp frame (wpE (defs₀ (F := F)) 𝒱₀ (c : Thread nD τ) none) Set.univ (.op (.enqueueDma (w2M.slice (Rect.unit (s := S4096x1024) oa S256x1024.size ia) (fun _ => rfl))
            (.here ((vM.slice (Rect.unit (s := S2x256x1024) ou S1x256x1024.size iu) (fun _ => rfl)).squeeze S256x1024 squeezes_S1x256x1024_S256x1024))
            (.dma ((cc0_scratch10.slice (Rect.unit (s := S2) oq S1.size iq)).squeeze S_ squeezes_S1_S_).sem) hsrc hdst hsem) kk) Ψ) := by
  have hq := semw_of (par k.val) hoq iq
  subst hou hoa
  revert hsem
  rw [hq]
  intro hsem
  have hf : ∀ f, (Transfers.Flight EC (c : Thread nD τ) (.dma (wsem (par k.val))) () N2
        iprop(((vT (par k.val)).view.loc (c : Thread nD τ) ↦[(vT (par k.val)).view.set]{fullShare}
          ((vT (par k.val)).view.write (Elt F) f ((w2T k).view.read (Elt F) (w2V m c)) Finset.univ)) ∗ w2TP m c k) : sProp 𝕄) ⊢ fly2 m c k := fun f => by
    rw [vT_landed]; exact BI.Entails.refl _
  unfold vTF
  iintro ⟨⟨⟨%f, Hu⟩, Hs⟩, Hw⟩ Hk
  unfold vTP w2TP
  iapply (Transfers.wp_dmaLocal EC 𝒱₀ (c : Thread nD τ) none (src := w2T k) (dst := vT (par k.val)) (hsrc := hsrc) (hdst := hdst) (hsem := hsem) () N2 rfl N2_pos (Finset.Subset.refl _)) $$ [Hu Hs Hw]
  · isplitl [Hw]; · iexact Hw
    isplitl [Hu] <;> iassumption
  iintro Hfl
  iapply Hk
  iapply (hf f)
  unfold w2TP
  iexact Hfl

theorem bRAcc_set (k : Fin 16) : (bM.access (bR k)).set = (bR k).set := View.set_slice_whole _ _
theorem vTAcc_set (p : Fin 2) : (vM.access (vR p)).set = (vT p).view.set := (View.set_reshape _ _).symm
theorem shape_vT (p : Fin 2) (f : (cc0_scratch5 : Ref sig .tc).ty.Contents (Elt F)) :
    (shapeCast S256x1024 ((vM.access (vR p)).read (Elt F) f) shapeCasts_S1x256x1024_S256x1024 : FVec F S256x1024 .f32) = (vT p).view.read (Elt F) f := rfl
theorem bR_stored (c : Dev nD) (p : Fin 2) (k : Fin 16) (f : (cc0_scratch3 : Ref sig .tc).ty.Contents (Elt F)) :
    ((bM.access (bR k)).loc (c : Thread nD τ) ↦[(bR k).set]{fullShare}
      ((bM.access (bR k)).write (Elt F) f (truncf .bf16 (shapeCast S256x1024 ((vM.access (vR p)).read (Elt F) (vTC m c k.val)) shapeCasts_S1x256x1024_S256x1024 : FVec F S256x1024 .f32) bitsLt_bf16_f32 : FVec F S256x1024 .bf16) Finset.univ) : sProp 𝕄)
      = bRP c k (w2C m c) := by
  unfold bRP
  rw [← bRAcc_set, shape_vT, read_vTC]
  exact pts_landed (c := (c : Thread nD τ)) (bM.access (bR k)) f _ _ rfl

theorem wp_take2 {α : Type} {Ψ : α → sProp 𝕄} {kk : PUnit → Prog (TpuEff nD τ sig (Elt F) Λ₀ .tc) α} (c : Dev nD) (k : Fin 16) (n : ℕ)
    {oq : Fin 1 → ℕ} {ou ou' : Fin 3 → ℕ} {oa : Fin 2 → ℕ} (hoq : oq = ![(par k.val).val]) (hou : ou = ![(par k.val).val, 0, 0]) (hou' : ou' = ![(par k.val).val, 0, 0])
    (hoa : oa = ![256 * k.val, 0])
    {iq : ∀ a, oq a + S1.size a ≤ S2.size a} {iu : ∀ a, ou a + S1x256x1024.size a ≤ S2x256x1024.size a} {iu' : ∀ a, ou' a + S1x256x1024.size a ≤ S2x256x1024.size a} {ia : ∀ a, oa a + S256x1024.size a ≤ S4096x1024.size a}
    {sp' : Space} {s' : Shape} {e' : EltTy} {srcw : Memref sig .tc sp' s' e'} {hsrcw : srcw.view.WordExact} {hdstw hl hl'}
    (pay : Vec F S1x256x1024 .f32 → FVec F S256x1024 .bf16) (hpay : ∀ v, pay v = truncf .bf16 (shapeCast S256x1024 v shapeCasts_S1x256x1024_S256x1024 : FVec F S256x1024 .f32) bitsLt_bf16_f32)
    {hst : (bM.access (Rect.unit (s := S4096x1024) oa S256x1024.size ia)).Stores Finset.univ} {hm} :
    iprop(stJ c n ∗ fly2 m c k ∗ (∃ f, bRP c k f))
      ⊢ iprop(((stJ c n ∗ vTF c (par k.val) ∗ w2TP m c k ∗ bRP c k (w2C m c)) -∗ wp frame (wpE (defs₀ (F := F)) 𝒱₀ (c : Thread nD τ) none) Set.univ (kk ⟨⟩) Ψ)
        -∗ wp frame (wpE (defs₀ (F := F)) 𝒱₀ (c : Thread nD τ) none) Set.univ (.op (.waitDma2 ((cc0_scratch10.slice (Rect.unit (s := S2) oq S1.size iq)).squeeze S_ squeezes_S1_S_).sem srcw
            ((vM.slice (Rect.unit (s := S2x256x1024) ou S1x256x1024.size iu) (fun _ => rfl)).squeeze S256x1024 squeezes_S1x256x1024_S256x1024) hsrcw hdstw) fun _ =>
          .op (.load vM (Rect.unit (s := S2x256x1024) ou' S1x256x1024.size iu').toLoadRect hl) fun v =>
          .op (.load bM (Rect.unit (s := S4096x1024) oa S256x1024.size ia).toLoadRect hl') fun _ =>
          .op (.store bM (Rect.unit (s := S4096x1024) oa S256x1024.size ia) (pay v) Finset.univ hst hm) kk) Ψ) := by
  have hq := semw_of (par k.val) hoq iq
  subst hou hou' hoa
  rw [hq]
  unfold stJ fly2 ow
  iintro ⟨⟨#HL, ⟨%W, HO⟩⟩, Hf, ⟨%f, Ha⟩⟩ Hk
  iapply (Transfers.wp_waitLocalO EC 𝒱₀ (c : Thread nD τ) none (hsrc := hsrcw) (hdst := hdstw) () (N := N2) rfl (O := owe c n) (W := W)) $$ [HO Hf]
  · isplitl [Hf]; · iexact Hf
    isplitl [HO]; · iexact HO
    iapply (mayWait_low c (.dma (wsem (par k.val))) n (lvS_wsem _)) $$ HL
  iintro ⟨⟨Hu, Hw⟩, Hs, HO⟩
  unfold vTP
  iapply (wp_load_rect 𝒱₀ (c : Thread nD τ) none Set.univ (m := vM) (r := vR (par k.val)) (vTAcc_set _).le) $$ Hu
  iintro Hu
  unfold bRP
  iapply (wp_load_rect 𝒱₀ (c : Thread nD τ) none Set.univ (m := bM) (r := bR k) (bRAcc_set k).le) $$ Ha
  iintro Ha
  iapply (wp_store 𝒱₀ (c : Thread nD τ) none Set.univ (m := bM) (r := bR k) (bRAcc_set k).le) $$ Ha
  rw [hpay]
  iintro Ha
  ihave Ha := (Entails.of_eq (bR_stored m c (par k.val) k f)) $$ Ha
  iapply Hk
  isplitl [HO]
  · isplitr; · iexact HL
    iexists _; iexact HO
  isplitl [Hu Hs]
  · unfold vTF vTP
    isplitl [Hu]; · iexists _; iexact Hu
    iexact Hs
  isplitl [Hw]; · iexact Hw
  unfold bRP
  iexact Ha

theorem k0_off9_par : ∀ k : Fin k0_t2_loop.trips, k0_off9 k = ![(par (k.val + 1)).val] := by decide +kernel
theorem k0_off10_par : ∀ k : Fin k0_t2_loop.trips, k0_off10 k = ![(par (k.val + 1)).val, 0, 0] := by decide +kernel
theorem k0_off11_par : ∀ k : Fin k0_t2_loop.trips, k0_off11 k = ![256 * (k.val + 1), 0] := by decide +kernel
theorem k0_off12_par : ∀ k : Fin k0_t2_loop.trips, k0_off12 k = ![(par k.val).val] := by decide +kernel
theorem k0_off13_par : ∀ k : Fin k0_t2_loop.trips, k0_off13 k = ![(par k.val).val, 0, 0] := by decide +kernel
theorem k0_off15_par : ∀ k : Fin k0_t2_loop.trips, k0_off15 k = ![(par k.val).val, 0, 0] := by decide +kernel

/-- The streaming loop of the weights number 2. -/
theorem wp_t2 (c : Dev nD) (v2 : BitVec 32) {Ψ : Unit → sProp 𝕄} :
    iprop(stJ c 12 ∗ fly2 m c 0 ∗ vTF c 1 ∗ bigSep (Finset.univ.erase 0) (w2TP m c) ∗ bigSep Finset.univ fun k => iprop(∃ f, bRP c k f))
      ⊢ iprop(((stJ c 12 ∗ fly2 m c (Fin.last 15) ∗ vTF c (par 16) ∗ bigSep (Finset.univ.erase (Fin.last 15)) (w2TP m c)
            ∗ upTo (fun k => bRP c k (w2C m c)) (fun k => iprop(∃ f, bRP c k f)) 15) -∗ Ψ ())
          -∗ wp frame (wpE (defs₀ (F := F)) 𝒱₀ (c : Thread nD τ) none) Set.univ (Scf.Loop.for k0_t2_loop k0_t2_ok ⟨⟩ (k0_t2_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2)) Ψ) := by
  have hn : k0_t2_loop.trips = 15 := by decide +kernel
  exact wp_stream_loop (c := c) k0_t2_loop k0_t2_ok 15 hn (k0_t2_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2) (stJ c 12) (vTF c) (w2TP m c) (fly2 m c)
    (fun k => bRP c k (w2C m c)) (fun k => iprop(∃ f, bRP c k f)) (fun k => by
      unfold k0_t2_body
      rw [k0_part3_eq_skeleton, k0_part4_eq_skeleton]
      unfold k0_part3_skel k0_part4_skel
      simp only [Prog.lift, Prog.bind_op, Prog.bind_ret, Prog.pure_eq_ret, bind_assoc]
      iintro ⟨HJ, Hf, Hn, Hs, Ha⟩
      iapply (wp_issue2 m c (Fin.cast hn k).succ (k0_off9_par k) (k0_off10_par k) (k0_off11_par k)) $$ [Hn Hs]
      · isplitl [Hs]; · iexact Hs
        iexact Hn
      iintro Hfn
      iapply (wp_take2 m c (Fin.cast hn k).castSucc 12 (k0_off12_par k) (k0_off13_par k) (k0_off15_par k) (k0_off16_eq k)
        (fun v => k0_pay14 (k0_pay2 v)) (fun v => by unfold k0_pay14 k0_pay2; simp only [shapeCast_self])) $$ [HJ Hf Ha]
      · isplitl [HJ]; · iexact HJ
        isplitl [Hf]; · iexact Hf
        iexact Ha
      iintro ⟨HJ, Hs, Hw, Ha⟩
      rw [wp_ret]
      imodintro
      isplitl [HJ]; · iexact HJ
      isplitl [Hfn]; · iexact Hfn
      isplitl [Hw]; · iexact Hw
      isplitl [Hs]; · iexact Hs
      iexact Ha)

end Cert.AggRun

end
-- ==== Proof.Weights.lean ====
/-
Each of the two weight matrices, streamed whole into its resident copy.
-/
module

public import proofs.«01_k».proof.Proof.Stream

@[expose] public section

noncomputable section

namespace Cert.AggRun

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

theorem bigSep_two (Φ : Fin 2 → sProp 𝕄) : bigSep Finset.univ Φ = iprop(Φ 0 ∗ Φ 1) := bigSep_univ_eq_bigSepL [0, 1] (by decide) (by decide) Φ

/-- A buffer at some contents, block by block. -/
theorem blocks_any {ι : Type} [Fintype ι] [DecidableEq ι] {ℓ : Loc nD τ sig} (I : ι → Finset (Idx ℓ)) (φ : Idx ℓ → ι)
    (h : ∀ b i, i ∈ I b ↔ φ i = b) {q : PosShare TreeShare} (f : Buf (Elt F) ℓ) :
    (ℓ ↦{q} f : sProp 𝕄) ⊢ bigSep Finset.univ fun b => iprop(∃ f, ℓ ↦[I b]{q} f) := by
  rw [whole_eq_blocks I φ h f]
  have h1 : ∀ b, (ℓ ↦[I b]{q} f : sProp 𝕄) ⊢ iprop(∃ f, ℓ ↦[I b]{q} f) := fun b => by
    iintro H; iexists f; iexact H
  exact bigSep_mono fun b _ => h1 b

/-- The two semaphores of the local copies, at zero. -/
def wsems (c : Dev nD) : sProp 𝕄 := iprop(semVal ((c : Thread nD τ), .dma (wsem 0)) 0 ∗ semVal ((c : Thread nD τ), .dma (wsem 1)) 0)

/-! ## The weights number 1, from the first issue to the last tile -/

/-- The weights in high-bandwidth memory; a streaming buffer at any contents. -/
def w1H (c : Dev nD) : sProp 𝕄 := w1M.view.loc (c : Thread nD τ) ↦{fullShare} w1V m c
def uMAny (c : Dev nD) : sProp 𝕄 := iprop(∃ f, uM.view.loc (c : Thread nD τ) ↦{fullShare} f)
def aMAny (c : Dev nD) : sProp 𝕄 := iprop(∃ f, aM.view.loc (c : Thread nD τ) ↦{fullShare} f)

theorem w1H_tiles (c : Dev nD) : w1H m c = bigSep Finset.univ (w1TP m c) := by
  have h : w1H m c = bigSep Finset.univ fun k : Fin 8 => (w1M.view.loc (c : Thread nD τ) ↦[(aR k).set]{fullShare} w1V m c : sProp 𝕄) :=
    whole_eq_blocks (ℓ := w1M.view.loc (c : Thread nD τ)) (fun k : Fin 8 => (aR k).set) _ mem_a (w1V m c)
  rw [h]
  refine bigSep_congr fun k _ => ?_
  unfold w1TP
  rw [show (w1T k).view.set = (aR k).set from View.set_slice_whole _ _]
theorem aM_tiles (c : Dev nD) (f : (cc0_scratch2 : Ref sig .tc).ty.Contents (Elt F)) :
    (aM.view.loc (c : Thread nD τ) ↦{fullShare} f : sProp 𝕄) = bigSep Finset.univ fun k => aRP c k f :=
  whole_eq_blocks (ℓ := aM.view.loc (c : Thread nD τ)) (fun k : Fin 8 => (aR k).set) _ mem_a f
theorem aMAny_tiles (c : Dev nD) : aMAny (F := F) c ⊢ bigSep Finset.univ fun k => iprop(∃ f, aRP c k f) := by
  unfold aMAny
  iintro ⟨%f, H⟩
  iapply (blocks_any (ℓ := aM.view.loc (c : Thread nD τ)) (fun k : Fin 8 => (aR k).set) _ mem_a f)
  iexact H
theorem uTP_set (c : Dev nD) (p : Fin 2) (f : (cc0_scratch4 : Ref sig .tc).ty.Contents (Elt F)) :
    uTP c p f = (uM.view.loc (c : Thread nD τ) ↦[(uR p).set]{fullShare} f : sProp 𝕄) := by
  unfold uTP; rw [uT_set]
theorem uMAny_slots (c : Dev nD) : uMAny (F := F) c ⊢ iprop((∃ f, uTP c 0 f) ∗ (∃ f, uTP c 1 f)) := by
  unfold uMAny
  simp only [uTP_set]
  have h : ∀ f, (uM.view.loc (c : Thread nD τ) ↦{fullShare} f : sProp 𝕄) ⊢ iprop((∃ f, (uM.view.loc (c : Thread nD τ) ↦[(uR 0).set]{fullShare} f : sProp 𝕄))
      ∗ (∃ f, (uM.view.loc (c : Thread nD τ) ↦[(uR 1).set]{fullShare} f : sProp 𝕄))) := fun f => (blocks_any (ℓ := uM.view.loc (c : Thread nD τ)) (q := fullShare) (fun p : Fin 2 => (uR p).set) _ mem_u f).trans (Entails.of_eq (bigSep_two _))
  iintro ⟨%f, H⟩
  iapply (h f)
  iexact H
theorem uMAny_join (c : Dev nD) : iprop((∃ f, uTP (F := F) c 0 f) ∗ (∃ f, uTP (F := F) c 1 f)) ⊢ uMAny (F := F) c := by
  unfold uMAny
  simp only [uTP_set]
  iintro ⟨⟨%f, H⟩, H1⟩
  have h : iprop((∃ f, (uM.view.loc (c : Thread nD τ) ↦[(uR 0).set]{fullShare} f : sProp 𝕄)) ∗ (∃ f, (uM.view.loc (c : Thread nD τ) ↦[(uR 1).set]{fullShare} f : sProp 𝕄)))
      ⊢ iprop(∃ f, uM.view.loc (c : Thread nD τ) ↦{fullShare} f) := (Entails.of_eq (bigSep_two _).symm).trans (blocks_join (ℓ := uM.view.loc (c : Thread nD τ)) (q := fullShare) (fun p : Fin 2 => (uR p).set) _ mem_u f)
  iapply h
  isplitl [H]
  · iexists f; iexact H
  iexact H1

/-- What the stream starts from, and leaves. -/
def st1Pre (c : Dev nD) : sProp 𝕄 := iprop(stJ c 20 ∗ w1H m c ∗ uMAny c ∗ aMAny c ∗ wsems c)
def st1Post (c : Dev nD) : sProp 𝕄 :=
  iprop(stJ c 20 ∗ w1H m c ∗ uMAny c ∗ (aM.view.loc (c : Thread nD τ) ↦{fullShare} w1C m c) ∗ wsems c)

theorem wp_stream1 {α : Type} {Ψ : α → sProp 𝕄} {kk : PUnit → Prog (TpuEff nD τ sig (Elt F) Λ₀ .tc) α} (c : Dev nD) (v2 : BitVec 32)
    {oq oq' : Fin 1 → ℕ} {ou ou' : Fin 3 → ℕ} {oa oa' : Fin 2 → ℕ} (hoq : oq = ![0]) (hou : ou = ![0, 0, 0]) (hoa : oa = ![0, 0])
    (hoq' : oq' = ![1]) (hou' : ou' = ![1, 0, 0]) (hoa' : oa' = ![896, 0])
    {iq : ∀ a, oq a + S1.size a ≤ S2.size a} {iu : ∀ a, ou a + S1x128x4096.size a ≤ S2x128x4096.size a} {ia : ∀ a, oa a + S128x4096.size a ≤ S1024x4096.size a}
    {iq' : ∀ a, oq' a + S1.size a ≤ S2.size a} {iu' : ∀ a, ou' a + S1x128x4096.size a ≤ S2x128x4096.size a} {ia' : ∀ a, oa' a + S128x4096.size a ≤ S1024x4096.size a}
    {hsrc hdst hsem} {sp' : Space} {s' : Shape} {e' : EltTy} {srcw : Memref sig .tc sp' s' e'} {hsrcw : srcw.view.WordExact} {hdstw hl hl'}
    (pay : Vec F S1x128x4096 .f32 → FVec F S128x4096 .bf16) (hpay : ∀ v, pay v = truncf .bf16 (shapeCast S128x4096 v shapeCasts_S1x128x4096_S128x4096 : FVec F S128x4096 .f32) bitsLt_bf16_f32)
    {hst : (aM.access (Rect.unit (s := S1024x4096) oa' S128x4096.size ia')).Stores Finset.univ} {hm} :
    st1Pre m c ⊢ iprop((st1Post m c -∗ wp frame (wpE (defs₀ (F := F)) 𝒱₀ (c : Thread nD τ) none) Set.univ (kk ⟨⟩) Ψ)
        -∗ wp frame (wpE (defs₀ (F := F)) 𝒱₀ (c : Thread nD τ) none) Set.univ (.op (.enqueueDma (w1M.slice (Rect.unit (s := S1024x4096) oa S128x4096.size ia) (fun _ => rfl))
            (.here ((uM.slice (Rect.unit (s := S2x128x4096) ou S1x128x4096.size iu) (fun _ => rfl)).squeeze S128x4096 squeezes_S1x128x4096_S128x4096))
            (.dma ((cc0_scratch10.slice (Rect.unit (s := S2) oq S1.size iq)).squeeze S_ squeezes_S1_S_).sem) hsrc hdst hsem) fun _ =>
          Scf.Loop.for k0_t1_loop k0_t1_ok ⟨⟩ (k0_t1_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 v2) >>= fun _ =>
          .op (.waitDma2 ((cc0_scratch10.slice (Rect.unit (s := S2) oq' S1.size iq')).squeeze S_ squeezes_S1_S_).sem srcw
            ((uM.slice (Rect.unit (s := S2x128x4096) ou' S1x128x4096.size iu') (fun _ => rfl)).squeeze S128x4096 squeezes_S1x128x4096_S128x4096) hsrcw hdstw) fun _ =>
          .op (.load uM (Rect.unit (s := S2x128x4096) ou' S1x128x4096.size iu').toLoadRect hl) fun v =>
          .op (.load aM (Rect.unit (s := S1024x4096) oa' S128x4096.size ia').toLoadRect hl') fun _ =>
          .op (.store aM (Rect.unit (s := S1024x4096) oa' S128x4096.size ia') (pay v) Finset.univ hst hm) kk) Ψ) := by
  unfold st1Pre st1Post wsems
  iintro ⟨HJ, Hw, Hu, Ha, Hs0, Hs1⟩ Hk
  have hw0 : w1H m c ⊢ iprop(w1TP m c 0 ∗ bigSep (Finset.univ.erase 0) (w1TP m c)) :=
    (Entails.of_eq (w1H_tiles m c)).trans (Entails.of_eq (bigSep_erase (Finset.mem_univ (0 : Fin 8))))
  ihave Hw := hw0 $$ Hw
  icases Hw with ⟨Hw0, Hw⟩
  have hf0 : iprop((∃ f, uTP c 0 f) ∗ semVal ((c : Thread nD τ), .dma (wsem 0)) 0) ⊢ uTF (F := F) c (par (0 : Fin 8).val) := BI.Entails.refl _
  ihave Hu := (uMAny_slots c) $$ Hu
  icases Hu with ⟨Hu0, Hu1⟩
  ihave Ha := (aMAny_tiles c) $$ Ha
  iapply (wp_issue1 m c (0 : Fin 8) hoq hou hoa) $$ [Hu0 Hs0 Hw0]
  · isplitl [Hu0 Hs0]
    · iapply hf0
      isplitl [Hu0] <;> iassumption
    iexact Hw0
  iintro Hf
  rw [wp_bind]
  iapply (wp_t1 m c v2) $$ [HJ Hf Hu1 Hs1 Hw Ha]
  · isplitl [HJ]; · iexact HJ
    isplitl [Hf]; · iexact Hf
    isplitl [Hu1 Hs1]
    · unfold uTF
      isplitl [Hu1] <;> iassumption
    isplitl [Hw]; · iexact Hw
    iexact Ha
  iintro ⟨HJ, Hf, Hs, Hw, Ha⟩
  have hup : upTo (fun k => aRP c k (w1C m c)) (fun k => iprop(∃ f, aRP c k f)) 7 ⊢ iprop((∃ f, aRP c (Fin.last 7) f)
      ∗ (aRP c (Fin.last 7) (w1C m c) -∗ (aM.view.loc (c : Thread nD τ) ↦{fullShare} w1C m c))) := by
    rw [aM_tiles, ← upTo_full (fun k => aRP c k (w1C m c)) (fun k => iprop(∃ f, aRP c k f))]
    exact upTo_step (fun k => aRP c k (w1C m c)) (fun k => iprop(∃ f, aRP c k f)) (Fin.last 7)
  ihave Ha := hup $$ Ha
  icases Ha with ⟨Ha0, Ha⟩
  iapply (wp_take1 m c (Fin.last 7) 20 hoq' hou' hou' hoa' pay hpay) $$ [HJ Hf Ha0]
  · isplitl [HJ]; · iexact HJ
    isplitl [Hf] <;> iassumption
  iintro ⟨HJ, Hs', Hw', Ha'⟩
  ihave Ha := Ha $$ Ha'
  have hwl : iprop(w1TP m c (Fin.last 7) ∗ bigSep (Finset.univ.erase (Fin.last 7)) (w1TP m c)) ⊢ w1H m c :=
    Entails.of_eq ((w1H_tiles m c).trans (bigSep_erase (Finset.mem_univ (Fin.last 7)))).symm
  have hs0 : uTF (F := F) c (par 8) ⊢ iprop((∃ f, uTP c 0 f) ∗ semVal ((c : Thread nD τ), .dma (wsem 0)) 0) := BI.Entails.refl _
  have hs1 : uTF (F := F) c (par (Fin.last 7).val) ⊢ iprop((∃ f, uTP c 1 f) ∗ semVal ((c : Thread nD τ), .dma (wsem 1)) 0) := BI.Entails.refl _
  ihave Hs := hs0 $$ Hs
  icases Hs with ⟨Hu0, Hs0⟩
  ihave Hs' := hs1 $$ Hs'
  icases Hs' with ⟨Hu1, Hs1⟩
  iapply Hk
  isplitl [HJ]; · iexact HJ
  isplitl [Hw Hw']
  · iapply hwl
    isplitl [Hw'] <;> iassumption
  isplitl [Hu0 Hu1]
  · iapply (uMAny_join c)
    isplitl [Hu0] <;> iassumption
  isplitl [Ha]; · iexact Ha
  isplitl [Hs0] <;> iassumption

/-! ## The weights number 2, from the first issue to the last tile -/

/-- The weights in high-bandwidth memory; a streaming buffer at any contents. -/
def w2H (c : Dev nD) : sProp 𝕄 := w2M.view.loc (c : Thread nD τ) ↦{fullShare} w2V m c
def vMAny (c : Dev nD) : sProp 𝕄 := iprop(∃ f, vM.view.loc (c : Thread nD τ) ↦{fullShare} f)
def bMAny (c : Dev nD) : sProp 𝕄 := iprop(∃ f, bM.view.loc (c : Thread nD τ) ↦{fullShare} f)

theorem w2H_tiles (c : Dev nD) : w2H m c = bigSep Finset.univ (w2TP m c) := by
  have h : w2H m c = bigSep Finset.univ fun k : Fin 16 => (w2M.view.loc (c : Thread nD τ) ↦[(bR k).set]{fullShare} w2V m c : sProp 𝕄) :=
    whole_eq_blocks (ℓ := w2M.view.loc (c : Thread nD τ)) (fun k : Fin 16 => (bR k).set) _ mem_b (w2V m c)
  rw [h]
  refine bigSep_congr fun k _ => ?_
  unfold w2TP
  rw [show (w2T k).view.set = (bR k).set from View.set_slice_whole _ _]
theorem bM_tiles (c : Dev nD) (f : (cc0_scratch3 : Ref sig .tc).ty.Contents (Elt F)) :
    (bM.view.loc (c : Thread nD τ) ↦{fullShare} f : sProp 𝕄) = bigSep Finset.univ fun k => bRP c k f :=
  whole_eq_blocks (ℓ := bM.view.loc (c : Thread nD τ)) (fun k : Fin 16 => (bR k).set) _ mem_b f
theorem bMAny_tiles (c : Dev nD) : bMAny (F := F) c ⊢ bigSep Finset.univ fun k => iprop(∃ f, bRP c k f) := by
  unfold bMAny
  iintro ⟨%f, H⟩
  iapply (blocks_any (ℓ := bM.view.loc (c : Thread nD τ)) (fun k : Fin 16 => (bR k).set) _ mem_b f)
  iexact H
theorem vTP_set (c : Dev nD) (p : Fin 2) (f : (cc0_scratch5 : Ref sig .tc).ty.Contents (Elt F)) :
    vTP c p f = (vM.view.loc (c : Thread nD τ) ↦[(vR p).set]{fullShare} f : sProp 𝕄) := by
  unfold vTP; rw [vT_set]
theorem vMAny_slots (c : Dev nD) : vMAny (F := F) c ⊢ iprop((∃ f, vTP c 0 f) ∗ (∃ f, vTP c 1 f)) := by
  unfold vMAny
  simp only [vTP_set]
  have h : ∀ f, (vM.view.loc (c : Thread nD τ) ↦{fullShare} f : sProp 𝕄) ⊢ iprop((∃ f, (vM.view.loc (c : Thread nD τ) ↦[(vR 0).set]{fullShare} f : sProp 𝕄))
      ∗ (∃ f, (vM.view.loc (c : Thread nD τ) ↦[(vR 1).set]{fullShare} f : sProp 𝕄))) := fun f => (blocks_any (ℓ := vM.view.loc (c : Thread nD τ)) (q := fullShare) (fun p : Fin 2 => (vR p).set) _ mem_v f).trans (Entails.of_eq (bigSep_two _))
  iintro ⟨%f, H⟩
  iapply (h f)
  iexact H
theorem vMAny_join (c : Dev nD) : iprop((∃ f, vTP (F := F) c 0 f) ∗ (∃ f, vTP (F := F) c 1 f)) ⊢ vMAny (F := F) c := by
  unfold vMAny
  simp only [vTP_set]
  iintro ⟨⟨%f, H⟩, H1⟩
  have h : iprop((∃ f, (vM.view.loc (c : Thread nD τ) ↦[(vR 0).set]{fullShare} f : sProp 𝕄)) ∗ (∃ f, (vM.view.loc (c : Thread nD τ) ↦[(vR 1).set]{fullShare} f : sProp 𝕄)))
      ⊢ iprop(∃ f, vM.view.loc (c : Thread nD τ) ↦{fullShare} f) := (Entails.of_eq (bigSep_two _).symm).trans (blocks_join (ℓ := vM.view.loc (c : Thread nD τ)) (q := fullShare) (fun p : Fin 2 => (vR p).set) _ mem_v f)
  iapply h
  isplitl [H]
  · iexists f; iexact H
  iexact H1

/-- What the stream starts from, and leaves. -/
def st2Pre (c : Dev nD) : sProp 𝕄 := iprop(stJ c 12 ∗ w2H m c ∗ vMAny c ∗ bMAny c ∗ wsems c)
def st2Post (c : Dev nD) : sProp 𝕄 :=
  iprop(stJ c 12 ∗ w2H m c ∗ vMAny c ∗ (bM.view.loc (c : Thread nD τ) ↦{fullShare} w2C m c) ∗ wsems c)

theorem wp_stream2 {α : Type} {Ψ : α → sProp 𝕄} {kk : PUnit → Prog (TpuEff nD τ sig (Elt F) Λ₀ .tc) α} (c : Dev nD) (v2 : BitVec 32)
    {oq oq' : Fin 1 → ℕ} {ou ou' : Fin 3 → ℕ} {oa oa' : Fin 2 → ℕ} (hoq : oq = ![0]) (hou : ou = ![0, 0, 0]) (hoa : oa = ![0, 0])
    (hoq' : oq' = ![1]) (hou' : ou' = ![1, 0, 0]) (hoa' : oa' = ![3840, 0])
    {iq : ∀ a, oq a + S1.size a ≤ S2.size a} {iu : ∀ a, ou a + S1x256x1024.size a ≤ S2x256x1024.size a} {ia : ∀ a, oa a + S256x1024.size a ≤ S4096x1024.size a}
    {iq' : ∀ a, oq' a + S1.size a ≤ S2.size a} {iu' : ∀ a, ou' a + S1x256x1024.size a ≤ S2x256x1024.size a} {ia' : ∀ a, oa' a + S256x1024.size a ≤ S4096x1024.size a}
    {hsrc hdst hsem} {sp' : Space} {s' : Shape} {e' : EltTy} {srcw : Memref sig .tc sp' s' e'} {hsrcw : srcw.view.WordExact} {hdstw hl hl'}
    (pay : Vec F S1x256x1024 .f32 → FVec F S256x1024 .bf16) (hpay : ∀ v, pay v = truncf .bf16 (shapeCast S256x1024 v shapeCasts_S1x256x1024_S256x1024 : FVec F S256x1024 .f32) bitsLt_bf16_f32)
    {hst : (bM.access (Rect.unit (s := S4096x1024) oa' S256x1024.size ia')).Stores Finset.univ} {hm} :
    st2Pre m c ⊢ iprop((st2Post m c -∗ wp frame (wpE (defs₀ (F := F)) 𝒱₀ (c : Thread nD τ) none) Set.univ (kk ⟨⟩) Ψ)
        -∗ wp frame (wpE (defs₀ (F := F)) 𝒱₀ (c : Thread nD τ) none) Set.univ (.op (.enqueueDma (w2M.slice (Rect.unit (s := S4096x1024) oa S256x1024.size ia) (fun _ => rfl))
            (.here ((vM.slice (Rect.unit (s := S2x256x1024) ou S1x256x1024.size iu) (fun _ => rfl)).squeeze S256x1024 squeezes_S1x256x1024_S256x1024))
            (.dma ((cc0_scratch10.slice (Rect.unit (s := S2) oq S1.size iq)).squeeze S_ squeezes_S1_S_).sem) hsrc hdst hsem) fun _ =>
          Scf.Loop.for k0_t2_loop k0_t2_ok ⟨⟩ (k0_t2_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2) >>= fun _ =>
          .op (.waitDma2 ((cc0_scratch10.slice (Rect.unit (s := S2) oq' S1.size iq')).squeeze S_ squeezes_S1_S_).sem srcw
            ((vM.slice (Rect.unit (s := S2x256x1024) ou' S1x256x1024.size iu') (fun _ => rfl)).squeeze S256x1024 squeezes_S1x256x1024_S256x1024) hsrcw hdstw) fun _ =>
          .op (.load vM (Rect.unit (s := S2x256x1024) ou' S1x256x1024.size iu').toLoadRect hl) fun v =>
          .op (.load bM (Rect.unit (s := S4096x1024) oa' S256x1024.size ia').toLoadRect hl') fun _ =>
          .op (.store bM (Rect.unit (s := S4096x1024) oa' S256x1024.size ia') (pay v) Finset.univ hst hm) kk) Ψ) := by
  unfold st2Pre st2Post wsems
  iintro ⟨HJ, Hw, Hu, Ha, Hs0, Hs1⟩ Hk
  have hw0 : w2H m c ⊢ iprop(w2TP m c 0 ∗ bigSep (Finset.univ.erase 0) (w2TP m c)) :=
    (Entails.of_eq (w2H_tiles m c)).trans (Entails.of_eq (bigSep_erase (Finset.mem_univ (0 : Fin 16))))
  ihave Hw := hw0 $$ Hw
  icases Hw with ⟨Hw0, Hw⟩
  have hf0 : iprop((∃ f, vTP c 0 f) ∗ semVal ((c : Thread nD τ), .dma (wsem 0)) 0) ⊢ vTF (F := F) c (par (0 : Fin 16).val) := BI.Entails.refl _
  ihave Hu := (vMAny_slots c) $$ Hu
  icases Hu with ⟨Hu0, Hu1⟩
  ihave Ha := (bMAny_tiles c) $$ Ha
  iapply (wp_issue2 m c (0 : Fin 16) hoq hou hoa) $$ [Hu0 Hs0 Hw0]
  · isplitl [Hu0 Hs0]
    · iapply hf0
      isplitl [Hu0] <;> iassumption
    iexact Hw0
  iintro Hf
  rw [wp_bind]
  iapply (wp_t2 m c v2) $$ [HJ Hf Hu1 Hs1 Hw Ha]
  · isplitl [HJ]; · iexact HJ
    isplitl [Hf]; · iexact Hf
    isplitl [Hu1 Hs1]
    · unfold vTF
      isplitl [Hu1] <;> iassumption
    isplitl [Hw]; · iexact Hw
    iexact Ha
  iintro ⟨HJ, Hf, Hs, Hw, Ha⟩
  have hup : upTo (fun k => bRP c k (w2C m c)) (fun k => iprop(∃ f, bRP c k f)) 15 ⊢ iprop((∃ f, bRP c (Fin.last 15) f)
      ∗ (bRP c (Fin.last 15) (w2C m c) -∗ (bM.view.loc (c : Thread nD τ) ↦{fullShare} w2C m c))) := by
    rw [bM_tiles, ← upTo_full (fun k => bRP c k (w2C m c)) (fun k => iprop(∃ f, bRP c k f))]
    exact upTo_step (fun k => bRP c k (w2C m c)) (fun k => iprop(∃ f, bRP c k f)) (Fin.last 15)
  ihave Ha := hup $$ Ha
  icases Ha with ⟨Ha0, Ha⟩
  iapply (wp_take2 m c (Fin.last 15) 12 hoq' hou' hou' hoa' pay hpay) $$ [HJ Hf Ha0]
  · isplitl [HJ]; · iexact HJ
    isplitl [Hf] <;> iassumption
  iintro ⟨HJ, Hs', Hw', Ha'⟩
  ihave Ha := Ha $$ Ha'
  have hwl : iprop(w2TP m c (Fin.last 15) ∗ bigSep (Finset.univ.erase (Fin.last 15)) (w2TP m c)) ⊢ w2H m c :=
    Entails.of_eq ((w2H_tiles m c).trans (bigSep_erase (Finset.mem_univ (Fin.last 15)))).symm
  have hs0 : vTF (F := F) c (par 16) ⊢ iprop((∃ f, vTP c 0 f) ∗ semVal ((c : Thread nD τ), .dma (wsem 0)) 0) := BI.Entails.refl _
  have hs1 : vTF (F := F) c (par (Fin.last 15).val) ⊢ iprop((∃ f, vTP c 1 f) ∗ semVal ((c : Thread nD τ), .dma (wsem 1)) 0) := BI.Entails.refl _
  ihave Hs := hs0 $$ Hs
  icases Hs with ⟨Hu0, Hs0⟩
  ihave Hs' := hs1 $$ Hs'
  icases Hs' with ⟨Hu1, Hs1⟩
  iapply Hk
  isplitl [HJ]; · iexact HJ
  isplitl [Hw Hw']
  · iapply hwl
    isplitl [Hw'] <;> iassumption
  isplitl [Hu0 Hu1]
  · iapply (vMAny_join c)
    isplitl [Hu0] <;> iassumption
  isplitl [Ha]; · iexact Ha
  isplitl [Hs0] <;> iassumption

theorem wp_part12 (c : Dev nD) (v2 : BitVec 32) : st1Pre m c ⊢ wp frame (wpE (defs₀ (F := F)) 𝒱₀ (c : Thread nD τ) none) Set.univ (k0_part12 xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 v2) fun _ => st1Post m c := by
  rw [k0_part12_eq_skeleton]
  unfold k0_part12_skel
  simp only [Prog.lift, Prog.bind_op, Prog.bind_ret, Prog.pure_eq_ret, bind_assoc]
  iintro H
  iapply (wp_stream1 m c v2 rfl rfl rfl rfl rfl rfl k0_pay13 (fun v => by unfold k0_pay13; simp only [shapeCast_self])) $$ [H]
  · iexact H
  iintro H
  rw [wp_ret]
  imodintro
  iexact H

end Cert.AggRun

end
-- ==== Proof.Own.lean ====
/-
The loop over the device's own rows: each row tile of the output block receives the device's partial result.
-/
module

public import proofs.«01_k».proof.Proof.Loops

@[expose] public section

noncomputable section

namespace Cert.AggRun

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## The device's own rows -/

theorem oAcc_set (t : Fin 4) : (oM.access (rowR t)).set = (rowR t).set := View.set_slice_whole _ _

theorem read_oT (c : Dev nD) (t : Fin 4) : (oM.access (rowR t)).read (Elt F) (ownC m ρ c) = gacc m (xTile m ρ c t.val) c 4 := by
  funext j
  have h : (j 0).val < 256 := (j 0).isLt
  show ownC m ρ c ((rowR t).emb j) = _
  rw [emb_row]
  show gemmT m ρ c c ((256 * t.val + (j 0).val) / 256) (ix2 ⟨(256 * t.val + (j 0).val) % 256, _⟩ (j 1)) = _
  have e1 : (256 * t.val + (j 0).val) / 256 = t.val := by omega
  have e2 : (⟨(256 * t.val + (j 0).val) % 256, Nat.mod_lt _ (by decide)⟩ : Fin 256) = j 0 := Fin.ext (by show _ % 256 = (j 0).val; omega)
  rw [e1, e2]
  exact congrArg _ (eq_ix2 (n0 := 256) (n1 := 1024) j).symm

/-- A row tile of the output block at contents `f`. -/
def oP (c : Dev nD) (t : Fin 4) (f : (cc0_stg1_0 : Ref sig .tc).ty.Contents (Elt F)) : sProp 𝕄 :=
  oM.view.loc (c : Thread nD τ) ↦[(rowR t).set]{fullShare} f

theorem oP_join (c : Dev nD) (f : (cc0_stg1_0 : Ref sig .tc).ty.Contents (Elt F)) :
    (oM.view.loc (c : Thread nD τ) ↦{fullShare} f : sProp 𝕄) = bigSep Finset.univ fun t : Fin 4 => oP c t f :=
  whole_eq_blocks (ℓ := oM.view.loc (c : Thread nD τ)) (fun b : Fin 4 => (rowR b).set) _ mem_x f

theorem stored_oT (c : Dev nD) (t : Fin 4) (f : (cc0_stg1_0 : Ref sig .tc).ty.Contents (Elt F)) :
    ((oM.access (rowR t)).loc (c : Thread nD τ) ↦[(rowR t).set]{fullShare}
      ((oM.access (rowR t)).write (Elt F) f (gacc m (xTile m ρ c t.val) c 4) Finset.univ) : sProp 𝕄) = oP c t (ownC m ρ c) := by
  unfold oP
  rw [← oAcc_set]
  exact pts_landed (c := (c : Thread nD τ)) (oM.access (rowR t)) f _ _ (read_oT m ρ c t)

/-- The device's own share of its input, and its resident weights. -/
def ownJ (c : Dev nD) : sProp 𝕄 := iprop(wt m c ∗ (xM.view.loc (c : Thread nD τ) ↦{qo} xstg m ρ c))

theorem wp_own_trip (c : Dev nD) (t : Fin 4) {oL : Fin 2 → ℕ} (hoL : oL = ![256 * t.val, 0])
    {iL : ∀ a, oL a + S256x1024.size a ≤ S1024x1024.size a}
    {hl : xM.view.LoadsAt (Rect.unit (s := S1024x1024) oL S256x1024.size iL).toLoadRect}
    {hl' : oM.view.LoadsAt (Rect.unit (s := S1024x1024) oL S256x1024.size iL).toLoadRect}
    (loop : Vec F S256x1024 .bf16 → Prog (TpuEff nD τ sig (Elt F) Λ₀ .tc) (FVec F S256x1024 .f32))
    (hloop : ∀ (v : Vec F S256x1024 .bf16) (Ψ : FVec F S256x1024 .f32 → sProp 𝕄), wt m c
      ⊢ iprop((wt m c -∗ Ψ (gacc m v c 4)) -∗ wp frame (wpE (defs₀ (F := F)) 𝒱₀ (c : Thread nD τ) none) Set.univ (loop v) Ψ))
    {hst : (oM.access (Rect.unit (s := S1024x1024) oL S256x1024.size iL)).Stores Finset.univ} {hm} :
    iprop(ownJ m ρ c ∗ (∃ f, oP c t f))
      ⊢ wp frame (wpE (defs₀ (F := F)) 𝒱₀ (c : Thread nD τ) none) Set.univ
        (.op (.load xM (Rect.unit (s := S1024x1024) oL S256x1024.size iL).toLoadRect hl) fun v =>
         loop v >>= fun acc =>
         .op (.load oM (Rect.unit (s := S1024x1024) oL S256x1024.size iL).toLoadRect hl') fun _ =>
         .op (.store oM (Rect.unit (s := S1024x1024) oL S256x1024.size iL) acc Finset.univ hst hm) fun _ => .ret ⟨⟩)
        (fun _ : Unit => iprop(ownJ m ρ c ∗ oP c t (ownC m ρ c))) := by
  subst hoL
  have hx : (xM.access (rowR t)).read (Elt F) (xstg m ρ c) = xTile m ρ c t.val := read_xT_xstg m ρ c t
  unfold ownJ
  iintro ⟨⟨HW, Hx⟩, ⟨%f, Ho⟩⟩
  iapply (wp_load_rect 𝒱₀ (c : Thread nD τ) none Set.univ (m := xM) (r := rowR t) (Finset.subset_univ _)) $$ Hx
  iintro Hx
  rw [hx, wp_bind]
  iapply (hloop _ _) $$ HW
  iintro HW
  unfold oP
  iapply (wp_load_rect 𝒱₀ (c : Thread nD τ) none Set.univ (m := oM) (r := rowR t) (oAcc_set t).le) $$ Ho
  iintro Ho
  iapply (wp_store 𝒱₀ (c : Thread nD τ) none Set.univ (m := oM) (r := rowR t) (oAcc_set t).le) $$ Ho
  iintro Ho
  ihave Ho := (Entails.of_eq (stored_oT m ρ c t f)) $$ Ho
  rw [wp_ret]
  imodintro
  isplitl [HW Hx]
  · isplitl [HW] <;> iassumption
  unfold oP
  iexact Ho

/-- The loop over the device's own rows. -/
theorem wp_t9 (c : Dev nD) (v2 : BitVec 32) {Ψ : Unit → sProp 𝕄} :
    iprop(ownJ m ρ c ∗ bigSep Finset.univ fun t => iprop(∃ f, oP c t f))
      ⊢ iprop(((ownJ m ρ c ∗ bigSep Finset.univ fun t => oP c t (ownC m ρ c)) -∗ Ψ ())
        -∗ wp frame (wpE (defs₀ (F := F)) 𝒱₀ (c : Thread nD τ) none) Set.univ (Scf.Loop.for k0_t9_loop k0_t9_ok ⟨⟩ (k0_t9_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2)) Ψ) := by
  have h4 : k0_t9_loop.trips = 4 := by decide +kernel
  exact wp_tiles_loop (c := c) k0_t9_loop k0_t9_ok h4 (k0_t9_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2) (fun _ => ownJ m ρ c)
    (fun t => oP c t (ownC m ρ c)) (fun t => iprop(∃ f, oP c t f)) (fun k => by
      unfold k0_t9_body
      simp only [Prog.lift, Prog.bind_op, Prog.bind_ret, Prog.pure_eq_ret, bind_assoc]
      exact wp_own_trip m ρ c (Fin.cast h4 k) (k0_off35_eq k)
        (fun v => Scf.Loop.for k0_t10_loop k0_t10_ok (k0_pay16 (F := F)) (k0_t10_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2 v))
        (fun v Ψ' => wp_gemm_loop m c k0_t10_loop k0_t10_ok (by decide +kernel) v
          k0_pay16 rfl k0_off36 k0_off37 k0_off36_eq k0_off37_eq k0_off36_inb k0_off37_inb (fun _ => View.loadsAt_vmem h_S1024x1024) (fun _ => View.loadsAt_vmem h_S1024x1024)
          (k0_pay17 v) (fun acc a b => rfl) (k0_t10_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2 v) (fun k' acc => rfl)))

end Cert.AggRun

end
-- ==== Proof.Waits.lean ====
/-
The closing loops: each waits for the four transfers of one stage and slot.
-/
module

public import proofs.«01_k».proof.Proof.Loops

@[expose] public section

noncomputable section

namespace Cert.AggRun

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-- What a wait for one transfer takes and what it leaves. -/
def wtT (c : Dev nD) (st : Fin 4) (s : Fin 3) (t : Fin 4) : sProp 𝕄 :=
  iprop(cred (tallyAt (dCell st s t c) () N) ∗ atPos ER (dCell st s t c) 0 ∅ 0)
def wtD (c : Dev nD) (st : Fin 4) (s : Fin 3) (t : Fin 4) : sProp 𝕄 :=
  iprop(semVal (dCell st s t c) 0 ∗ xferPay m ρ c st s t)
/-- What is carried along once nothing is owed. -/
def wtJ (c : Dev nD) : sProp 𝕄 := iprop(records m ρ K ∗ levAts L lv ∗ ow c 0)

/-- A loop that waits for the four transfers of one stage and slot. -/
theorem wp_wait_loop (c : Dev nD) (st : Fin 4) (s : Fin 3) (lp : Scf.Loop 32) (ok : lp.OK) (h4 : lp.trips = 4)
    (q : Fin lp.trips → DmaSem sig) (hq : ∀ k, q k = dsem st s (Fin.cast h4 k))
    {sp sp' : Space} {s' s'' : Shape} {e' e'' : EltTy}
    (srcw : Fin lp.trips → Memref sig .tc sp' s' e') (dstw : Fin lp.trips → Memref sig .tc sp s'' e'')
    (hsrc : ∀ k, (srcw k).view.WordExact) (hdst : ∀ k, (dstw k).view.WordExact) (hN : ∀ k, (dstw k).view.dmaCredit = N)
    (body : Fin lp.trips → Unit → Prog (TpuEff nD τ sig (Elt F) Λ₀ .tc) Unit)
    (hbody : ∀ k u, body k u = .op (.waitDma2 (q k) (srcw k) (dstw k) (hsrc k) (hdst k)) fun _ => .ret ⟨⟩) {Ψ : Unit → sProp 𝕄} :
    iprop(wtJ m ρ K c ∗ bigSep Finset.univ fun t => wtT c st s t)
      ⊢ iprop(((wtJ m ρ K c ∗ bigSep Finset.univ fun t => wtD m ρ c st s t) -∗ Ψ ()) -∗ wp frame (wpE (defs₀ (F := F)) 𝒱₀ (c : Thread nD τ) none) Set.univ (Scf.Loop.for lp ok ⟨⟩ body) Ψ) :=
  wp_tiles_loop (c := c) lp ok h4 body (fun _ => wtJ m ρ K c) (fun t => wtD m ρ c st s t) (fun t => wtT c st s t) (fun k => by
    rw [hbody]
    unfold wtJ wtT wtD
    iintro ⟨⟨#HR, #HL, HO⟩, Hc, Hat⟩
    iapply (wp_xfer_wait m ρ K c st s (Fin.cast h4 k) 0 (hq k) (fun r h => absurd h (Nat.not_lt_zero _)) (hN k)) $$ [HO Hc Hat]
    · isplitr; · iexact HR
      isplitr; · iexact HL
      isplitl [HO]; · iexact HO
      isplitl [Hc] <;> iassumption
    iintro ⟨HO, Hs, Hp⟩
    rw [wp_ret]
    imodintro
    isplitl [HO]
    · isplitr; · iexact HR
      isplitr; · iexact HL
      iexact HO
    isplitl [Hs] <;> iassumption)

theorem sem0_of (s : Fin 3) (t : Fin 4) {off : Fin 2 → ℕ} (ho : off = ![s.val, t.val]) (h) : ((cc0_scratch6.slice (Rect.unit (s := S3x4) off S1x1.size h)).squeeze S_ squeezes_S1x1_S_).sem = dsem 0 s t := by
  subst ho; exact semAt0 s t h
theorem sem2_of (s : Fin 3) (t : Fin 4) {off : Fin 2 → ℕ} (ho : off = ![s.val, t.val]) (h) : ((cc0_scratch8.slice (Rect.unit (s := S3x4) off S1x1.size h)).squeeze S_ squeezes_S1x1_S_).sem = dsem 2 s t := by
  subst ho; exact semAt2 s t h
theorem sem3_of (s : Fin 3) (t : Fin 4) {off : Fin 2 → ℕ} (ho : off = ![s.val, t.val]) (h) : ((cc0_scratch9.slice (Rect.unit (s := S3x4) off S1x1.size h)).squeeze S_ squeezes_S1x1_S_).sem = dsem 3 s t := by
  subst ho; exact semAt3 s t h

/-- the partial results of slot 0 have landed. -/
theorem wp_t11 (c : Dev nD) (v2 c0 c4 : BitVec 32) {Ψ : Unit → sProp 𝕄} :
    iprop(wtJ m ρ K c ∗ bigSep Finset.univ fun t => wtT c 3 0 t)
      ⊢ iprop(((wtJ m ρ K c ∗ bigSep Finset.univ fun t => wtD m ρ c 3 0 t) -∗ Ψ ())
        -∗ wp frame (wpE (defs₀ (F := F)) 𝒱₀ (c : Thread nD τ) none) Set.univ (Scf.Loop.for k0_t11_loop k0_t11_ok ⟨⟩ (k0_t11_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 v2 c0 c4)) Ψ) :=
  wp_wait_loop m ρ K c 3 0 k0_t11_loop k0_t11_ok (by decide +kernel)
    (fun k => ((cc0_scratch9.slice (Rect.unit (s := S3x4) (k0_off38 k) S1x1.size (k0_off38_inb k))).squeeze S_ squeezes_S1x1_S_).sem)
    (fun k => sem3_of 0 (Fin.cast (by decide +kernel) k) (k0_off38_eq k) _)
    (fun k => (gM.slice (Rect.unit (s := S3x1024x1024) (k0_off39 k) S1x256x1024.size (k0_off39_inb k)) (fun _ => rfl)).squeeze S256x1024 squeezes_S1x256x1024_S256x1024)
    (fun k => (pM.slice (Rect.unit (s := S3x1024x1024) (k0_off39 k) S1x256x1024.size (k0_off39_inb k)) (fun _ => rfl)).squeeze S256x1024 squeezes_S1x256x1024_S256x1024)
    (fun k => ((Memref.isWhole_whole _).wordExact_slice rfl _ (k0_off39_wordsbf16 k)).reshape _ _) (fun k => ((Memref.isWhole_whole _).wordExact_slice rfl _ (k0_off39_wordsbf16 k)).reshape _ _) (fun k => rfl) _ (fun k u => rfl)

/-- the partial results of slot 1 have landed. -/
theorem wp_t12 (c : Dev nD) (v2 c0 c4 : BitVec 32) {Ψ : Unit → sProp 𝕄} :
    iprop(wtJ m ρ K c ∗ bigSep Finset.univ fun t => wtT c 3 1 t)
      ⊢ iprop(((wtJ m ρ K c ∗ bigSep Finset.univ fun t => wtD m ρ c 3 1 t) -∗ Ψ ())
        -∗ wp frame (wpE (defs₀ (F := F)) 𝒱₀ (c : Thread nD τ) none) Set.univ (Scf.Loop.for k0_t12_loop k0_t12_ok ⟨⟩ (k0_t12_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 v2 c0 c4)) Ψ) :=
  wp_wait_loop m ρ K c 3 1 k0_t12_loop k0_t12_ok (by decide +kernel)
    (fun k => ((cc0_scratch9.slice (Rect.unit (s := S3x4) (k0_off40 k) S1x1.size (k0_off40_inb k))).squeeze S_ squeezes_S1x1_S_).sem)
    (fun k => sem3_of 1 (Fin.cast (by decide +kernel) k) (k0_off40_eq k) _)
    (fun k => (gM.slice (Rect.unit (s := S3x1024x1024) (k0_off41 k) S1x256x1024.size (k0_off41_inb k)) (fun _ => rfl)).squeeze S256x1024 squeezes_S1x256x1024_S256x1024)
    (fun k => (pM.slice (Rect.unit (s := S3x1024x1024) (k0_off41 k) S1x256x1024.size (k0_off41_inb k)) (fun _ => rfl)).squeeze S256x1024 squeezes_S1x256x1024_S256x1024)
    (fun k => ((Memref.isWhole_whole _).wordExact_slice rfl _ (k0_off41_wordsbf16 k)).reshape _ _) (fun k => ((Memref.isWhole_whole _).wordExact_slice rfl _ (k0_off41_wordsbf16 k)).reshape _ _) (fun k => rfl) _ (fun k u => rfl)

/-- the partial results of slot 2 have landed. -/
theorem wp_t13 (c : Dev nD) (v2 c0 c4 : BitVec 32) {Ψ : Unit → sProp 𝕄} :
    iprop(wtJ m ρ K c ∗ bigSep Finset.univ fun t => wtT c 3 2 t)
      ⊢ iprop(((wtJ m ρ K c ∗ bigSep Finset.univ fun t => wtD m ρ c 3 2 t) -∗ Ψ ())
        -∗ wp frame (wpE (defs₀ (F := F)) 𝒱₀ (c : Thread nD τ) none) Set.univ (Scf.Loop.for k0_t13_loop k0_t13_ok ⟨⟩ (k0_t13_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 v2 c0 c4)) Ψ) :=
  wp_wait_loop m ρ K c 3 2 k0_t13_loop k0_t13_ok (by decide +kernel)
    (fun k => ((cc0_scratch9.slice (Rect.unit (s := S3x4) (k0_off42 k) S1x1.size (k0_off42_inb k))).squeeze S_ squeezes_S1x1_S_).sem)
    (fun k => sem3_of 2 (Fin.cast (by decide +kernel) k) (k0_off42_eq k) _)
    (fun k => (gM.slice (Rect.unit (s := S3x1024x1024) (k0_off43 k) S1x256x1024.size (k0_off43_inb k)) (fun _ => rfl)).squeeze S256x1024 squeezes_S1x256x1024_S256x1024)
    (fun k => (pM.slice (Rect.unit (s := S3x1024x1024) (k0_off43 k) S1x256x1024.size (k0_off43_inb k)) (fun _ => rfl)).squeeze S256x1024 squeezes_S1x256x1024_S256x1024)
    (fun k => ((Memref.isWhole_whole _).wordExact_slice rfl _ (k0_off43_wordsbf16 k)).reshape _ _) (fun k => ((Memref.isWhole_whole _).wordExact_slice rfl _ (k0_off43_wordsbf16 k)).reshape _ _) (fun k => rfl) _ (fun k u => rfl)

/-- the gather copies to the peer number 0 have left. -/
theorem wp_t14 (c : Dev nD) (v2 c0 c4 : BitVec 32) {Ψ : Unit → sProp 𝕄} :
    iprop(wtJ m ρ K c ∗ bigSep Finset.univ fun t => wtT c 0 0 t)
      ⊢ iprop(((wtJ m ρ K c ∗ bigSep Finset.univ fun t => wtD m ρ c 0 0 t) -∗ Ψ ())
        -∗ wp frame (wpE (defs₀ (F := F)) 𝒱₀ (c : Thread nD τ) none) Set.univ (Scf.Loop.for k0_t14_loop k0_t14_ok ⟨⟩ (k0_t14_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 v2 c0 c4)) Ψ) :=
  wp_wait_loop m ρ K c 0 0 k0_t14_loop k0_t14_ok (by decide +kernel)
    (fun k => ((cc0_scratch6.slice (Rect.unit (s := S3x4) (k0_off44 k) S1x1.size (k0_off44_inb k))).squeeze S_ squeezes_S1x1_S_).sem)
    (fun k => sem0_of 0 (Fin.cast (by decide +kernel) k) (k0_off44_eq k) _)
    (fun k => (gM.slice (Rect.unit (s := S3x1024x1024) (k0_off46 k) S1x256x1024.size (k0_off46_inb k)) (fun _ => rfl)).squeeze S256x1024 squeezes_S1x256x1024_S256x1024)
    (fun k => xM.slice (Rect.unit (s := S1024x1024) (k0_off45 k) S256x1024.size (k0_off45_inb k)) (fun _ => rfl))
    (fun k => ((Memref.isWhole_whole _).wordExact_slice rfl _ (k0_off46_wordsbf16 k)).reshape _ _) (fun k => (Memref.isWhole_whole _).wordExact_slice rfl _ (k0_off45_wordsbf16 k)) (fun k => rfl) _ (fun k u => rfl)

/-- the gather copies to the peer number 1 have left. -/
theorem wp_t15 (c : Dev nD) (v2 c0 c4 : BitVec 32) {Ψ : Unit → sProp 𝕄} :
    iprop(wtJ m ρ K c ∗ bigSep Finset.univ fun t => wtT c 0 1 t)
      ⊢ iprop(((wtJ m ρ K c ∗ bigSep Finset.univ fun t => wtD m ρ c 0 1 t) -∗ Ψ ())
        -∗ wp frame (wpE (defs₀ (F := F)) 𝒱₀ (c : Thread nD τ) none) Set.univ (Scf.Loop.for k0_t15_loop k0_t15_ok ⟨⟩ (k0_t15_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 v2 c0 c4)) Ψ) :=
  wp_wait_loop m ρ K c 0 1 k0_t15_loop k0_t15_ok (by decide +kernel)
    (fun k => ((cc0_scratch6.slice (Rect.unit (s := S3x4) (k0_off47 k) S1x1.size (k0_off47_inb k))).squeeze S_ squeezes_S1x1_S_).sem)
    (fun k => sem0_of 1 (Fin.cast (by decide +kernel) k) (k0_off47_eq k) _)
    (fun k => (gM.slice (Rect.unit (s := S3x1024x1024) (k0_off49 k) S1x256x1024.size (k0_off49_inb k)) (fun _ => rfl)).squeeze S256x1024 squeezes_S1x256x1024_S256x1024)
    (fun k => xM.slice (Rect.unit (s := S1024x1024) (k0_off48 k) S256x1024.size (k0_off48_inb k)) (fun _ => rfl))
    (fun k => ((Memref.isWhole_whole _).wordExact_slice rfl _ (k0_off49_wordsbf16 k)).reshape _ _) (fun k => (Memref.isWhole_whole _).wordExact_slice rfl _ (k0_off48_wordsbf16 k)) (fun k => rfl) _ (fun k u => rfl)

/-- the gather copies to the peer number 2 have left. -/
theorem wp_t16 (c : Dev nD) {Ψ : Unit → sProp 𝕄} :
    iprop(wtJ m ρ K c ∗ bigSep Finset.univ fun t => wtT c 0 2 t)
      ⊢ iprop(((wtJ m ρ K c ∗ bigSep Finset.univ fun t => wtD m ρ c 0 2 t) -∗ Ψ ())
        -∗ wp frame (wpE (defs₀ (F := F)) 𝒱₀ (c : Thread nD τ) none) Set.univ (Scf.Loop.for k0_t16_loop k0_t16_ok ⟨⟩ (k0_t16_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10)) Ψ) :=
  wp_wait_loop m ρ K c 0 2 k0_t16_loop k0_t16_ok (by decide +kernel)
    (fun k => ((cc0_scratch6.slice (Rect.unit (s := S3x4) (k0_off50 k) S1x1.size (k0_off50_inb k))).squeeze S_ squeezes_S1x1_S_).sem)
    (fun k => sem0_of 2 (Fin.cast (by decide +kernel) k) (k0_off50_eq k) _)
    (fun k => (gM.slice (Rect.unit (s := S3x1024x1024) (k0_off52 k) S1x256x1024.size (k0_off52_inb k)) (fun _ => rfl)).squeeze S256x1024 squeezes_S1x256x1024_S256x1024)
    (fun k => xM.slice (Rect.unit (s := S1024x1024) (k0_off51 k) S256x1024.size (k0_off51_inb k)) (fun _ => rfl))
    (fun k => ((Memref.isWhole_whole _).wordExact_slice rfl _ (k0_off52_wordsbf16 k)).reshape _ _) (fun k => (Memref.isWhole_whole _).wordExact_slice rfl _ (k0_off51_wordsbf16 k)) (fun k => rfl) _ (fun k u => rfl)

/-- the scatter copies to the peer number 0 have left. -/
theorem wp_t17 (c : Dev nD) {Ψ : Unit → sProp 𝕄} :
    iprop(wtJ m ρ K c ∗ bigSep Finset.univ fun t => wtT c 2 0 t)
      ⊢ iprop(((wtJ m ρ K c ∗ bigSep Finset.univ fun t => wtD m ρ c 2 0 t) -∗ Ψ ())
        -∗ wp frame (wpE (defs₀ (F := F)) 𝒱₀ (c : Thread nD τ) none) Set.univ (Scf.Loop.for k0_t17_loop k0_t17_ok ⟨⟩ (k0_t17_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10)) Ψ) :=
  wp_wait_loop m ρ K c 2 0 k0_t17_loop k0_t17_ok (by decide +kernel)
    (fun k => ((cc0_scratch8.slice (Rect.unit (s := S3x4) (k0_off53 k) S1x1.size (k0_off53_inb k))).squeeze S_ squeezes_S1x1_S_).sem)
    (fun k => sem2_of 0 (Fin.cast (by decide +kernel) k) (k0_off53_eq k) _)
    (fun k => (pM.slice (Rect.unit (s := S3x1024x1024) (k0_off54 k) S1x256x1024.size (k0_off54_inb k)) (fun _ => rfl)).squeeze S256x1024 squeezes_S1x256x1024_S256x1024)
    (fun k => (gM.slice (Rect.unit (s := S3x1024x1024) (k0_off54 k) S1x256x1024.size (k0_off54_inb k)) (fun _ => rfl)).squeeze S256x1024 squeezes_S1x256x1024_S256x1024)
    (fun k => ((Memref.isWhole_whole _).wordExact_slice rfl _ (k0_off54_wordsbf16 k)).reshape _ _) (fun k => ((Memref.isWhole_whole _).wordExact_slice rfl _ (k0_off54_wordsbf16 k)).reshape _ _) (fun k => rfl) _ (fun k u => rfl)

/-- the scatter copies to the peer number 1 have left. -/
theorem wp_t18 (c : Dev nD) {Ψ : Unit → sProp 𝕄} :
    iprop(wtJ m ρ K c ∗ bigSep Finset.univ fun t => wtT c 2 1 t)
      ⊢ iprop(((wtJ m ρ K c ∗ bigSep Finset.univ fun t => wtD m ρ c 2 1 t) -∗ Ψ ())
        -∗ wp frame (wpE (defs₀ (F := F)) 𝒱₀ (c : Thread nD τ) none) Set.univ (Scf.Loop.for k0_t18_loop k0_t18_ok ⟨⟩ (k0_t18_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10)) Ψ) :=
  wp_wait_loop m ρ K c 2 1 k0_t18_loop k0_t18_ok (by decide +kernel)
    (fun k => ((cc0_scratch8.slice (Rect.unit (s := S3x4) (k0_off55 k) S1x1.size (k0_off55_inb k))).squeeze S_ squeezes_S1x1_S_).sem)
    (fun k => sem2_of 1 (Fin.cast (by decide +kernel) k) (k0_off55_eq k) _)
    (fun k => (pM.slice (Rect.unit (s := S3x1024x1024) (k0_off56 k) S1x256x1024.size (k0_off56_inb k)) (fun _ => rfl)).squeeze S256x1024 squeezes_S1x256x1024_S256x1024)
    (fun k => (gM.slice (Rect.unit (s := S3x1024x1024) (k0_off56 k) S1x256x1024.size (k0_off56_inb k)) (fun _ => rfl)).squeeze S256x1024 squeezes_S1x256x1024_S256x1024)
    (fun k => ((Memref.isWhole_whole _).wordExact_slice rfl _ (k0_off56_wordsbf16 k)).reshape _ _) (fun k => ((Memref.isWhole_whole _).wordExact_slice rfl _ (k0_off56_wordsbf16 k)).reshape _ _) (fun k => rfl) _ (fun k u => rfl)

/-- the scatter copies to the peer number 2 have left. -/
theorem wp_t19 (c : Dev nD) {Ψ : Unit → sProp 𝕄} :
    iprop(wtJ m ρ K c ∗ bigSep Finset.univ fun t => wtT c 2 2 t)
      ⊢ iprop(((wtJ m ρ K c ∗ bigSep Finset.univ fun t => wtD m ρ c 2 2 t) -∗ Ψ ())
        -∗ wp frame (wpE (defs₀ (F := F)) 𝒱₀ (c : Thread nD τ) none) Set.univ (Scf.Loop.for k0_t19_loop k0_t19_ok ⟨⟩ (k0_t19_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10)) Ψ) :=
  wp_wait_loop m ρ K c 2 2 k0_t19_loop k0_t19_ok (by decide +kernel)
    (fun k => ((cc0_scratch8.slice (Rect.unit (s := S3x4) (k0_off57 k) S1x1.size (k0_off57_inb k))).squeeze S_ squeezes_S1x1_S_).sem)
    (fun k => sem2_of 2 (Fin.cast (by decide +kernel) k) (k0_off57_eq k) _)
    (fun k => (pM.slice (Rect.unit (s := S3x1024x1024) (k0_off58 k) S1x256x1024.size (k0_off58_inb k)) (fun _ => rfl)).squeeze S256x1024 squeezes_S1x256x1024_S256x1024)
    (fun k => (gM.slice (Rect.unit (s := S3x1024x1024) (k0_off58 k) S1x256x1024.size (k0_off58_inb k)) (fun _ => rfl)).squeeze S256x1024 squeezes_S1x256x1024_S256x1024)
    (fun k => ((Memref.isWhole_whole _).wordExact_slice rfl _ (k0_off58_wordsbf16 k)).reshape _ _) (fun k => ((Memref.isWhole_whole _).wordExact_slice rfl _ (k0_off58_wordsbf16 k)).reshape _ _) (fun k => rfl) _ (fun k u => rfl)

end Cert.AggRun

end
-- ==== Proof.Scatter.lean ====
/-
The scatter loops: a row tile of a peer is awaited, its partial results computed in its place and copied to the peer.
-/
module

public import proofs.«01_k».proof.Proof.Loops

@[expose] public section

noncomputable section

namespace Cert.AggRun

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

theorem owe_succ (c : Dev nD) (r : ℕ) {g : GSem nD τ sig} {a : ℕ} (hg : payCell r (pl (payPeer r) c) = g) (ha : payAmt r = a) :
    owe c (r + 1) = owe c r + tallyAt g () a := by subst hg ha; rfl

/-! ## One trip of a scatter loop -/

theorem shape_gT (s : Fin 3) (t : Fin 4) (f : (cc0_scratch0 : Ref sig .tc).ty.Contents (Elt F)) :
    (shapeCast S256x1024 ((gM.access (slotR s t)).read (Elt F) f) shapeCasts_S1x256x1024_S256x1024 : FVec F S256x1024 .bf16) = (gT s t).view.read (Elt F) f := rfl

/-- Storing the partial results of row tile `t` of the peer number `s` leaves the tile as in the computed buffer. -/
theorem stored_gT (c : Dev nD) (s : Fin 3) (t : Fin 4) (f : (cc0_scratch0 : Ref sig .tc).ty.Contents (Elt F)) :
    ((gM.access (slotR s t)).loc (c : Thread nD τ) ↦[(gT s t).view.set]{fullShare}
      ((gM.access (slotR s t)).write (Elt F) f (k0_pay5 (gacc m (xTile m ρ (pl s c) t.val) c 4)) Finset.univ) : sProp 𝕄) = gP c s t (pC m ρ c) := by
  unfold gP
  rw [← gAcc_set]
  refine pts_landed (c := (c : Thread nD τ)) (gM.access (slotR s t)) f _ _ ?_
  have h := read_gT_pC m ρ c s t
  rw [← shape_gT] at h
  unfold k0_pay5
  rw [show gacc m (xTile m ρ (pl s c) t.val) c 4 = gemmT m ρ c (pl s c) t.val from rfl, ← h]
  exact (shapeCast_shapeCast _ _ _).symm

/-- What a scatter trip takes and what it leaves. -/
def rsT (c : Dev nD) (s : Fin 3) (t : Fin 4) : sProp 𝕄 :=
  iprop(cred (tallyAt (dCell 1 s t c) () N) ∗ atPos ER (dCell 1 s t c) 0 ∅ 0 ∗ dutyTok ER (dCell 2 s t c) 0 0
    ∗ dutyTok ER (dCell 3 s t (pl s c)) 0 0 ∗ (∃ f, pP (pl s c) s t f))
def rsD (c : Dev nD) (s : Fin 3) (t : Fin 4) : sProp 𝕄 :=
  iprop(semVal (dCell 1 s t c) 0 ∗ cred (tallyAt (dCell 2 s t c) () N))
/-- What is carried along: the records, the levels, the debt, the resident weights. -/
def rsJ (c : Dev nD) (n : ℕ) : sProp 𝕄 := iprop(records m ρ K ∗ levAts L lv ∗ ow c n ∗ wt m c)

theorem wp_rs_trip (c n : Dev nD) (s : Fin 3) (t : Fin 4) (hn : n = pl s c) (r : ℕ) (hr12 : r + 1 ≤ 12)
    (hr : owe c (r + 1) = owe c r + tallyAt (dCell 3 s t (pl s c)) () N)
    {oS : Fin 2 → ℕ} (hoS : oS = ![s.val, t.val]) {oG oL : Fin 3 → ℕ} (hoG : oG = ![s.val, 256 * t.val, 0]) (hoL : oL = ![s.val, 256 * t.val, 0])
    {iS : ∀ a, oS a + S1x1.size a ≤ S3x4.size a} {iG : ∀ a, oG a + S1x256x1024.size a ≤ S3x1024x1024.size a}
    {iL : ∀ a, oL a + S1x256x1024.size a ≤ S3x1024x1024.size a}
    {sp' : Space} {s' : Shape} {e' : EltTy} {srcw : Memref sig .tc sp' s' e'} {hsrcw : srcw.view.WordExact}
    {hdstw : ((gM.slice (Rect.unit (s := S3x1024x1024) oG S1x256x1024.size iG) (fun _ => rfl)).squeeze S256x1024 squeezes_S1x256x1024_S256x1024).view.WordExact}
    {hl hl' : gM.view.LoadsAt (Rect.unit (s := S3x1024x1024) oL S1x256x1024.size iL).toLoadRect}
    (loop : Vec F S1x256x1024 .bf16 → Prog (TpuEff nD τ sig (Elt F) Λ₀ .tc) (FVec F S256x1024 .f32))
    (hloop : ∀ (v : Vec F S1x256x1024 .bf16) (Ψ : FVec F S256x1024 .f32 → sProp 𝕄), wt m c
      ⊢ iprop((wt m c -∗ Ψ (gacc m (shapeCast S256x1024 v shapeCasts_S1x256x1024_S256x1024) c 4)) -∗ wp frame (wpE (defs₀ (F := F)) 𝒱₀ (c : Thread nD τ) none) Set.univ (loop v) Ψ))
    (pay : FVec F S256x1024 .f32 → FVec F S1x256x1024 .bf16) (hpay : pay = k0_pay5)
    {hst : (gM.access (Rect.unit (s := S3x1024x1024) oL S1x256x1024.size iL)).Stores Finset.univ} {hm}
    {hsc : (((pM.slice (Rect.unit (s := S3x1024x1024) oG S1x256x1024.size iG) (fun _ => rfl)).squeeze S256x1024 squeezes_S1x256x1024_S256x1024) : Memref sig (Dev.tc n : Thread nD τ).2.kind .vmem S256x1024 .bf16).view.ref.isScScratch = false}
    {hsrc hdst hsem} :
    iprop(rsJ m ρ K c (r + 1) ∗ rsT c s t)
      ⊢ wp frame (wpE (defs₀ (F := F)) 𝒱₀ (c : Thread nD τ) none) Set.univ
        (.op (.waitDma2 ((cc0_scratch7.slice (Rect.unit (s := S3x4) oS S1x1.size iS)).squeeze S_ squeezes_S1x1_S_).sem srcw
            ((gM.slice (Rect.unit (s := S3x1024x1024) oG S1x256x1024.size iG) (fun _ => rfl)).squeeze S256x1024 squeezes_S1x256x1024_S256x1024) hsrcw hdstw) fun _ =>
         .op (.load gM (Rect.unit (s := S3x1024x1024) oL S1x256x1024.size iL).toLoadRect hl) fun v =>
         loop v >>= fun acc =>
         .op (.load gM (Rect.unit (s := S3x1024x1024) oL S1x256x1024.size iL).toLoadRect hl') fun _ =>
         .op (.store gM (Rect.unit (s := S3x1024x1024) oL S1x256x1024.size iL) (pay acc) Finset.univ hst hm) fun _ =>
         .op (.enqueueDma ((gM.slice (Rect.unit (s := S3x1024x1024) oG S1x256x1024.size iG) (fun _ => rfl)).squeeze S256x1024 squeezes_S1x256x1024_S256x1024)
            (.remote (Dev.tc n : Thread nD τ) ((pM.slice (Rect.unit (s := S3x1024x1024) oG S1x256x1024.size iG) (fun _ => rfl)).squeeze S256x1024 squeezes_S1x256x1024_S256x1024)
              (.dma ((cc0_scratch8.slice (Rect.unit (s := S3x4) oS S1x1.size iS)).squeeze S_ squeezes_S1x1_S_).sem) hsc)
            (.dma ((cc0_scratch9.slice (Rect.unit (s := S3x4) oS S1x1.size iS)).squeeze S_ squeezes_S1x1_S_).sem) hsrc hdst hsem) fun _ => .ret ⟨⟩)
        (fun _ : Unit => iprop(rsJ m ρ K c r ∗ rsD c s t)) := by
  subst hoS hoG hoL hpay
  unfold rsJ rsT rsD
  iintro ⟨⟨#HR, #HL, HO, HW⟩, Hc, Hat, Ht, Ht', Hp⟩
  iapply (wp_xfer_wait m ρ K c 1 s t (r + 1) (semAt1 s t _) (fun r' hr' => by rw [lvS_dsem1, if_pos (by omega)]; decide) (credit_gT s t)) $$ [HO Hc Hat]
  · isplitr; · iexact HR
    isplitr; · iexact HL
    isplitl [HO]; · iexact HO
    isplitl [Hc] <;> iassumption
  iintro ⟨HO, Hsem, Hg⟩
  have hx : xferPay m ρ c 1 s t ⊢ ((gM.access (slotR s t)).loc (c : Thread nD τ) ↦[(gT s t).view.set]{fullShare} xgC m ρ c : sProp 𝕄) := BI.Entails.refl _
  ihave Hg := hx $$ Hg
  iapply (wp_load_rect 𝒱₀ (c : Thread nD τ) none Set.univ (m := gM) (r := slotR s t) (gAcc_set s t).le) $$ Hg
  iintro Hg
  rw [wp_bind]
  iapply (hloop _ _) $$ HW
  iintro HW
  rw [shape_gT, read_gT_xgC]
  iapply (wp_load_rect 𝒱₀ (c : Thread nD τ) none Set.univ (m := gM) (r := slotR s t) (gAcc_set s t).le) $$ Hg
  iintro Hg
  iapply (wp_store 𝒱₀ (c : Thread nD τ) none Set.univ (m := gM) (r := slotR s t) (gAcc_set s t).le) $$ Hg
  iintro Hg
  ihave Hg := (Entails.of_eq (stored_gT m ρ c s t (xgC m ρ c))) $$ Hg
  iapply (wp_rs_send m ρ K c n s t hn r hr rfl rfl (semAt2 s t _) (semAt3 s t _)) $$ [HO Ht Ht' Hg Hp]
  · isplitr; · iexact HR
    isplitl [HO]; · iexact HO
    isplitl [Ht]; · iexact Ht
    isplitl [Ht']; · iexact Ht'
    isplitl [Hg] <;> iassumption
  iintro ⟨HO, Hc⟩
  rw [wp_ret]
  imodintro
  isplitl [HO HW]
  · isplitr; · iexact HR
    isplitr; · iexact HL
    isplitl [HO] <;> iassumption
  isplitl [Hsem] <;> iassumption

/-! ## The three scatter loops -/

theorem dev16_eq (c : Dev nD) : (⟨k0_dev16 c, k0_dev16_lt c⟩ : Dev nD) = pl 1 c := by revert c; decide +kernel
theorem owe_rs1 (c : Dev nD) (t : Fin 4) : owe c (11 - t.val + 1) = owe c (11 - t.val) + tallyAt (dCell 3 1 t (pl 1 c)) () N :=
  owe_succ c _ (by revert t c; decide) (by revert t; decide)

/-- The scatter to the peer number 1. -/
theorem wp_t3 (c : Dev nD) (v2 : BitVec 32) {Ψ : Unit → sProp 𝕄} :
    iprop(rsJ m ρ K c 12 ∗ bigSep Finset.univ fun t => rsT c 1 t)
      ⊢ iprop(((rsJ m ρ K c 8 ∗ bigSep Finset.univ fun t => rsD c 1 t) -∗ Ψ ())
        -∗ wp frame (wpE (defs₀ (F := F)) 𝒱₀ (c : Thread nD τ) none) Set.univ (Scf.Loop.for k0_t3_loop k0_t3_ok ⟨⟩ (k0_t3_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2)) Ψ) := by
  have h4 : k0_t3_loop.trips = 4 := by decide +kernel
  have h := wp_tiles_loop (c := c) k0_t3_loop k0_t3_ok h4 (k0_t3_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2) (fun k => rsJ m ρ K c (12 - k))
    (fun t => rsD c 1 t) (fun t => rsT c 1 t) (fun k => by
      have hk : k.val < 4 := lt_of_lt_of_eq k.isLt h4
      unfold k0_t3_body
      rw [k0_part5_eq_skeleton]
      unfold k0_part5_skel
      simp only [Prog.lift, Prog.bind_op, Prog.bind_ret, Prog.pure_eq_ret, bind_assoc]
      have e1 : 12 - k.val = (11 - k.val) + 1 := by omega
      have e2 : 12 - (k.val + 1) = 11 - k.val := by omega
      rw [e1, e2]
      exact wp_rs_trip m ρ K c _ 1 (Fin.cast h4 k) (dev16_eq c) (11 - k.val) (by omega) (owe_rs1 c (Fin.cast h4 k))
        (k0_off17_eq k) (k0_off18_eq k) (k0_off20_eq k)
        (fun v => Scf.Loop.for k0_t4_loop k0_t4_ok (k0_pay3 (F := F)) (k0_t4_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 v2 0#32 1#32 k v))
        (fun v Ψ' => wp_gemm_loop m c k0_t4_loop k0_t4_ok (by decide +kernel) (shapeCast S256x1024 v shapeCasts_S1x256x1024_S256x1024)
          k0_pay3 rfl k0_off21 k0_off22 k0_off21_eq k0_off22_eq k0_off21_inb k0_off22_inb (fun _ => View.loadsAt_vmem h_S1024x1024) (fun _ => View.loadsAt_vmem h_S1024x1024)
          (k0_pay4 v) (fun acc a b => by unfold k0_pay4 k0_pay17; simp only [shapeCast_self]) (k0_t4_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 v2 0#32 1#32 k v) (fun k' acc => rfl))
        k0_pay5 rfl) (Ψ := Ψ)
  exact h

theorem dev17_eq (c : Dev nD) : (⟨k0_dev17 c, k0_dev17_lt c⟩ : Dev nD) = pl 0 c := by revert c; decide +kernel
theorem owe_rs0 (c : Dev nD) (t : Fin 4) : owe c (7 - t.val + 1) = owe c (7 - t.val) + tallyAt (dCell 3 0 t (pl 0 c)) () N :=
  owe_succ c _ (by revert t c; decide) (by revert t; decide)

/-- The scatter to the peer number 0. -/
theorem wp_t5 (c : Dev nD) (v2 : BitVec 32) {Ψ : Unit → sProp 𝕄} :
    iprop(rsJ m ρ K c 8 ∗ bigSep Finset.univ fun t => rsT c 0 t)
      ⊢ iprop(((rsJ m ρ K c 4 ∗ bigSep Finset.univ fun t => rsD c 0 t) -∗ Ψ ())
        -∗ wp frame (wpE (defs₀ (F := F)) 𝒱₀ (c : Thread nD τ) none) Set.univ (Scf.Loop.for k0_t5_loop k0_t5_ok ⟨⟩ (k0_t5_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2)) Ψ) := by
  have h4 : k0_t5_loop.trips = 4 := by decide +kernel
  have h := wp_tiles_loop (c := c) k0_t5_loop k0_t5_ok h4 (k0_t5_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2) (fun k => rsJ m ρ K c (8 - k))
    (fun t => rsD c 0 t) (fun t => rsT c 0 t) (fun k => by
      have hk : k.val < 4 := lt_of_lt_of_eq k.isLt h4
      unfold k0_t5_body
      rw [k0_part6_eq_skeleton]
      unfold k0_part6_skel
      simp only [Prog.lift, Prog.bind_op, Prog.bind_ret, Prog.pure_eq_ret, bind_assoc]
      have e1 : 8 - k.val = (7 - k.val) + 1 := by omega
      have e2 : 8 - (k.val + 1) = 7 - k.val := by omega
      rw [e1, e2]
      exact wp_rs_trip m ρ K c _ 0 (Fin.cast h4 k) (dev17_eq c) (7 - k.val) (by omega) (owe_rs0 c (Fin.cast h4 k))
        (k0_off23_eq k) (k0_off24_eq k) (k0_off26_eq k)
        (fun v => Scf.Loop.for k0_t6_loop k0_t6_ok (k0_pay6 (F := F)) (k0_t6_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 v2 0#32 1#32 k v))
        (fun v Ψ' => wp_gemm_loop m c k0_t6_loop k0_t6_ok (by decide +kernel) (shapeCast S256x1024 v shapeCasts_S1x256x1024_S256x1024)
          k0_pay6 rfl k0_off27 k0_off28 k0_off27_eq k0_off28_eq k0_off27_inb k0_off28_inb (fun _ => View.loadsAt_vmem h_S1024x1024) (fun _ => View.loadsAt_vmem h_S1024x1024)
          (k0_pay7 v) (fun acc a b => by unfold k0_pay7 k0_pay17; simp only [shapeCast_self]) (k0_t6_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 v2 0#32 1#32 k v) (fun k' acc => rfl))
        k0_pay8 rfl) (Ψ := Ψ)
  exact h

theorem dev18_eq (c : Dev nD) : (⟨k0_dev18 c, k0_dev18_lt c⟩ : Dev nD) = pl 2 c := by revert c; decide +kernel
theorem owe_rs2 (c : Dev nD) (t : Fin 4) : owe c (3 - t.val + 1) = owe c (3 - t.val) + tallyAt (dCell 3 2 t (pl 2 c)) () N :=
  owe_succ c _ (by revert t c; decide) (by revert t; decide)

/-- The scatter to the peer number 2. -/
theorem wp_t7 (c : Dev nD) (v2 : BitVec 32) {Ψ : Unit → sProp 𝕄} :
    iprop(rsJ m ρ K c 4 ∗ bigSep Finset.univ fun t => rsT c 2 t)
      ⊢ iprop(((rsJ m ρ K c 0 ∗ bigSep Finset.univ fun t => rsD c 2 t) -∗ Ψ ())
        -∗ wp frame (wpE (defs₀ (F := F)) 𝒱₀ (c : Thread nD τ) none) Set.univ (Scf.Loop.for k0_t7_loop k0_t7_ok ⟨⟩ (k0_t7_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2)) Ψ) := by
  have h4 : k0_t7_loop.trips = 4 := by decide +kernel
  have h := wp_tiles_loop (c := c) k0_t7_loop k0_t7_ok h4 (k0_t7_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2) (fun k => rsJ m ρ K c (4 - k))
    (fun t => rsD c 2 t) (fun t => rsT c 2 t) (fun k => by
      have hk : k.val < 4 := lt_of_lt_of_eq k.isLt h4
      unfold k0_t7_body
      rw [k0_part7_eq_skeleton]
      unfold k0_part7_skel
      simp only [Prog.lift, Prog.bind_op, Prog.bind_ret, Prog.pure_eq_ret, bind_assoc]
      have e1 : 4 - k.val = (3 - k.val) + 1 := by omega
      have e2 : 4 - (k.val + 1) = 3 - k.val := by omega
      rw [e1, e2]
      exact wp_rs_trip m ρ K c _ 2 (Fin.cast h4 k) (dev18_eq c) (3 - k.val) (by omega) (owe_rs2 c (Fin.cast h4 k))
        (k0_off29_eq k) (k0_off30_eq k) (k0_off32_eq k)
        (fun v => Scf.Loop.for k0_t8_loop k0_t8_ok (k0_pay9 (F := F)) (k0_t8_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 v2 0#32 1#32 k v))
        (fun v Ψ' => wp_gemm_loop m c k0_t8_loop k0_t8_ok (by decide +kernel) (shapeCast S256x1024 v shapeCasts_S1x256x1024_S256x1024)
          k0_pay9 rfl k0_off33 k0_off34 k0_off33_eq k0_off34_eq k0_off33_inb k0_off34_inb (fun _ => View.loadsAt_vmem h_S1024x1024) (fun _ => View.loadsAt_vmem h_S1024x1024)
          (k0_pay10 v) (fun acc a b => by unfold k0_pay10 k0_pay17; simp only [shapeCast_self]) (k0_t8_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 v2 0#32 1#32 k v) (fun k' acc => rfl))
        k0_pay11 rfl) (Ψ := Ψ)
  exact h

end Cert.AggRun

end
-- ==== Proof.Gather.lean ====
/-
The barrier, and the sends that hand each device's rows to its peers.
-/
module

public import proofs.«01_k».proof.Proof.Scatter

@[expose] public section

noncomputable section

namespace Cert.AggRun

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## The barrier -/

/-- The records of the protocol, and what is owed. -/
def gJ (c : Dev nD) (n : ℕ) : sProp 𝕄 := iprop(records m ρ K ∗ ow c n)
/-- What the signal to the peer number `s` takes. -/
def barT (c : Dev nD) (s : Fin 3) : sProp 𝕄 := iprop(dutyTok ER (barCell (pl s c)) 0 (rev s) ∗ gAny c s ∗ pAny c (rev s))

theorem dev1_eq (c : Dev nD) : (⟨k0_dev1 c, k0_dev1_lt c⟩ : Dev nD) = pl 0 c := by revert c; decide +kernel
theorem dev2_eq (c : Dev nD) : (⟨k0_dev2 c, k0_dev2_lt c⟩ : Dev nD) = pl 1 c := by revert c; decide +kernel
theorem dev3_eq (c : Dev nD) : (⟨k0_dev3 c, k0_dev3_lt c⟩ : Dev nD) = pl 2 c := by revert c; decide +kernel
theorem owe_bar0 (c : Dev nD) : owe c (26 + 1) = owe c 26 + tallyAt (barCell (pl 0 c)) () 1 := owe_succ c _ (by revert c; decide) (by decide)
theorem owe_bar1 (c : Dev nD) : owe c (25 + 1) = owe c 25 + tallyAt (barCell (pl 1 c)) () 1 := owe_succ c _ (by revert c; decide) (by decide)
theorem owe_bar2 (c : Dev nD) : owe c (24 + 1) = owe c 24 + tallyAt (barCell (pl 2 c)) () 1 := owe_succ c _ (by revert c; decide) (by decide)

theorem wp_part8 (c : Dev nD) :
    iprop(gJ m ρ K c 27 ∗ barT c 0 ∗ barT c 1)
      ⊢ wp frame (wpE (defs₀ (F := F)) 𝒱₀ (c : Thread nD τ) none) Set.univ (k0_part8 xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10) fun r => iprop(⌜r.1 = c ∧ r.2.2.1 = SemArray.scalar (sig.barrier 0 rfl)⌝ ∗ gJ m ρ K c 25) := by
  rw [k0_part8_eq_skeleton]
  unfold k0_part8_skel gJ barT
  simp only [semSignalWord, semWaitWord, Prog.lift, Prog.bind_op, Prog.bind_ret, Prog.pure_eq_ret, bind_assoc, wp_deviceId]
  iintro ⟨⟨#HR, HO⟩, ⟨Ht0, Hg0, Hp0⟩, ⟨Ht1, Hg1, Hp1⟩⟩
  iapply (wp_bar_signal m ρ K c _ 0 (dev1_eq c) 26 (owe_bar0 c)) $$ [HO Ht0 Hg0 Hp0]
  · isplitr; · iexact HR
    isplitl [HO]; · iexact HO
    isplitl [Ht0]; · iexact Ht0
    isplitl [Hg0] <;> iassumption
  iintro HO
  iapply (wp_bar_signal m ρ K c _ 1 (dev2_eq c) 25 (owe_bar1 c)) $$ [HO Ht1 Hg1 Hp1]
  · isplitr; · iexact HR
    isplitl [HO]; · iexact HO
    isplitl [Ht1]; · iexact Ht1
    isplitl [Hg1] <;> iassumption
  iintro HO
  rw [wp_ret]
  imodintro
  isplitr
  · ipureintro; exact ⟨rfl, rfl⟩
  isplitr; · iexact HR
  iexact HO

theorem wp_part9 (c : Dev nD) (v2 v30 c4 : BitVec 32) (v31 : BitVec 1) :
    iprop(gJ m ρ K c 25 ∗ levAts L lv ∗ barT c 2 ∗ cred (tallyAt (barCell c) () 3) ∗ atPos ER (barCell c) 0 ∅ 0)
      ⊢ wp frame (wpE (defs₀ (F := F)) 𝒱₀ (c : Thread nD τ) none) Set.univ (k0_part9 xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2 (SemArray.scalar (sig.barrier 0 rfl)) v30 c4 v31) fun _ =>
          iprop(gJ m ρ K c 24 ∗ semVal (barCell c) 0 ∗ bigSep Finset.univ fun d : Fin 3 => barPay c d) := by
  rw [k0_part9_eq_skeleton]
  unfold k0_part9_skel gJ barT
  simp only [semSignalWord, semWaitWord, Prog.lift, Prog.bind_op, Prog.bind_ret, Prog.pure_eq_ret, bind_assoc]
  iintro ⟨⟨#HR, HO⟩, #HL, ⟨Ht0, Hg0, Hp0⟩, Hc, Hat⟩
  iapply (wp_bar_signal m ρ K c _ 2 (dev3_eq c) 24 (owe_bar2 c)) $$ [HO Ht0 Hg0 Hp0]
  · isplitr; · iexact HR
    isplitl [HO]; · iexact HO
    isplitl [Ht0]; · iexact Ht0
    isplitl [Hg0] <;> iassumption
  iintro HO
  iapply (wp_bar_wait m ρ K c) $$ [HO Hc Hat]
  · isplitr; · iexact HR
    isplitr; · iexact HL
    isplitl [HO]; · iexact HO
    isplitl [Hc] <;> iassumption
  iintro ⟨HO, Hs, Hb⟩
  rw [wp_ret]
  imodintro
  isplitl [HO]
  · isplitr; · iexact HR
    iexact HO
  isplitl [Hs] <;> iassumption

/-! ## The gather: row tile by row tile to each peer -/

/-- What sending row tile `t` to the peer number `s` takes. -/
def agT (c : Dev nD) (s : Fin 3) (t : Fin 4) : sProp 𝕄 :=
  iprop(dutyTok ER (dCell 0 s t c) 0 0 ∗ dutyTok ER (dCell 1 (rev s) t (pl s c)) 0 0 ∗ xP m ρ c s t ∗ (∃ f, gP (pl s c) (rev s) t f))
/-- What it leaves: the credit of its own completion. -/
def agD (c : Dev nD) (s : Fin 3) (t : Fin 4) : sProp 𝕄 := cred (tallyAt (dCell 0 s t c) () N)

theorem wp_ag_at {α : Type} {Ψ : α → sProp 𝕄} {kk : PUnit → Prog (TpuEff nD τ sig (Elt F) Λ₀ .tc) α}
    (c n : Dev nD) (s : Fin 3) (t : Fin 4) (hn : n = pl s c) (r : ℕ)
    (hr : owe c (r + 1) = owe c r + tallyAt (dCell 1 (rev s) t (pl s c)) () N)
    {oS oR oL : Fin 2 → ℕ} {oG : Fin 3 → ℕ} (hoS : oS = ![s.val, t.val]) (hoR : oR = ![(rev s).val, t.val])
    (hoL : oL = ![256 * t.val, 0]) (hoG : oG = ![(rev s).val, 256 * t.val, 0])
    {iS : ∀ a, oS a + S1x1.size a ≤ S3x4.size a} {iR : ∀ a, oR a + S1x1.size a ≤ S3x4.size a}
    {iL : ∀ a, oL a + S256x1024.size a ≤ S1024x1024.size a} {iG : ∀ a, oG a + S1x256x1024.size a ≤ S3x1024x1024.size a}
    {hsc : (((gM.slice (Rect.unit (s := S3x1024x1024) oG S1x256x1024.size iG) (fun _ => rfl)).squeeze S256x1024 squeezes_S1x256x1024_S256x1024) : Memref sig (Dev.tc n : Thread nD τ).2.kind .vmem S256x1024 .bf16).view.ref.isScScratch = false}
    {hsrc hdst hsem} :
    iprop(gJ m ρ K c (r + 1) ∗ agT m ρ c s t)
      ⊢ iprop(((gJ m ρ K c r ∗ agD c s t) -∗ wp frame (wpE (defs₀ (F := F)) 𝒱₀ (c : Thread nD τ) none) Set.univ (kk ⟨⟩) Ψ)
        -∗ wp frame (wpE (defs₀ (F := F)) 𝒱₀ (c : Thread nD τ) none) Set.univ (.op (.enqueueDma (xM.slice (Rect.unit (s := S1024x1024) oL S256x1024.size iL) (fun _ => rfl))
            (.remote (Dev.tc n : Thread nD τ) ((gM.slice (Rect.unit (s := S3x1024x1024) oG S1x256x1024.size iG) (fun _ => rfl)).squeeze S256x1024 squeezes_S1x256x1024_S256x1024)
              (.dma ((cc0_scratch6.slice (Rect.unit (s := S3x4) oS S1x1.size iS)).squeeze S_ squeezes_S1x1_S_).sem) hsc)
            (.dma ((cc0_scratch7.slice (Rect.unit (s := S3x4) oR S1x1.size iR)).squeeze S_ squeezes_S1x1_S_).sem) hsrc hdst hsem) kk) Ψ) := by
  subst hoS hoR hoL hoG
  unfold gJ agT agD
  iintro ⟨⟨#HR, HO⟩, Ht, Ht', Hx, Hg⟩ Hk
  iapply (wp_ag_send m ρ K c n s t hn r hr rfl rfl (semAt0 s t _) (semAt1 (rev s) t _)) $$ [HO Ht Ht' Hx Hg]
  · isplitr; · iexact HR
    isplitl [HO]; · iexact HO
    isplitl [Ht]; · iexact Ht
    isplitl [Ht']; · iexact Ht'
    isplitl [Hx] <;> iassumption
  iintro ⟨HO, Hc⟩
  iapply Hk
  isplitl [HO]
  · isplitr; · iexact HR
    iexact HO
  iexact Hc

theorem dev4_eq (c : Dev nD) : (⟨k0_dev4 c, k0_dev4_lt c⟩ : Dev nD) = pl 1 c := by revert c; decide +kernel
theorem owe_ag4 (c : Dev nD) : owe c (23 + 1) = owe c 23 + tallyAt (dCell 1 (rev 1) 0 (pl 1 c)) () N := owe_succ c _ (by revert c; decide) (by decide)
theorem dev5_eq (c : Dev nD) : (⟨k0_dev5 c, k0_dev5_lt c⟩ : Dev nD) = pl 1 c := by revert c; decide +kernel
theorem owe_ag5 (c : Dev nD) : owe c (22 + 1) = owe c 22 + tallyAt (dCell 1 (rev 1) 1 (pl 1 c)) () N := owe_succ c _ (by revert c; decide) (by decide)
theorem dev6_eq (c : Dev nD) : (⟨k0_dev6 c, k0_dev6_lt c⟩ : Dev nD) = pl 1 c := by revert c; decide +kernel
theorem owe_ag6 (c : Dev nD) : owe c (21 + 1) = owe c 21 + tallyAt (dCell 1 (rev 1) 2 (pl 1 c)) () N := owe_succ c _ (by revert c; decide) (by decide)
theorem dev7_eq (c : Dev nD) : (⟨k0_dev7 c, k0_dev7_lt c⟩ : Dev nD) = pl 1 c := by revert c; decide +kernel
theorem owe_ag7 (c : Dev nD) : owe c (20 + 1) = owe c 20 + tallyAt (dCell 1 (rev 1) 3 (pl 1 c)) () N := owe_succ c _ (by revert c; decide) (by decide)
theorem dev8_eq (c : Dev nD) : (⟨k0_dev8 c, k0_dev8_lt c⟩ : Dev nD) = pl 0 c := by revert c; decide +kernel
theorem owe_ag8 (c : Dev nD) : owe c (19 + 1) = owe c 19 + tallyAt (dCell 1 (rev 0) 0 (pl 0 c)) () N := owe_succ c _ (by revert c; decide) (by decide)
theorem dev9_eq (c : Dev nD) : (⟨k0_dev9 c, k0_dev9_lt c⟩ : Dev nD) = pl 2 c := by revert c; decide +kernel
theorem owe_ag9 (c : Dev nD) : owe c (18 + 1) = owe c 18 + tallyAt (dCell 1 (rev 2) 0 (pl 2 c)) () N := owe_succ c _ (by revert c; decide) (by decide)
theorem dev10_eq (c : Dev nD) : (⟨k0_dev10 c, k0_dev10_lt c⟩ : Dev nD) = pl 0 c := by revert c; decide +kernel
theorem owe_ag10 (c : Dev nD) : owe c (17 + 1) = owe c 17 + tallyAt (dCell 1 (rev 0) 1 (pl 0 c)) () N := owe_succ c _ (by revert c; decide) (by decide)
theorem dev11_eq (c : Dev nD) : (⟨k0_dev11 c, k0_dev11_lt c⟩ : Dev nD) = pl 2 c := by revert c; decide +kernel
theorem owe_ag11 (c : Dev nD) : owe c (16 + 1) = owe c 16 + tallyAt (dCell 1 (rev 2) 1 (pl 2 c)) () N := owe_succ c _ (by revert c; decide) (by decide)
theorem dev12_eq (c : Dev nD) : (⟨k0_dev12 c, k0_dev12_lt c⟩ : Dev nD) = pl 0 c := by revert c; decide +kernel
theorem owe_ag12 (c : Dev nD) : owe c (15 + 1) = owe c 15 + tallyAt (dCell 1 (rev 0) 2 (pl 0 c)) () N := owe_succ c _ (by revert c; decide) (by decide)
theorem dev13_eq (c : Dev nD) : (⟨k0_dev13 c, k0_dev13_lt c⟩ : Dev nD) = pl 2 c := by revert c; decide +kernel
theorem owe_ag13 (c : Dev nD) : owe c (14 + 1) = owe c 14 + tallyAt (dCell 1 (rev 2) 2 (pl 2 c)) () N := owe_succ c _ (by revert c; decide) (by decide)
theorem dev14_eq (c : Dev nD) : (⟨k0_dev14 c, k0_dev14_lt c⟩ : Dev nD) = pl 0 c := by revert c; decide +kernel
theorem owe_ag14 (c : Dev nD) : owe c (13 + 1) = owe c 13 + tallyAt (dCell 1 (rev 0) 3 (pl 0 c)) () N := owe_succ c _ (by revert c; decide) (by decide)
theorem dev15_eq (c : Dev nD) : (⟨k0_dev15 c, k0_dev15_lt c⟩ : Dev nD) = pl 2 c := by revert c; decide +kernel
theorem owe_ag15 (c : Dev nD) : owe c (12 + 1) = owe c 12 + tallyAt (dCell 1 (rev 2) 3 (pl 2 c)) () N := owe_succ c _ (by revert c; decide) (by decide)

theorem wp_part10 (c : Dev nD) (v2 : BitVec 32)  :
    iprop(gJ m ρ K c 24 ∗ agT m ρ c 1 0 ∗ agT m ρ c 1 1)
      ⊢ wp frame (wpE (defs₀ (F := F)) 𝒱₀ (c : Thread nD τ) none) Set.univ (k0_part10 xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2 ) fun _ => iprop(gJ m ρ K c 22 ∗ agD c 1 0 ∗ agD c 1 1) := by
  rw [k0_part10_eq_skeleton]
  unfold k0_part10_skel
  simp only [Prog.lift, Prog.bind_op, Prog.bind_ret, Prog.pure_eq_ret, bind_assoc]
  iintro ⟨HJ, H0, H1⟩
  iapply (wp_ag_at m ρ K c _ 1 0 (dev4_eq c) 23 (owe_ag4 c) rfl rfl rfl rfl) $$ [HJ H0]
  · isplitl [HJ] <;> iassumption
  iintro ⟨HJ, H0⟩
  iapply (wp_ag_at m ρ K c _ 1 1 (dev5_eq c) 22 (owe_ag5 c) rfl rfl rfl rfl) $$ [HJ H1]
  · isplitl [HJ] <;> iassumption
  iintro ⟨HJ, H1⟩
  rw [wp_ret]
  imodintro
  isplitl [HJ]; · iexact HJ
  isplitl [H0] <;> iassumption

theorem wp_part11 (c : Dev nD) (v2 : BitVec 32) (v93 : BitVec 32) :
    iprop(gJ m ρ K c 22 ∗ agT m ρ c 1 2 ∗ agT m ρ c 1 3)
      ⊢ wp frame (wpE (defs₀ (F := F)) 𝒱₀ (c : Thread nD τ) none) Set.univ (k0_part11 xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2 v93) fun _ => iprop(gJ m ρ K c 20 ∗ agD c 1 2 ∗ agD c 1 3) := by
  rw [k0_part11_eq_skeleton]
  unfold k0_part11_skel
  simp only [Prog.lift, Prog.bind_op, Prog.bind_ret, Prog.pure_eq_ret, bind_assoc]
  iintro ⟨HJ, H0, H1⟩
  iapply (wp_ag_at m ρ K c _ 1 2 (dev6_eq c) 21 (owe_ag6 c) rfl rfl rfl rfl) $$ [HJ H0]
  · isplitl [HJ] <;> iassumption
  iintro ⟨HJ, H0⟩
  iapply (wp_ag_at m ρ K c _ 1 3 (dev7_eq c) 20 (owe_ag7 c) rfl rfl rfl rfl) $$ [HJ H1]
  · isplitl [HJ] <;> iassumption
  iintro ⟨HJ, H1⟩
  rw [wp_ret]
  imodintro
  isplitl [HJ]; · iexact HJ
  isplitl [H0] <;> iassumption

theorem wp_part13 (c : Dev nD) (v2 : BitVec 32) (v150 : BitVec 32) :
    iprop(gJ m ρ K c 20 ∗ agT m ρ c 0 0 ∗ agT m ρ c 2 0)
      ⊢ wp frame (wpE (defs₀ (F := F)) 𝒱₀ (c : Thread nD τ) none) Set.univ (k0_part13 xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2 v150) fun _ => iprop(gJ m ρ K c 18 ∗ agD c 0 0 ∗ agD c 2 0) := by
  rw [k0_part13_eq_skeleton]
  unfold k0_part13_skel
  simp only [Prog.lift, Prog.bind_op, Prog.bind_ret, Prog.pure_eq_ret, bind_assoc]
  iintro ⟨HJ, H0, H1⟩
  iapply (wp_ag_at m ρ K c _ 0 0 (dev8_eq c) 19 (owe_ag8 c) rfl rfl rfl rfl) $$ [HJ H0]
  · isplitl [HJ] <;> iassumption
  iintro ⟨HJ, H0⟩
  iapply (wp_ag_at m ρ K c _ 2 0 (dev9_eq c) 18 (owe_ag9 c) rfl rfl rfl rfl) $$ [HJ H1]
  · isplitl [HJ] <;> iassumption
  iintro ⟨HJ, H1⟩
  rw [wp_ret]
  imodintro
  isplitl [HJ]; · iexact HJ
  isplitl [H0] <;> iassumption

theorem wp_part14 (c : Dev nD) (v2 : BitVec 32) (v180 : BitVec 32) :
    iprop(gJ m ρ K c 18 ∗ agT m ρ c 0 1)
      ⊢ wp frame (wpE (defs₀ (F := F)) 𝒱₀ (c : Thread nD τ) none) Set.univ (k0_part14 xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2 v180) fun _ => iprop(gJ m ρ K c 17 ∗ agD c 0 1) := by
  rw [k0_part14_eq_skeleton]
  unfold k0_part14_skel
  simp only [Prog.lift, Prog.bind_op, Prog.bind_ret, Prog.pure_eq_ret, bind_assoc]
  iintro ⟨HJ, H0⟩
  iapply (wp_ag_at m ρ K c _ 0 1 (dev10_eq c) 17 (owe_ag10 c) rfl rfl rfl rfl) $$ [HJ H0]
  · isplitl [HJ] <;> iassumption
  iintro ⟨HJ, H0⟩
  rw [wp_ret]
  imodintro
  isplitl [HJ]; · iexact HJ
  iexact H0

theorem wp_part15 (c : Dev nD) (v2 : BitVec 32) (v210 : BitVec 32) :
    iprop(gJ m ρ K c 17 ∗ agT m ρ c 2 1 ∗ agT m ρ c 0 2)
      ⊢ wp frame (wpE (defs₀ (F := F)) 𝒱₀ (c : Thread nD τ) none) Set.univ (k0_part15 xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2 v210) fun _ => iprop(gJ m ρ K c 15 ∗ agD c 2 1 ∗ agD c 0 2) := by
  rw [k0_part15_eq_skeleton]
  unfold k0_part15_skel
  simp only [Prog.lift, Prog.bind_op, Prog.bind_ret, Prog.pure_eq_ret, bind_assoc]
  iintro ⟨HJ, H0, H1⟩
  iapply (wp_ag_at m ρ K c _ 2 1 (dev11_eq c) 16 (owe_ag11 c) rfl rfl rfl rfl) $$ [HJ H0]
  · isplitl [HJ] <;> iassumption
  iintro ⟨HJ, H0⟩
  iapply (wp_ag_at m ρ K c _ 0 2 (dev12_eq c) 15 (owe_ag12 c) rfl rfl rfl rfl) $$ [HJ H1]
  · isplitl [HJ] <;> iassumption
  iintro ⟨HJ, H1⟩
  rw [wp_ret]
  imodintro
  isplitl [HJ]; · iexact HJ
  isplitl [H0] <;> iassumption

theorem wp_part16 (c : Dev nD) (v2 : BitVec 32) (v240 c4 : BitVec 32) (v241 : BitVec 1) :
    iprop(gJ m ρ K c 15 ∗ agT m ρ c 2 2)
      ⊢ wp frame (wpE (defs₀ (F := F)) 𝒱₀ (c : Thread nD τ) none) Set.univ (k0_part16 xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2 v240 c4 v241) fun _ => iprop(gJ m ρ K c 14 ∗ agD c 2 2) := by
  rw [k0_part16_eq_skeleton]
  unfold k0_part16_skel
  simp only [Prog.lift, Prog.bind_op, Prog.bind_ret, Prog.pure_eq_ret, bind_assoc]
  iintro ⟨HJ, H0⟩
  iapply (wp_ag_at m ρ K c _ 2 2 (dev13_eq c) 14 (owe_ag13 c) rfl rfl rfl rfl) $$ [HJ H0]
  · isplitl [HJ] <;> iassumption
  iintro ⟨HJ, H0⟩
  rw [wp_ret]
  imodintro
  isplitl [HJ]; · iexact HJ
  iexact H0

theorem wp_part17 (c : Dev nD) (v2 : BitVec 32) (v271 c0 : BitVec 32) :
    iprop(gJ m ρ K c 14 ∗ agT m ρ c 0 3 ∗ agT m ρ c 2 3)
      ⊢ wp frame (wpE (defs₀ (F := F)) 𝒱₀ (c : Thread nD τ) none) Set.univ (k0_part17 xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2 v271 c0) fun _ => iprop(gJ m ρ K c 12 ∗ agD c 0 3 ∗ agD c 2 3) := by
  rw [k0_part17_eq_skeleton]
  unfold k0_part17_skel
  simp only [Prog.lift, Prog.bind_op, Prog.bind_ret, Prog.pure_eq_ret, bind_assoc]
  iintro ⟨HJ, H0, H1⟩
  iapply (wp_ag_at m ρ K c _ 0 3 (dev14_eq c) 13 (owe_ag14 c) rfl rfl rfl rfl) $$ [HJ H0]
  · isplitl [HJ] <;> iassumption
  iintro ⟨HJ, H0⟩
  iapply (wp_ag_at m ρ K c _ 2 3 (dev15_eq c) 12 (owe_ag15 c) rfl rfl rfl rfl) $$ [HJ H1]
  · isplitl [HJ] <;> iassumption
  iintro ⟨HJ, H1⟩
  rw [wp_ret]
  imodintro
  isplitl [HJ]; · iexact HJ
  isplitl [H0] <;> iassumption

end Cert.AggRun

end
-- ==== Proof.Phases.lean ====
/-
The two long stretches of the kernel: from the second weights to the device's own rows, and the sum of the partial results.
-/
module

public import proofs.«01_k».proof.Proof.Weights
public import proofs.«01_k».proof.Proof.Own
public import proofs.«01_k».proof.Proof.Waits
public import proofs.«01_k».proof.Proof.Gather

@[expose] public section

noncomputable section

namespace Cert.AggRun

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

theorem bigSep_three (Φ : Fin 3 → sProp 𝕄) : bigSep Finset.univ Φ = iprop(Φ 0 ∗ Φ 1 ∗ Φ 2) := bigSep_univ_eq_bigSepL [0, 1, 2] (by decide) (by decide) Φ

/-! ## The landing buffers, whole and by tiles -/

theorem gM_tiles (c : Dev nD) (f : (cc0_scratch0 : Ref sig .tc).ty.Contents (Elt F)) :
    (gM.view.loc (c : Thread nD τ) ↦{fullShare} f : sProp 𝕄)
      = iprop((bigSep Finset.univ fun t => gP c 0 t f) ∗ (bigSep Finset.univ fun t => gP c 1 t f) ∗ bigSep Finset.univ fun t => gP c 2 t f) := by
  have h : (gM.view.loc (c : Thread nD τ) ↦{fullShare} f : sProp 𝕄) = bigSep Finset.univ fun b : Fin 3 × Fin 4 => (gM.view.loc (c : Thread nD τ) ↦[(slotR b.1 b.2).set]{fullShare} f : sProp 𝕄) :=
    whole_eq_blocks (ℓ := gM.view.loc (c : Thread nD τ)) (fun b : Fin 3 × Fin 4 => (slotR b.1 b.2).set) _ mem_g f
  have e : ∀ s t, gP c s t f = (gM.view.loc (c : Thread nD τ) ↦[(slotR s t).set]{fullShare} f : sProp 𝕄) := fun s t => by
    unfold gP; rw [gT_set]
  rw [h, bigSep_univ_prod, bigSep_three]
  simp only [e]
theorem gM_any (c : Dev nD) (f : (cc0_scratch0 : Ref sig .tc).ty.Contents (Elt F)) :
    (gM.view.loc (c : Thread nD τ) ↦{fullShare} f : sProp 𝕄) ⊢ iprop(gAny c 0 ∗ gAny c 1 ∗ gAny c 2) := by
  have h : ∀ s, (bigSep Finset.univ fun t => (gP c s t f : sProp 𝕄)) ⊢ gAny c s := fun s => by
    have h1 : ∀ t, (gP c s t f : sProp 𝕄) ⊢ iprop(∃ f, gP c s t f) := fun t => by
      iintro H; iexists f; iexact H
    exact bigSep_mono fun t _ => h1 t
  rw [gM_tiles]
  iintro ⟨H0, H1, H2⟩
  isplitl [H0]; · iapply (h 0); iexact H0
  isplitl [H1]; · iapply (h 1); iexact H1
  iapply (h 2); iexact H2

theorem pM_tiles (c : Dev nD) (f : (cc0_scratch1 : Ref sig .tc).ty.Contents (Elt F)) :
    (pM.view.loc (c : Thread nD τ) ↦{fullShare} f : sProp 𝕄)
      = iprop((bigSep Finset.univ fun t => pP c 0 t f) ∗ (bigSep Finset.univ fun t => pP c 1 t f) ∗ bigSep Finset.univ fun t => pP c 2 t f) := by
  have h : (pM.view.loc (c : Thread nD τ) ↦{fullShare} f : sProp 𝕄) = bigSep Finset.univ fun b : Fin 3 × Fin 4 => (pM.view.loc (c : Thread nD τ) ↦[(slotR b.1 b.2).set]{fullShare} f : sProp 𝕄) :=
    whole_eq_blocks (ℓ := pM.view.loc (c : Thread nD τ)) (fun b : Fin 3 × Fin 4 => (slotR b.1 b.2).set) _ mem_g f
  have e : ∀ s t, pP c s t f = (pM.view.loc (c : Thread nD τ) ↦[(slotR s t).set]{fullShare} f : sProp 𝕄) := fun s t => by
    unfold pP; rw [pT_set]
  rw [h, bigSep_univ_prod, bigSep_three]
  simp only [e]
theorem pM_any (c : Dev nD) (f : (cc0_scratch1 : Ref sig .tc).ty.Contents (Elt F)) :
    (pM.view.loc (c : Thread nD τ) ↦{fullShare} f : sProp 𝕄) ⊢ iprop(pAny c 0 ∗ pAny c 1 ∗ pAny c 2) := by
  have h : ∀ s, (bigSep Finset.univ fun t => (pP c s t f : sProp 𝕄)) ⊢ pAny c s := fun s => by
    have h1 : ∀ t, (pP c s t f : sProp 𝕄) ⊢ iprop(∃ f, pP c s t f) := fun t => by
      iintro H; iexists f; iexact H
    exact bigSep_mono fun t _ => h1 t
  rw [pM_tiles]
  iintro ⟨H0, H1, H2⟩
  isplitl [H0]; · iapply (h 0); iexact H0
  isplitl [H1]; · iapply (h 1); iexact H1
  iapply (h 2); iexact H2

/-! ## From the second weights to the last of the device's own rows -/

def pre18 (c : Dev nD) : sProp 𝕄 :=
  iprop(records m ρ K ∗ st2Pre m c ∗ (aM.view.loc (c : Thread nD τ) ↦{fullShare} w1C m c)
    ∗ (bigSep Finset.univ fun t => rsT c 1 t) ∗ (bigSep Finset.univ fun t => rsT c 0 t) ∗ (bigSep Finset.univ fun t => rsT c 2 t)
    ∗ (xM.view.loc (c : Thread nD τ) ↦{qo} xstg m ρ c) ∗ (∃ f, oM.view.loc (c : Thread nD τ) ↦{fullShare} f))
def post18 (c : Dev nD) : sProp 𝕄 :=
  iprop(wtJ m ρ K c ∗ w2H m c ∗ vMAny c ∗ wsems c ∗ wt m c
    ∗ (bigSep Finset.univ fun t => rsD c 1 t) ∗ (bigSep Finset.univ fun t => rsD c 0 t) ∗ (bigSep Finset.univ fun t => rsD c 2 t)
    ∗ (xM.view.loc (c : Thread nD τ) ↦{qo} xstg m ρ c) ∗ (oM.view.loc (c : Thread nD τ) ↦{fullShare} ownC m ρ c))

theorem wp_part18 (c : Dev nD) (v2 : BitVec 32) : pre18 m ρ K c ⊢ wp frame (wpE (defs₀ (F := F)) 𝒱₀ (c : Thread nD τ) none) Set.univ (k0_part18 xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 c v2) fun _ => post18 m ρ K c := by
  rw [k0_part18_eq_skeleton]
  unfold k0_part18_skel
  simp only [Prog.lift, Prog.bind_op, Prog.bind_ret, Prog.pure_eq_ret, bind_assoc]
  unfold pre18 post18
  iintro ⟨#HR, HS, Ha, HT1, HT0, HT2, Hx, ⟨%f, Ho⟩⟩
  iapply (wp_stream2 m c v2 rfl rfl rfl rfl rfl rfl k0_pay15 (fun v => by unfold k0_pay15; simp only [shapeCast_self])) $$ [HS]
  · iexact HS
  unfold st2Post stJ
  iintro ⟨⟨#HL, HO⟩, Hw, Hv, Hb, Hs⟩
  rw [wp_bind]
  iapply (wp_t3 m ρ K c v2) $$ [HO Ha Hb HT1]
  · isplitr [HT1]
    · unfold rsJ wt
      isplitr; · iexact HR
      isplitr; · iexact HL
      isplitl [HO]; · iexact HO
      isplitl [Ha] <;> iassumption
    iexact HT1
  iintro ⟨HJ, HD1⟩
  rw [wp_bind]
  iapply (wp_t5 m ρ K c v2) $$ [HJ HT0]
  · isplitl [HJ] <;> iassumption
  iintro ⟨HJ, HD0⟩
  rw [wp_bind]
  iapply (wp_t7 m ρ K c v2) $$ [HJ HT2]
  · isplitl [HJ] <;> iassumption
  unfold rsJ
  iintro ⟨⟨-, -, HO, Hwt⟩, HD2⟩
  rw [wp_bind]
  have hany : (oM.view.loc (c : Thread nD τ) ↦{fullShare} f : sProp 𝕄) ⊢ bigSep Finset.univ fun t => iprop(∃ f, oP c t f) :=
    blocks_any (ℓ := oM.view.loc (c : Thread nD τ)) (fun b : Fin 4 => (rowR b).set) _ mem_x f
  iapply (wp_t9 m ρ c v2) $$ [Hwt Hx Ho]
  · isplitl [Hwt Hx]
    · unfold ownJ
      isplitl [Hwt] <;> iassumption
    iapply hany; iexact Ho
  unfold ownJ
  iintro ⟨⟨Hwt, Hx⟩, Ho⟩
  rw [wp_ret]
  imodintro
  isplitl [HO]
  · unfold wtJ
    isplitr; · iexact HR
    isplitr; · iexact HL
    iexact HO
  isplitl [Hw]; · iexact Hw
  isplitl [Hv]; · iexact Hv
  isplitl [Hs]; · iexact Hs
  isplitl [Hwt]; · iexact Hwt
  isplitl [HD1]; · iexact HD1
  isplitl [HD0]; · iexact HD0
  isplitl [HD2]; · iexact HD2
  isplitl [Hx]; · iexact Hx
  rw [oP_join]
  iexact Ho

/-! ## The sum of the partial results -/

theorem inb_all : ∀ a, (![0, 0] : Fin 2 → ℕ) a + S1024x1024.size a ≤ S1024x1024.size a := by decide
/-- The whole output block, as a rectangle; one slot of the partial results. -/
abbrev allR : Rect S1024x1024 := Rect.unit (s := S1024x1024) ![0, 0] S1024x1024.size inb_all
abbrev prR (s : Fin 3) : Rect S3x1024x1024 := Rect.unit (s := S3x1024x1024) ![s.val, 0, 0] S1x1024x1024.size (inb_p s)

theorem read_all (f : (cc0_stg1_0 : Ref sig .tc).ty.Contents (Elt F)) : (oM.access allR).read (Elt F) f = f := by
  funext j
  show f (allR.emb j) = f j
  refine congrArg f (funext fun a => Fin.ext ?_)
  match a with
  | ⟨0, _⟩ => show 0 + 1 * (j 0).val = (j 0).val; omega
  | ⟨1, _⟩ => show 0 + 1 * (j 1).val = (j 1).val; omega
theorem read_pr (c : Dev nD) (s : Fin 3) : (pM.access (prR s)).read (Elt F) (prC m ρ c) = prSlot m ρ c s := by
  funext j
  show prC m ρ c ((prR s).emb j) = prC m ρ c (ix3 s (j 1) (j 2))
  have h0 : (j 0).val < 1 := (j 0).isLt
  refine congrArg _ (Shape.idx3_ext ?_ ?_ ?_)
  · show s.val + 1 * (j 0).val = s.val; omega
  · show 0 + 1 * (j 1).val = (j 1).val; omega
  · show 0 + 1 * (j 2).val = (j 2).val; omega
theorem allAcc_set : (oM.access allR).set = Finset.univ := by
  refine Finset.eq_univ_iff_forall.mpr fun i => ?_
  rw [show (oM.access allR).set = allR.set from View.set_slice_whole _ _, LoadRect.mem_set]
  intro a
  match a with
  | ⟨0, _⟩ => exact ⟨(i 0).val, (i 0).isLt, by show (i 0).val = 0 + 1 * _; omega⟩
  | ⟨1, _⟩ => exact ⟨(i 1).val, (i 1).isLt, by show (i 1).val = 0 + 1 * _; omega⟩
theorem stored_all (c : Dev nD) (f : (cc0_stg1_0 : Ref sig .tc).ty.Contents (Elt F)) (w : FVec F S1024x1024 .f32) :
    ((oM.access allR).loc (c : Thread nD τ) ↦{fullShare} ((oM.access allR).write (Elt F) f w Finset.univ) : sProp 𝕄)
      = (oM.view.loc (c : Thread nD τ) ↦{fullShare} w) := by
  have h := pts_landed (c := (c : Thread nD τ)) (q := fullShare) (oM.access allR) f w w (read_all w)
  rw [allAcc_set] at h
  exact h

def pre19 (c : Dev nD) : sProp 𝕄 :=
  iprop(wtJ m ρ K c ∗ (bigSep Finset.univ fun t => wtT c 3 0 t) ∗ (bigSep Finset.univ fun t => wtT c 3 1 t) ∗ (bigSep Finset.univ fun t => wtT c 3 2 t)
    ∗ (oM.view.loc (c : Thread nD τ) ↦{fullShare} ownC m ρ c)
    ∗ (bigSep Finset.univ fun t => wtT c 0 0 t) ∗ (bigSep Finset.univ fun t => wtT c 0 1 t))
/-- The counters of one stage and slot, at zero. -/
def zeros (c : Dev nD) (st : Fin 4) (s : Fin 3) : sProp 𝕄 := bigSep Finset.univ fun t : Fin 4 => semVal (dCell st s t c) 0
/-- The payloads of one stage and slot. -/
def pays (c : Dev nD) (st : Fin 4) (s : Fin 3) : sProp 𝕄 := bigSep Finset.univ fun t : Fin 4 => xferPay m ρ c st s t
theorem wtD_split (c : Dev nD) (st : Fin 4) (s : Fin 3) : (bigSep Finset.univ fun t => wtD m ρ c st s t) ⊢ iprop(zeros c st s ∗ pays m ρ c st s) := by
  unfold zeros pays
  rw [← bigSep_sep']
  exact BI.Entails.refl _
def post19 (c : Dev nD) : sProp 𝕄 :=
  iprop(wtJ m ρ K c ∗ (zeros c 3 0 ∗ zeros c 3 1 ∗ zeros c 3 2) ∗ (pM.view.loc (c : Thread nD τ) ↦{fullShare} prC m ρ c)
    ∗ (oM.view.loc (c : Thread nD τ) ↦{fullShare} outC m ρ c)
    ∗ (zeros c 0 0 ∗ pays m ρ c 0 0) ∗ (zeros c 0 1 ∗ pays m ρ c 0 1))

theorem wp_part19 (c : Dev nD) (v2 c0 c4 : BitVec 32) : pre19 m ρ K c ⊢ wp frame (wpE (defs₀ (F := F)) 𝒱₀ (c : Thread nD τ) none) Set.univ (k0_part19 xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10 v2 c0 c4) fun _ => post19 m ρ K c := by
  rw [k0_part19_eq_skeleton]
  unfold k0_part19_skel
  simp only [Prog.lift, Prog.bind_op, Prog.bind_ret, Prog.pure_eq_ret, bind_assoc]
  unfold pre19 post19
  iintro ⟨HJ, HT0, HT1, HT2, Ho, HX0, HX1⟩
  rw [wp_bind]
  iapply (wp_t11 m ρ K c v2 c0 c4) $$ [HJ HT0]
  · isplitl [HJ] <;> iassumption
  iintro ⟨HJ, HD0⟩
  rw [wp_bind]
  iapply (wp_t12 m ρ K c v2 c0 c4) $$ [HJ HT1]
  · isplitl [HJ] <;> iassumption
  iintro ⟨HJ, HD1⟩
  rw [wp_bind]
  iapply (wp_t13 m ρ K c v2 c0 c4) $$ [HJ HT2]
  · isplitl [HJ] <;> iassumption
  iintro ⟨HJ, HD2⟩
  ihave HD0 := (wtD_split m ρ c 3 0) $$ HD0
  icases HD0 with ⟨HZ0, HP0⟩
  ihave HD1 := (wtD_split m ρ c 3 1) $$ HD1
  icases HD1 with ⟨HZ1, HP1⟩
  ihave HD2 := (wtD_split m ρ c 3 2) $$ HD2
  icases HD2 with ⟨HZ2, HP2⟩
  have hp : iprop(pays m ρ c 3 0 ∗ pays m ρ c 3 1 ∗ pays m ρ c 3 2) ⊢ (pM.view.loc (c : Thread nD τ) ↦{fullShare} prC m ρ c : sProp 𝕄) := by
    rw [pM_tiles]; exact BI.Entails.refl _
  ihave Hp := hp $$ [HP0 HP1 HP2]
  · isplitl [HP0]; · iexact HP0
    isplitl [HP1] <;> iassumption
  iapply (wp_load_rect 𝒱₀ (c : Thread nD τ) none Set.univ (m := oM) (r := allR) (Finset.subset_univ _)) $$ Ho
  iintro Ho
  iapply (wp_load_rect 𝒱₀ (c : Thread nD τ) none Set.univ (m := pM) (r := prR 0) (Finset.subset_univ _)) $$ Hp
  iintro Hp
  iapply (wp_load_rect 𝒱₀ (c : Thread nD τ) none Set.univ (m := pM) (r := prR 1) (Finset.subset_univ _)) $$ Hp
  iintro Hp
  iapply (wp_load_rect 𝒱₀ (c : Thread nD τ) none Set.univ (m := pM) (r := prR 2) (Finset.subset_univ _)) $$ Hp
  iintro Hp
  iapply (wp_load_rect 𝒱₀ (c : Thread nD τ) none Set.univ (m := oM) (r := allR) (Finset.subset_univ _)) $$ Ho
  iintro Ho
  iapply (wp_store 𝒱₀ (c : Thread nD τ) none Set.univ (m := oM) (r := allR) (Finset.subset_univ _)) $$ Ho
  iintro Ho
  ihave Ho := (Entails.of_eq (stored_all c (ownC m ρ c) _)) $$ Ho
  rw [read_all, read_pr m ρ c 0, read_pr m ρ c 1, read_pr m ρ c 2]
  rw [wp_bind]
  iapply (wp_t14 m ρ K c v2 c0 c4) $$ [HJ HX0]
  · isplitl [HJ] <;> iassumption
  iintro ⟨HJ, HX0⟩
  rw [wp_bind]
  iapply (wp_t15 m ρ K c v2 c0 c4) $$ [HJ HX1]
  · isplitl [HJ] <;> iassumption
  iintro ⟨HJ, HX1⟩
  rw [wp_ret]
  imodintro
  isplitl [HJ]; · iexact HJ
  isplitl [HZ0 HZ1 HZ2]
  · isplitl [HZ0]; · iexact HZ0
    isplitl [HZ1] <;> iassumption
  isplitl [Hp]; · iexact Hp
  isplitl [Ho]; · iexact Ho
  isplitl [HX0]
  · iapply (wtD_split m ρ c 0 0); iexact HX0
  iapply (wtD_split m ρ c 0 1); iexact HX1

end Cert.AggRun

end
-- ==== Proof.Body.lean ====
/-
The kernel body of one device, from what the launch deals it to its result.
-/
module

public import proofs.«01_k».proof.Proof.Phases

@[expose] public section

noncomputable section

namespace Cert.AggRun

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

/-! ## What the launch deals to a device, slot by slot -/

/-- The tokens of the gather's sends to the peer number `s`. -/
def tokA (c : Dev nD) (s : Fin 3) : sProp 𝕄 :=
  bigSep Finset.univ fun t : Fin 4 => iprop(dutyTok ER (dCell 0 s t c) 0 0 ∗ dutyTok ER (dCell 1 (rev s) t (pl s c)) 0 0)
/-- What a scatter loop needs besides the landing tiles of the peer. -/
def tokR (c : Dev nD) (s : Fin 3) : sProp 𝕄 :=
  bigSep Finset.univ fun t : Fin 4 => iprop(cred (tallyAt (dCell 1 s t c) () N) ∗ atPos ER (dCell 1 s t c) 0 ∅ 0
    ∗ dutyTok ER (dCell 2 s t c) 0 0 ∗ dutyTok ER (dCell 3 s t (pl s c)) 0 0)
/-- The positions of the waits of stage `st`, slot `s`. -/
def posW (c : Dev nD) (st : Fin 4) (s : Fin 3) : sProp 𝕄 := bigSep Finset.univ fun t : Fin 4 => atPos ER (dCell st s t c) 0 ∅ 0

theorem ag_assemble (c : Dev nD) (s : Fin 3) :
    iprop(tokA c s ∗ (bigSep Finset.univ fun t => xP m ρ c s t) ∗ gAny (pl s c) (rev s)) ⊢ iprop(agT m ρ c s 0 ∗ agT m ρ c s 1 ∗ agT m ρ c s 2 ∗ agT m ρ c s 3) := by
  unfold tokA gAny
  rw [← bigSep_sep', ← bigSep_sep', ← bigSep_four]
  have h : ∀ t, iprop((dutyTok ER (dCell 0 s t c) 0 0 ∗ dutyTok ER (dCell 1 (rev s) t (pl s c)) 0 0) ∗ xP m ρ c s t ∗ (∃ f, gP (pl s c) (rev s) t f)) ⊢ agT m ρ c s t := fun t => by
    unfold agT
    iintro ⟨⟨H1, H2⟩, H3, H4⟩
    isplitl [H1]; · iexact H1
    isplitl [H2]; · iexact H2
    isplitl [H3] <;> iassumption
  exact bigSep_mono fun t _ => h t
theorem rs_assemble (c : Dev nD) (s : Fin 3) :
    iprop(tokR c s ∗ pAny (pl s c) s) ⊢ bigSep Finset.univ fun t => rsT (F := F) c s t := by
  unfold tokR pAny
  rw [← bigSep_sep']
  have h : ∀ t, iprop((cred (tallyAt (dCell 1 s t c) () N) ∗ atPos ER (dCell 1 s t c) 0 ∅ 0
    ∗ dutyTok ER (dCell 2 s t c) 0 0 ∗ dutyTok ER (dCell 3 s t (pl s c)) 0 0) ∗ (∃ f, pP (pl s c) s t f)) ⊢ rsT (F := F) c s t := fun t => by
    unfold rsT
    iintro ⟨⟨H1, H2, H3, H4⟩, H5⟩
    isplitl [H1]; · iexact H1
    isplitl [H2]; · iexact H2
    isplitl [H3]; · iexact H3
    isplitl [H4] <;> iassumption
  exact bigSep_mono fun t _ => h t
theorem wt0_assemble (c : Dev nD) (s : Fin 3) :
    iprop((agD c s 0 ∗ agD c s 1 ∗ agD c s 2 ∗ agD c s 3) ∗ posW c 0 s) ⊢ bigSep Finset.univ fun t => wtT (F := F) c 0 s t := by
  unfold posW
  rw [← bigSep_four, ← bigSep_sep']
  exact BI.Entails.refl _
theorem wt2_assemble (c : Dev nD) (s : Fin 3) :
    iprop((bigSep Finset.univ fun t => rsD (F := F) c s t) ∗ posW c 2 s) ⊢ iprop(zeros c 1 s ∗ bigSep Finset.univ fun t => wtT c 2 s t) := by
  unfold posW zeros
  rw [← bigSep_sep', ← bigSep_sep']
  have h : ∀ t, iprop(rsD (F := F) c s t ∗ atPos ER (dCell 2 s t c) 0 ∅ 0) ⊢ iprop(semVal (dCell 1 s t c) 0 ∗ wtT c 2 s t) := fun t => by
    unfold rsD wtT
    iintro ⟨⟨H1, H2⟩, H3⟩
    isplitl [H1]; · iexact H1
    isplitl [H2] <;> iassumption
  exact bigSep_mono fun t _ => h t

/-! ## The input, shared out to the sends -/

theorem xP_tiles (c : Dev nD) (s : Fin 3) :
    (bigSep Finset.univ fun t => xP m ρ c s t) = (xM.view.loc (c : Thread nD τ) ↦{qs s} xstg m ρ c : sProp 𝕄) := by
  have h : (xM.view.loc (c : Thread nD τ) ↦{qs s} xstg m ρ c : sProp 𝕄) = bigSep Finset.univ fun t : Fin 4 => (xM.view.loc (c : Thread nD τ) ↦[(rowR t).set]{qs s} xstg m ρ c : sProp 𝕄) :=
    whole_eq_blocks (ℓ := xM.view.loc (c : Thread nD τ)) (fun b : Fin 4 => (rowR b).set) _ mem_x (xstg m ρ c)
  rw [h]
  refine bigSep_congr fun t _ => ?_
  unfold xP; rw [xT_set]
theorem x_share (c : Dev nD) : (xM.view.loc (c : Thread nD τ) ↦{fullShare} xstg m ρ c : sProp 𝕄)
    ⊣⊢ iprop((xM.view.loc (c : Thread nD τ) ↦{qo} xstg m ρ c) ∗ (xM.view.loc (c : Thread nD τ) ↦{qs 0} xstg m ρ c)
      ∗ (xM.view.loc (c : Thread nD τ) ↦{qs 1} xstg m ρ c) ∗ (xM.view.loc (c : Thread nD τ) ↦{qs 2} xstg m ρ c)) := by
  have h1 : (xM.view.loc (c : Thread nD τ) ↦{fullShare} xstg m ρ c : sProp 𝕄) ⊣⊢ iprop((xM.view.loc (c : Thread nD τ) ↦{fullShare.left} xstg m ρ c) ∗ (xM.view.loc (c : Thread nD τ) ↦{fullShare.right} xstg m ρ c)) :=
    pointsTo_share (PosShare.mem_left_op_right fullShare)
  have h2 : (xM.view.loc (c : Thread nD τ) ↦{fullShare.right} xstg m ρ c : sProp 𝕄) ⊣⊢ iprop((xM.view.loc (c : Thread nD τ) ↦{fullShare.right.left} xstg m ρ c) ∗ (xM.view.loc (c : Thread nD τ) ↦{fullShare.right.right} xstg m ρ c)) :=
    pointsTo_share (PosShare.mem_left_op_right fullShare.right)
  have h3 : (xM.view.loc (c : Thread nD τ) ↦{fullShare.right.right} xstg m ρ c : sProp 𝕄) ⊣⊢ iprop((xM.view.loc (c : Thread nD τ) ↦{fullShare.right.right.left} xstg m ρ c) ∗ (xM.view.loc (c : Thread nD τ) ↦{fullShare.right.right.right} xstg m ρ c)) :=
    pointsTo_share (PosShare.mem_left_op_right fullShare.right.right)
  unfold qo qs
  constructor
  · iintro H
    ihave H := h1.1 $$ H
    icases H with ⟨Ho, H⟩
    ihave H := h2.1 $$ H
    icases H with ⟨H0, H⟩
    ihave H := h3.1 $$ H
    icases H with ⟨H1, H2⟩
    isplitl [Ho]; · iexact Ho
    isplitl [H0]; · iexact H0
    isplitl [H1] <;> iassumption
  · iintro ⟨Ho, H0, H1, H2⟩
    iapply h1.2
    isplitl [Ho]; · iexact Ho
    iapply h2.2
    isplitl [H0]; · iexact H0
    iapply h3.2
    isplitl [H1] <;> iassumption
theorem x_deal (c : Dev nD) : (xM.view.loc (c : Thread nD τ) ↦{fullShare} xstg m ρ c : sProp 𝕄)
    ⊢ iprop((xM.view.loc (c : Thread nD τ) ↦{qo} xstg m ρ c) ∗ (bigSep Finset.univ fun t => xP m ρ c 0 t)
      ∗ (bigSep Finset.univ fun t => xP m ρ c 1 t) ∗ (bigSep Finset.univ fun t => xP m ρ c 2 t)) := by
  rw [xP_tiles, xP_tiles, xP_tiles]; exact (x_share m ρ c).1
theorem x_back (c : Dev nD) : iprop((xM.view.loc (c : Thread nD τ) ↦{qo} xstg m ρ c) ∗ pays m ρ c 0 0 ∗ pays m ρ c 0 1 ∗ pays m ρ c 0 2)
    ⊢ (xM.view.loc (c : Thread nD τ) ↦{fullShare} xstg m ρ c : sProp 𝕄) := by
  have h : ∀ s, pays m ρ c 0 s = (xM.view.loc (c : Thread nD τ) ↦{qs s} xstg m ρ c : sProp 𝕄) := fun s => xP_tiles m ρ c s
  rw [h, h, h]; exact (x_share m ρ c).2
theorem g_back (c : Dev nD) : iprop(pays m ρ c 2 0 ∗ pays m ρ c 2 1 ∗ pays m ρ c 2 2) ⊢ (gM.view.loc (c : Thread nD τ) ↦{fullShare} pC m ρ c : sProp 𝕄) := by
  rw [gM_tiles]; exact BI.Entails.refl _

/-! ## The body -/

/-- The scratch buffers at any contents. -/
def scr (c : Dev nD) : sProp 𝕄 :=
  iprop((∃ f, gM.view.loc (c : Thread nD τ) ↦{fullShare} f) ∗ (∃ f, pM.view.loc (c : Thread nD τ) ↦{fullShare} f)
    ∗ aMAny c ∗ bMAny c ∗ uMAny c ∗ vMAny c)
/-- The barrier's tokens. -/
def tokB (c : Dev nD) : sProp 𝕄 := bigSep Finset.univ fun s : Fin 3 => dutyTok ER (barCell (pl s c)) 0 (rev s)
/-- What the launch deals. -/
def dealt (c : Dev nD) : sProp 𝕄 :=
  iprop((tokB c ∗ cred (tallyAt (barCell c) () 3) ∗ atPos ER (barCell c) 0 ∅ 0)
    ∗ (bigSep Finset.univ fun s => tokA c s) ∗ (bigSep Finset.univ fun s => tokR c s)
    ∗ (bigSep Finset.univ fun s => posW c 0 s) ∗ (bigSep Finset.univ fun s => posW c 2 s)
    ∗ (bigSep Finset.univ fun s : Fin 3 => bigSep Finset.univ fun t => wtT c 3 s t))
/-- Every counter of the protocol and of the local copies, at zero. -/
def allZero (c : Dev nD) : sProp 𝕄 :=
  iprop(semVal (barCell c) 0 ∗ wsems c ∗ (bigSep Finset.univ fun s => zeros c 0 s) ∗ (bigSep Finset.univ fun s => zeros c 1 s)
    ∗ (bigSep Finset.univ fun s => zeros c 2 s) ∗ (bigSep Finset.univ fun s => zeros c 3 s))

def bodyPre (c : Dev nD) : sProp 𝕄 :=
  iprop(gJ m ρ K c 27 ∗ levAts L lv ∗ dealt c ∗ scr c ∗ wsems c ∗ w1H m c ∗ w2H m c
    ∗ (xM.view.loc (c : Thread nD τ) ↦{fullShare} xstg m ρ c) ∗ (∃ f, oM.view.loc (c : Thread nD τ) ↦{fullShare} f))
def bodyPost (c : Dev nD) : sProp 𝕄 :=
  iprop(ow c 0 ∗ allZero c ∗ scr c ∗ w1H m c ∗ w2H m c
    ∗ (xM.view.loc (c : Thread nD τ) ↦{fullShare} xstg m ρ c) ∗ (oM.view.loc (c : Thread nD τ) ↦{fullShare} outC m ρ c))

theorem wp_then {α β : Type} {c : Dev nD} {p : Prog (TpuEff nD τ sig (Elt F) Λ₀ .tc) α} {k : α → Prog (TpuEff nD τ sig (Elt F) Λ₀ .tc) β}
    {A : sProp 𝕄} {B : α → sProp 𝕄} {Ψ : β → sProp 𝕄} (h : A ⊢ wp frame (wpE (defs₀ (F := F)) 𝒱₀ (c : Thread nD τ) none) Set.univ p B) :
    A ⊢ iprop((∀ a, B a -∗ wp frame (wpE (defs₀ (F := F)) 𝒱₀ (c : Thread nD τ) none) Set.univ (k a) Ψ) -∗ wp frame (wpE (defs₀ (F := F)) 𝒱₀ (c : Thread nD τ) none) Set.univ (p >>= k) Ψ) := by
  rw [wp_bind]
  iintro H Hk
  iapply (wp_wand_r frame (wpE (defs₀ (F := F)) 𝒱₀ (c : Thread nD τ) none) Set.univ)
  isplitl [H]; · iapply h; iexact H
  iexact Hk

theorem sound_body (c : Dev nD) : bodyPre m ρ K c ⊢ wp frame (wpE (defs₀ (F := F)) 𝒱₀ (c : Thread nD τ) none) Set.univ (cc0_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10) fun _ => bodyPost m ρ c := by
  rw [cc0_body_eq_skeleton]
  unfold cc0_body_skel bodyPre bodyPost dealt tokB scr
  rw [bigSep_three, bigSep_three, bigSep_three, bigSep_three, bigSep_three, bigSep_three]
  iintro ⟨HJ, #HL, ⟨⟨⟨HB0, HB1, HB2⟩, Hbc, Hbp⟩, ⟨HA0, HA1, HA2⟩, ⟨HR0, HR1, HR2⟩, ⟨HPA0, HPA1, HPA2⟩, ⟨HPS0, HPS1, HPS2⟩, HW30, HW31, HW32⟩,
    ⟨⟨%fg, Hg⟩, ⟨%fp, Hp⟩, Ha, Hb, Hu, Hv⟩, Hws, Hw1, Hw2, Hx, Ho⟩
  ihave Hg := (gM_any c fg) $$ Hg
  icases Hg with ⟨Hg0, Hg1, Hg2⟩
  ihave Hp := (pM_any c fp) $$ Hp
  icases Hp with ⟨Hp0, Hp1, Hp2⟩
  iapply (wp_then (wp_part8 m ρ K c)) $$ [HJ HB0 HB1 Hg0 Hg1 Hp1 Hp2]
  · isplitl [HJ]; · iexact HJ
    isplitl [HB0 Hg0 Hp2]
    · unfold barT
      isplitl [HB0]; · iexact HB0
      isplitl [Hg0]; · iexact Hg0
      iexact Hp2
    · unfold barT
      isplitl [HB1]; · iexact HB1
      isplitl [Hg1]; · iexact Hg1
      iexact Hp1
  iintro %r ⟨%hr, HJ⟩
  obtain ⟨d0, v2, v3, v30, c4, v31⟩ := r
  obtain ⟨h1, h2⟩ := hr
  obtain rfl : c = d0 := h1.symm
  obtain rfl : v3 = SemArray.scalar (sig.barrier 0 rfl) := h2
  iapply (wp_then (wp_part9 m ρ K c v2 v30 c4 v31)) $$ [HJ HB2 Hg2 Hp0 Hbc Hbp]
  · isplitl [HJ]; · iexact HJ
    isplitr; · iexact HL
    isplitl [HB2 Hg2 Hp0]
    · unfold barT
      isplitl [HB2]; · iexact HB2
      isplitl [Hg2]; · iexact Hg2
      iexact Hp0
    isplitl [Hbc] <;> iassumption
  iintro %r ⟨HJ, Hbz, Hbar⟩
  have hbar : (bigSep Finset.univ fun d : Fin 3 => barPay (F := F) c d) ⊢ iprop((gAny (pl 0 c) (rev 0) ∗ pAny (pl 0 c) 0) ∗ (gAny (pl 1 c) (rev 1) ∗ pAny (pl 1 c) 1)
      ∗ (gAny (pl 2 c) (rev 2) ∗ pAny (pl 2 c) 2)) := by
    rw [bigSep_three]; exact BI.Entails.refl _
  ihave Hbar := hbar $$ Hbar
  icases Hbar with ⟨⟨Hg0, Hp0⟩, ⟨Hg1, Hp1⟩, ⟨Hg2, Hp2⟩⟩
  ihave Hx := (x_deal m ρ c) $$ Hx
  icases Hx with ⟨Hx, Hx0, Hx1, Hx2⟩
  ihave HA0 := (ag_assemble m ρ c 0) $$ [HA0 Hx0 Hg0]
  · isplitl [HA0]; · iexact HA0
    isplitl [Hx0] <;> iassumption
  icases HA0 with ⟨HA00, HA01, HA02, HA03⟩
  ihave HA1 := (ag_assemble m ρ c 1) $$ [HA1 Hx1 Hg1]
  · isplitl [HA1]; · iexact HA1
    isplitl [Hx1] <;> iassumption
  icases HA1 with ⟨HA10, HA11, HA12, HA13⟩
  ihave HA2 := (ag_assemble m ρ c 2) $$ [HA2 Hx2 Hg2]
  · isplitl [HA2]; · iexact HA2
    isplitl [Hx2] <;> iassumption
  icases HA2 with ⟨HA20, HA21, HA22, HA23⟩
  ihave HR0 := (rs_assemble c 0) $$ [HR0 Hp0]
  · isplitl [HR0] <;> iassumption
  ihave HR1 := (rs_assemble c 1) $$ [HR1 Hp1]
  · isplitl [HR1] <;> iassumption
  ihave HR2 := (rs_assemble c 2) $$ [HR2 Hp2]
  · isplitl [HR2] <;> iassumption
  iapply (wp_then (wp_part10 m ρ K c v2)) $$ [HJ HA10 HA11]
  · isplitl [HJ]; · iexact HJ
    isplitl [HA10] <;> iassumption
  iintro %v93 ⟨HJ, HD10, HD11⟩
  iapply (wp_then (wp_part11 m ρ K c v2 v93)) $$ [HJ HA12 HA13]
  · isplitl [HJ]; · iexact HJ
    isplitl [HA12] <;> iassumption
  iintro %u ⟨HJ, HD12, HD13⟩
  unfold gJ
  icases HJ with ⟨#HR, HO⟩
  iapply (wp_then (wp_part12 m c v2)) $$ [HO Hw1 Hu Ha Hws]
  · unfold st1Pre stJ
    isplitl [HO]
    · isplitr; · iexact HL
      iexact HO
    isplitl [Hw1]; · iexact Hw1
    isplitl [Hu]; · iexact Hu
    isplitl [Ha] <;> iassumption
  unfold st1Post stJ
  iintro %v150 ⟨⟨-, HO⟩, Hw1, Hu, Ha, Hws⟩
  iapply (wp_then (wp_part13 m ρ K c v2 v150)) $$ [HO HA00 HA20]
  · isplitl [HO]
    · unfold gJ
      isplitr; · iexact HR
      iexact HO
    isplitl [HA00] <;> iassumption
  iintro %v180 ⟨HJ, HD00, HD20⟩
  iapply (wp_then (wp_part14 m ρ K c v2 v180)) $$ [HJ HA01]
  · isplitl [HJ] <;> iassumption
  iintro %v210 ⟨HJ, HD01⟩
  iapply (wp_then (wp_part15 m ρ K c v2 v210)) $$ [HJ HA21 HA02]
  · isplitl [HJ]; · iexact HJ
    isplitl [HA21] <;> iassumption
  iintro %r ⟨HJ, HD21, HD02⟩
  obtain ⟨v240, c4', v241⟩ := r
  iapply (wp_then (wp_part16 m ρ K c v2 v240 c4' v241)) $$ [HJ HA22]
  · isplitl [HJ] <;> iassumption
  iintro %r ⟨HJ, HD22⟩
  obtain ⟨v271, c0⟩ := r
  iapply (wp_then (wp_part17 m ρ K c v2 v271 c0)) $$ [HJ HA03 HA23]
  · isplitl [HJ]; · iexact HJ
    isplitl [HA03] <;> iassumption
  iintro %u ⟨HJ, HD03, HD23⟩
  unfold gJ
  icases HJ with ⟨-, HO⟩
  iapply (wp_then (wp_part18 m ρ K c v2)) $$ [HO Hw2 Hv Hb Hws Ha HR0 HR1 HR2 Hx Ho]
  · unfold pre18 st2Pre stJ
    isplitr; · iexact HR
    isplitl [HO Hw2 Hv Hb Hws]
    · isplitl [HO]
      · isplitr; · iexact HL
        iexact HO
      isplitl [Hw2]; · iexact Hw2
      isplitl [Hv]; · iexact Hv
      isplitl [Hb] <;> iassumption
    isplitl [Ha]; · iexact Ha
    isplitl [HR1]; · iexact HR1
    isplitl [HR0]; · iexact HR0
    isplitl [HR2]; · iexact HR2
    isplitl [Hx] <;> iassumption
  unfold post18
  iintro %r ⟨HJ, Hw2, Hv, Hws, Hwt, HD1, HD0, HD2, Hx, Ho⟩
  obtain ⟨c0', c4''⟩ := r
  ihave HX0 := (wt0_assemble c 0) $$ [HD00 HD01 HD02 HD03 HPA0]
  · isplitr [HPA0]
    · isplitl [HD00]; · iexact HD00
      isplitl [HD01]; · iexact HD01
      isplitl [HD02] <;> iassumption
    iexact HPA0
  ihave HX1 := (wt0_assemble c 1) $$ [HD10 HD11 HD12 HD13 HPA1]
  · isplitr [HPA1]
    · isplitl [HD10]; · iexact HD10
      isplitl [HD11]; · iexact HD11
      isplitl [HD12] <;> iassumption
    iexact HPA1
  ihave HX2 := (wt0_assemble c 2) $$ [HD20 HD21 HD22 HD23 HPA2]
  · isplitr [HPA2]
    · isplitl [HD20]; · iexact HD20
      isplitl [HD21]; · iexact HD21
      isplitl [HD22] <;> iassumption
    iexact HPA2
  iapply (wp_then (wp_part19 m ρ K c v2 c0' c4'')) $$ [HJ HW30 HW31 HW32 Ho HX0 HX1]
  · unfold pre19
    isplitl [HJ]; · iexact HJ
    isplitl [HW30]; · iexact HW30
    isplitl [HW31]; · iexact HW31
    isplitl [HW32]; · iexact HW32
    isplitl [Ho]; · iexact Ho
    isplitl [HX0] <;> iassumption
  unfold post19
  iintro %v0 ⟨HJ, ⟨HZ30, HZ31, HZ32⟩, Hp, Ho, ⟨HZ00, HY0⟩, ⟨HZ01, HY1⟩⟩
  rw [wp_bind]
  iapply (wp_t16 m ρ K c) $$ [HJ HX2]
  · isplitl [HJ] <;> iassumption
  iintro ⟨HJ, HX2⟩
  ihave HX2 := (wtD_split m ρ c 0 2) $$ HX2
  icases HX2 with ⟨HZ02, HY2⟩
  ihave Hx := (x_back m ρ c) $$ [Hx HY0 HY1 HY2]
  · isplitl [Hx]; · iexact Hx
    isplitl [HY0]; · iexact HY0
    isplitl [HY1] <;> iassumption
  ihave HD0 := (wt2_assemble c 0) $$ [HD0 HPS0]
  · isplitl [HD0] <;> iassumption
  icases HD0 with ⟨HZ10, HD0⟩
  rw [wp_bind]
  iapply (wp_t17 m ρ K c) $$ [HJ HD0]
  · isplitl [HJ] <;> iassumption
  iintro ⟨HJ, HD0⟩
  ihave HD0 := (wtD_split m ρ c 2 0) $$ HD0
  icases HD0 with ⟨HZ20, HG0⟩
  ihave HD1 := (wt2_assemble c 1) $$ [HD1 HPS1]
  · isplitl [HD1] <;> iassumption
  icases HD1 with ⟨HZ11, HD1⟩
  rw [wp_bind]
  iapply (wp_t18 m ρ K c) $$ [HJ HD1]
  · isplitl [HJ] <;> iassumption
  iintro ⟨HJ, HD1⟩
  ihave HD1 := (wtD_split m ρ c 2 1) $$ HD1
  icases HD1 with ⟨HZ21, HG1⟩
  ihave HD2 := (wt2_assemble c 2) $$ [HD2 HPS2]
  · isplitl [HD2] <;> iassumption
  icases HD2 with ⟨HZ12, HD2⟩
  rw [wp_bind]
  iapply (wp_t19 m ρ K c) $$ [HJ HD2]
  · isplitl [HJ] <;> iassumption
  iintro ⟨HJ, HD2⟩
  ihave HD2 := (wtD_split m ρ c 2 2) $$ HD2
  icases HD2 with ⟨HZ22, HG2⟩
  ihave Hg := (g_back m ρ c) $$ [HG0 HG1 HG2]
  · isplitl [HG0]; · iexact HG0
    isplitl [HG1] <;> iassumption
  simp only [Prog.pure_eq_ret]
  rw [wp_ret]
  imodintro
  unfold wtJ wt
  icases HJ with ⟨-, -, HO⟩
  icases Hwt with ⟨Ha, Hb⟩
  isplitl [HO]; · iexact HO
  isplitl [Hbz Hws HZ00 HZ01 HZ02 HZ10 HZ11 HZ12 HZ20 HZ21 HZ22 HZ30 HZ31 HZ32]
  · unfold allZero
    rw [bigSep_three, bigSep_three, bigSep_three, bigSep_three]
    isplitl [Hbz]; · iexact Hbz
    isplitl [Hws]; · iexact Hws
    isplitl [HZ00 HZ01 HZ02]
    · isplitl [HZ00]; · iexact HZ00
      isplitl [HZ01] <;> iassumption
    isplitl [HZ10 HZ11 HZ12]
    · isplitl [HZ10]; · iexact HZ10
      isplitl [HZ11] <;> iassumption
    isplitl [HZ20 HZ21 HZ22]
    · isplitl [HZ20]; · iexact HZ20
      isplitl [HZ21] <;> iassumption
    isplitl [HZ30]; · iexact HZ30
    isplitl [HZ31] <;> iassumption
  isplitl [Hg Hp Ha Hb Hu Hv]
  · isplitl [Hg]; · iexists _; iexact Hg
    isplitl [Hp]; · iexists _; iexact Hp
    isplitl [Ha]; · unfold aMAny; iexists _; iexact Ha
    isplitl [Hb]; · unfold bMAny; iexists _; iexact Hb
    isplitl [Hu] <;> iassumption
  isplitl [Hw1]; · iexact Hw1
  isplitl [Hw2]; · iexact Hw2
  isplitl [Hx] <;> iassumption

end Cert.AggRun

end
-- ==== Proof.Deal.lean ====
/-
What the launch deals: the duty tokens, minted on the device whose cells they are of and handed to the device that pays
them; the credits of the landings.
-/
module

public import proofs.«01_k».proof.Proof.Body
public import Idealize.ShloMosaic.Lib.SparseCore.Scatter

@[expose] public section

noncomputable section

namespace Cert.AggRun

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## Duty tokens: minted on each device for its own cells, paid by its peers -/

/-- The transfers' cells of one device. -/
abbrev XI : Type := Fin 4 × Fin 3 × Fin 4

theorem univ_CI : (Finset.univ : Finset CI) = insert none (Finset.univ.map (Function.Embedding.some : XI ↪ CI)) := by
  ext k; cases k <;> simp
theorem bigSep_CI (Φ : CI → sProp 𝕄) : bigSep Finset.univ Φ = iprop(Φ none ∗ bigSep Finset.univ fun x : XI => Φ (some x)) := by
  rw [univ_CI, BI.bigSep_insert (by simp), bigSep_map]; rfl
theorem bigSep_XI (Φ : Fin 4 → Fin 3 → Fin 4 → sProp 𝕄) :
    (bigSep Finset.univ fun x : XI => Φ x.1 x.2.1 x.2.2)
      = bigSep Finset.univ fun k : Fin 4 => bigSep Finset.univ fun s : Fin 3 => bigSep Finset.univ fun t : Fin 4 => Φ k s t := by
  rw [bigSep_univ_prod]; exact bigSep_congr fun k _ => by rw [bigSep_univ_prod]

/-- The token of a transfer's one duty; the four tokens of a stage's slot. -/
def xTok (k : Fin 4) (s : Fin 3) (t : Fin 4) (c : Dev nD) : sProp 𝕄 := dutyTok ER (dCell k s t c) 0 0
def xToks (k : Fin 4) (s : Fin 3) (c : Dev nD) : sProp 𝕄 := bigSep Finset.univ fun t : Fin 4 => xTok k s t c

/-- The tokens of a device's own cells. -/
def toks (c : Dev nD) : sProp 𝕄 :=
  iprop((bigSep Finset.univ fun d : Fin 3 => dutyTok ER (barCell c) 0 d)
    ∗ (bigSep Finset.univ fun s : Fin 3 => xToks 0 s c) ∗ (bigSep Finset.univ fun s : Fin 3 => xToks 1 s c)
    ∗ (bigSep Finset.univ fun s : Fin 3 => xToks 2 s c) ∗ (bigSep Finset.univ fun s : Fin 3 => xToks 3 s c))
/-- The tokens of the duties that a device pays. -/
def payToks (c : Dev nD) : sProp 𝕄 :=
  iprop(tokB c
    ∗ (bigSep Finset.univ fun s : Fin 3 => xToks 0 s c) ∗ (bigSep Finset.univ fun s : Fin 3 => xToks 1 (rev s) (pl s c))
    ∗ (bigSep Finset.univ fun s : Fin 3 => xToks 2 s c) ∗ (bigSep Finset.univ fun s : Fin 3 => xToks 3 s (pl s c)))

/-- A device and a peer number, seen from the peer. -/
def across : Dev nD × Fin 3 ≃ Dev nD × Fin 3 where
  toFun p := (pl p.2 p.1, rev p.2)
  invFun p := (pl p.2 p.1, rev p.2)
  left_inv p := by revert p; decide
  right_inv p := by revert p; decide
/-- The same, the number kept. -/
def along : Dev nD × Fin 3 ≃ Dev nD × Fin 3 where
  toFun p := (pl p.2 p.1, p.2)
  invFun p := (pl (rev p.2) p.1, p.2)
  left_inv p := by revert p; decide
  right_inv p := by revert p; decide

theorem deal_across (Φ : Fin 3 → Dev nD → sProp 𝕄) :
    (bigSep Finset.univ fun c : Dev nD => bigSep Finset.univ fun s : Fin 3 => Φ s c)
      = bigSep Finset.univ fun c : Dev nD => bigSep Finset.univ fun s : Fin 3 => Φ (rev s) (pl s c) := by
  rw [← bigSep_univ_prod (fun p : Dev nD × Fin 3 => Φ p.2 p.1), ← bigSep_univ_prod (fun p : Dev nD × Fin 3 => Φ (rev p.2) (pl p.2 p.1)),
    bigSep_univ_equiv across (fun p : Dev nD × Fin 3 => Φ p.2 p.1)]
  rfl
theorem deal_along (Φ : Fin 3 → Dev nD → sProp 𝕄) :
    (bigSep Finset.univ fun c : Dev nD => bigSep Finset.univ fun s : Fin 3 => Φ s c)
      = bigSep Finset.univ fun c : Dev nD => bigSep Finset.univ fun s : Fin 3 => Φ s (pl s c) := by
  rw [← bigSep_univ_prod (fun p : Dev nD × Fin 3 => Φ p.2 p.1), ← bigSep_univ_prod (fun p : Dev nD × Fin 3 => Φ p.2 (pl p.2 p.1)),
    bigSep_univ_equiv along (fun p : Dev nD × Fin 3 => Φ p.2 p.1)]
  rfl
theorem toks_around : (bigSep Finset.univ fun c : Dev nD => (toks c : sProp 𝕄)) = bigSep Finset.univ fun c : Dev nD => payToks c := by
  unfold toks payToks tokB
  simp only [bigSep_sep']
  rw [deal_across (fun d c => (dutyTok ER (barCell c) 0 d : sProp 𝕄)), deal_across (fun s c => (xToks 1 s c : sProp 𝕄)),
    deal_along (fun s c => (xToks 3 s c : sProp 𝕄))]

/-! ## The credits of the landings -/

def paySem (r : ℕ) : SemLoc sig := (payCell r 0).2
theorem payCell_eq (r : ℕ) (d : Dev nD) : payCell r d = ((d : Thread nD τ), paySem r) := by
  unfold paySem payCell; split; · rfl
  split; · rfl
  split <;> rfl

theorem creds_range (c : Dev nD) : ∀ n : ℕ, (Pipeline.launchCred (fun d => owe d n) c : sProp 𝕄)
    ⊢ bigSep (Finset.range n) fun r => cred (tallyAt (payCell r c) () (payAmt r))
  | 0 => by
    have h : (fun d : Dev nD => owe d 0) = fun _ => (0 : CellTallies nD τ sig Unit) := rfl
    rw [h, Pipeline.launchCred_zero, Finset.range_zero, BI.bigSep_empty]; exact BI.Entails.refl _
  | n + 1 => by
    have h : (fun d : Dev nD => owe d (n + 1)) = fun d => owe d n + tallyAt ((pl (payPeer n) d : Thread nD τ), paySem n) () (payAmt n) :=
      funext fun d => by rw [← payCell_eq]; rfl
    rw [h, Pipeline.launchCred_add, Finset.range_add_one, BI.bigSep_insert Finset.notMem_range_self, payCell_eq]
    have h1 := creds_range c n
    have h2 : (Pipeline.launchCred (fun d : Dev nD => tallyAt ((pl (payPeer n) d : Thread nD τ), paySem n) () (payAmt n)) c : sProp 𝕄)
        ⊢ cred (tallyAt ((c : Thread nD τ), paySem n) () (payAmt n)) :=
      Pipeline.launchCred_tallyAt (paySem n) (pl (payPeer n)) (pl (rev (payPeer n))) (pl_pl_rev _) (pl_rev_pl _) () (payAmt n) c
    have h3 : iprop((Pipeline.launchCred (fun d : Dev nD => owe d n) c : sProp 𝕄)
        ∗ Pipeline.launchCred (fun d : Dev nD => tallyAt ((pl (payPeer n) d : Thread nD τ), paySem n) () (payAmt n)) c)
        ⊢ iprop(cred (tallyAt ((c : Thread nD τ), paySem n) () (payAmt n)) ∗ bigSep (Finset.range n) fun r => cred (tallyAt (payCell r c) () (payAmt r))) := by
      iintro ⟨H, H'⟩
      isplitl [H']
      · iapply h2; iexact H'
      iapply h1; iexact H
    exact h3

theorem cr (c : Dev nD) (r : ℕ) {g : GSem nD τ sig} {n : ℕ} (h : payCell r c = g) (hn : payAmt r = n) :
    (cred (tallyAt (payCell r c) () (payAmt r)) : sProp 𝕄) ⊢ cred (tallyAt g () n) := by rw [h, hn]

/-- The credits of the landings on a device's own cells. -/
def xcreds (k : Fin 4) (c : Dev nD) : sProp 𝕄 :=
  bigSep Finset.univ fun s : Fin 3 => bigSep Finset.univ fun t : Fin 4 => cred (tallyAt (dCell k s t c) () N)
theorem creds (c : Dev nD) : (Pipeline.launchCred (fun d => owe d 27) c : sProp 𝕄)
    ⊢ iprop(cred (tallyAt (barCell c) () 3) ∗ xcreds 1 c ∗ xcreds 3 c) := by
  have h0 : (Pipeline.launchCred (fun d => owe d 27) c : sProp 𝕄) ⊢ iprop(cred (tallyAt (payCell 0 c) () (payAmt 0)) ∗ cred (tallyAt (payCell 1 c) () (payAmt 1)) ∗ cred (tallyAt (payCell 2 c) () (payAmt 2)) ∗ cred (tallyAt (payCell 3 c) () (payAmt 3)) ∗ cred (tallyAt (payCell 4 c) () (payAmt 4)) ∗ cred (tallyAt (payCell 5 c) () (payAmt 5)) ∗ cred (tallyAt (payCell 6 c) () (payAmt 6)) ∗ cred (tallyAt (payCell 7 c) () (payAmt 7)) ∗ cred (tallyAt (payCell 8 c) () (payAmt 8)) ∗ cred (tallyAt (payCell 9 c) () (payAmt 9)) ∗ cred (tallyAt (payCell 10 c) () (payAmt 10)) ∗ cred (tallyAt (payCell 11 c) () (payAmt 11)) ∗ cred (tallyAt (payCell 12 c) () (payAmt 12)) ∗ cred (tallyAt (payCell 13 c) () (payAmt 13)) ∗ cred (tallyAt (payCell 14 c) () (payAmt 14)) ∗ cred (tallyAt (payCell 15 c) () (payAmt 15)) ∗ cred (tallyAt (payCell 16 c) () (payAmt 16)) ∗ cred (tallyAt (payCell 17 c) () (payAmt 17)) ∗ cred (tallyAt (payCell 18 c) () (payAmt 18)) ∗ cred (tallyAt (payCell 19 c) () (payAmt 19)) ∗ cred (tallyAt (payCell 20 c) () (payAmt 20)) ∗ cred (tallyAt (payCell 21 c) () (payAmt 21)) ∗ cred (tallyAt (payCell 22 c) () (payAmt 22)) ∗ cred (tallyAt (payCell 23 c) () (payAmt 23)) ∗ cred (tallyAt (payCell 24 c) () (payAmt 24)) ∗ cred (tallyAt (payCell 25 c) () (payAmt 25)) ∗ cred (tallyAt (payCell 26 c) () (payAmt 26))) :=
    (creds_range (F := F) c 27).trans (Entails.of_eq (bigSep_eq_bigSepL_of_eq (S := Finset.range 27) [0, 1, 2, 3, 4, 5, 6, 7, 8, 9, 10, 11, 12, 13, 14, 15, 16, 17, 18, 19, 20, 21, 22, 23, 24, 25, 26] (by decide) (by decide) _))
  have h3 : iprop(cred (tallyAt (barCell c) () 1) ∗ cred (tallyAt (barCell c) () 1) ∗ cred (tallyAt (barCell c) () 1)) ⊢ (cred (tallyAt (barCell c) () 3) : sProp 𝕄) := by
    rw [show tallyAt (barCell c) () 3 = (tallyAt (barCell c) () 1 + (tallyAt (barCell c) () 1 + tallyAt (barCell c) () 1) : CellTallies nD τ sig Unit) by
      rw [tallyAt_add, tallyAt_add]]
    iintro ⟨H1, H2, H3⟩
    iapply (cred_add _ _).2
    isplitl [H1]; · iexact H1
    iapply (cred_add _ _).2
    isplitl [H2] <;> iassumption
  iintro H
  ihave H := h0 $$ H
  icases H with ⟨H0, H1, H2, H3, H4, H5, H6, H7, H8, H9, H10, H11, H12, H13, H14, H15, H16, H17, H18, H19, H20, H21, H22, H23, H24, H25, H26⟩
  unfold xcreds
  rw [bigSep_three, bigSep_three]
  isplitl [H24 H25 H26]
  · iapply h3
    isplitl [H24]; · iapply (cr c 24 rfl rfl); iexact H24
    isplitl [H25]; · iapply (cr c 25 rfl rfl); iexact H25
    iapply (cr c 26 rfl rfl); iexact H26
  isplitl [H12 H13 H14 H15 H16 H17 H18 H19 H20 H21 H22 H23]
  · isplitl [H18 H16 H14 H12]
    · rw [bigSep_four]
      isplitl [H18]; · iapply (cr c 18 rfl rfl); iexact H18
      isplitl [H16]; · iapply (cr c 16 rfl rfl); iexact H16
      isplitl [H14]; · iapply (cr c 14 rfl rfl); iexact H14
      iapply (cr c 12 rfl rfl); iexact H12
    isplitl [H23 H22 H21 H20]
    · rw [bigSep_four]
      isplitl [H23]; · iapply (cr c 23 rfl rfl); iexact H23
      isplitl [H22]; · iapply (cr c 22 rfl rfl); iexact H22
      isplitl [H21]; · iapply (cr c 21 rfl rfl); iexact H21
      iapply (cr c 20 rfl rfl); iexact H20
    rw [bigSep_four]
    isplitl [H19]; · iapply (cr c 19 rfl rfl); iexact H19
    isplitl [H17]; · iapply (cr c 17 rfl rfl); iexact H17
    isplitl [H15]; · iapply (cr c 15 rfl rfl); iexact H15
    iapply (cr c 13 rfl rfl); iexact H13
  isplitl [H7 H6 H5 H4]
  · rw [bigSep_four]
    isplitl [H7]; · iapply (cr c 7 rfl rfl); iexact H7
    isplitl [H6]; · iapply (cr c 6 rfl rfl); iexact H6
    isplitl [H5]; · iapply (cr c 5 rfl rfl); iexact H5
    iapply (cr c 4 rfl rfl); iexact H4
  isplitl [H11 H10 H9 H8]
  · rw [bigSep_four]
    isplitl [H11]; · iapply (cr c 11 rfl rfl); iexact H11
    isplitl [H10]; · iapply (cr c 10 rfl rfl); iexact H10
    isplitl [H9]; · iapply (cr c 9 rfl rfl); iexact H9
    iapply (cr c 8 rfl rfl); iexact H8
  rw [bigSep_four]
  isplitl [H3]; · iapply (cr c 3 rfl rfl); iexact H3
  isplitl [H2]; · iapply (cr c 2 rfl rfl); iexact H2
  isplitl [H1]; · iapply (cr c 1 rfl rfl); iexact H1
  iapply (cr c 0 rfl rfl); iexact H0

end Cert.AggRun

end
-- ==== Proof.Cells.lean ====
/-
The cells and the tokens allocated at launch: every cell of every device under its invariant, each device left with its
positions, the tokens of the duties it pays and the counters of its local copies.
-/
module

public import proofs.«01_k».proof.Proof.Deal

@[expose] public section

noncomputable section

namespace Cert.AggRun

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## The semaphores at launch -/

/-- The kernel's own semaphores: the two of the local copies, the 48 of the transfers. -/
abbrev osem : Fin 2 ⊕ XI → SemLoc sig
  | .inl p => .dma (wsem p)
  | .inr x => .dma (dsem x.1 x.2.1 x.2.2)

set_option maxRecDepth 100000 in
theorem ownSemFacts : Pipeline.OwnSemFacts cfg0.spec osem := by decide

/-- The transfers' counters at zero. -/
def xzeros (c : Dev nD) : sProp 𝕄 := bigSep Finset.univ fun x : XI => semVal (dCell x.1 x.2.1 x.2.2 c) 0
theorem xzeros_eq (c : Dev nD) : (xzeros c : sProp 𝕄) = iprop((bigSep Finset.univ fun s => zeros c 0 s) ∗ (bigSep Finset.univ fun s => zeros c 1 s)
    ∗ (bigSep Finset.univ fun s => zeros c 2 s) ∗ (bigSep Finset.univ fun s => zeros c 3 s)) := by
  unfold xzeros
  rw [bigSep_XI (fun k s t => semVal (dCell k s t c) 0), bigSep_four]; rfl
theorem ownSems0_eq (c : Dev nD) : (Pipeline.ownSems0 (Ix := Unit) (Name := ℕ) (U := UU) (Lvl := ℕ) (Val := Elt F) (τ := τ) osem c : sProp 𝕄)
    = iprop(wsems c ∗ xzeros c) := by
  unfold Pipeline.ownSems0
  rw [BI.bigSep_univ_sum, bigSep_two]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The cells and their tokens -/

theorem cellAt_injective : Function.Injective (cellAt : Dev nD × CI → GSem nD τ sig) := by
  rintro ⟨c, k⟩ ⟨c', k'⟩ h
  have h1 : c = c' := by
    have := congrArg (fun g : GSem nD τ sig => g.1.1) h
    rcases k with _ | ⟨a, b, d⟩ <;> rcases k' with _ | ⟨a', b', d'⟩ <;> exact this
  subst h1
  have h2 := congrArg Prod.snd h
  rcases k with _ | ⟨a, b, d⟩ <;> rcases k' with _ | ⟨a', b', d'⟩
  · rfl
  · cases h2
  · cases h2
  · have h3 : dsem a b d = dsem a' b' d' := by injection h2
    have ha := stageOf_dsem a b d
    have hb := slotOf_dsem a b d
    have hd := tileOf_dsem a b d
    rw [h3, stageOf_dsem] at ha
    rw [h3, slotOf_dsem] at hb
    rw [h3, tileOf_dsem] at hd
    rw [ha, hb, hd]
def allCells : Finset (GSem nD τ sig) := Finset.univ.map ⟨cellAt, cellAt_injective⟩

abbrev tokAt : Dev nD × (Fin 3 ⊕ XI) → GSem nD τ sig × ℕ × Fin 3
  | (c, .inl d) => (cellAt (c, none), 0, d)
  | (c, .inr x) => (cellAt (c, some x), 0, 0)
theorem tokAt_injective : Function.Injective tokAt := by
  rintro ⟨c, k⟩ ⟨c', k'⟩ h
  have h1 := congrArg (fun x : GSem nD τ sig × ℕ × Fin 3 => x.1) h
  have h2 := congrArg (fun x : GSem nD τ sig × ℕ × Fin 3 => x.2.2) h
  rcases k with d | x <;> rcases k' with d' | x'
  · have e : (c, (none : CI)) = (c', none) := cellAt_injective h1
    have e2 : d = d' := h2
    cases e; subst e2; rfl
  · have e : (c, (none : CI)) = (c', some x') := cellAt_injective h1
    cases e
  · have e : (c, (some x : CI)) = (c', none) := cellAt_injective h1
    cases e
  · have e : (c, (some x : CI)) = (c', some x') := cellAt_injective h1
    cases e; rfl
def allToks : Finset (GSem nD τ sig × ℕ × Fin 3) := Finset.univ.map ⟨tokAt, tokAt_injective⟩

/-- The ghost element at launch: the staging pipeline's, the protocol's, no local copy in flight. -/
def u₀ : UU :=
  (initOf (Pipeline.cells cfgs cellOf_inj) (Pipeline.launchToks cfgs cellOf_inj), (initOf allCells allToks, 1))

/-- What the launch element deals device `c`. -/
def G (c : Dev nD) : sProp 𝕄 :=
  iprop((bigSep Finset.univ fun k : CI => roundState ER (sched m ρ) (cellAt (c, k)) 0)
    ∗ (bigSep Finset.univ fun k : CI => atPos ER (cellAt (c, k)) 0 ∅ 0) ∗ (bigSep Finset.univ fun k : CI => reached ER (cellAt (c, k)) 0) ∗ toks c)

theorem toks_eq (c : Dev nD) : (bigSep Finset.univ fun j : Fin 3 ⊕ XI => (dutyTok ER (tokAt (c, j)).1 (tokAt (c, j)).2.1 (tokAt (c, j)).2.2 : sProp 𝕄)) = toks c := by
  rw [BI.bigSep_univ_sum]
  unfold toks
  have h : (bigSep Finset.univ fun x : XI => (dutyTok ER (tokAt (c, .inr x)).1 (tokAt (c, .inr x)).2.1 (tokAt (c, .inr x)).2.2 : sProp 𝕄))
      = iprop((bigSep Finset.univ fun s : Fin 3 => xToks 0 s c) ∗ (bigSep Finset.univ fun s : Fin 3 => xToks 1 s c)
    ∗ (bigSep Finset.univ fun s : Fin 3 => xToks 2 s c) ∗ (bigSep Finset.univ fun s : Fin 3 => xToks 3 s c)) :=
    (bigSep_XI fun k s t => xTok k s t c).trans (bigSep_four _)
  rw [h]; rfl

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CI => Φ (cellAt (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-- What stays with device `c`: its positions, the tokens of the duties it pays, the counters of its local copies. -/
def linear (c : Dev nD) : sProp 𝕄 :=
  iprop((bigSep Finset.univ fun k : CI => atPos ER (cellAt (c, k)) 0 ∅ 0) ∗ payToks c ∗ wsems c)
def G' (c : Dev nD) : sProp 𝕄 := iprop(∃ K, records m ρ K ∗ linear c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (sched m ρ) κ (cellAt (c, k))))
          ∗ (bigSep Finset.univ fun k : CI => atPos ER (cellAt (c, k)) 0 ∅ 0) ∗ (bigSep Finset.univ fun k : CI => reached ER (cellAt (c, k)) 0) ∗ toks c ∗ wsems c) := by
  have hz : iprop(semVal (barCell c) 0 ∗ xzeros c) ⊢ (bigSep Finset.univ fun k : CI => semVal (cellAt (c, k)) 0 : sProp 𝕄) := by
    rw [bigSep_CI]; exact BI.Entails.refl _
  have hi : iprop((bigSep Finset.univ fun k : CI => semVal (cellAt (c, k)) 0) ∗ bigSep Finset.univ fun k : CI => roundState ER (sched m ρ) (cellAt (c, k)) 0)
      ⊢ (|={Set.univ}=> bigSep Finset.univ fun k : CI => iprop(∃ κ : ℕ, cellInv ER (sched m ρ) κ (cellAt (c, k))) : sProp 𝕄) := by
    rw [← bigSep_sep']
    exact (bigSep_mono fun k _ => (Rounds.body_intro ER (sched m ρ) (cellAt (c, k))).trans inv_alloc).trans (bigSep_fupd _ _)
  rw [ownSems0_eq, unscopedSems0_eq]
  unfold G
  iintro ⟨⟨Hw, Hx⟩, Hb, Hst, Hat, Hr, Htok⟩
  ihave Hv := hz $$ [Hx Hb]
  · isplitl [Hb] <;> iassumption
  imod hi $$ [Hv Hst] with Hinv
  · isplitl [Hv] <;> iassumption
  imodintro
  isplitl [Hinv]; · iexact Hinv
  isplitl [Hat]; · iexact Hat
  isplitl [Hr]; · iexact Hr
  isplitl [Htok] <;> iassumption

/-- A persistent fact is at hand at each conjunct. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']; exact bigSep_mono h

theorem regroup :
    (bigSep Finset.univ fun c : Dev nD => iprop((bigSep Finset.univ fun k : CI => iprop(∃ κ : ℕ, cellInv ER (sched m ρ) κ (cellAt (c, k))))
          ∗ (bigSep Finset.univ fun k : CI => atPos ER (cellAt (c, k)) 0 ∅ 0) ∗ (bigSep Finset.univ fun k : CI => reached ER (cellAt (c, k)) 0) ∗ toks c ∗ wsems c) : sProp 𝕄)
      ⊢ bigSep Finset.univ (G' m ρ) := by
  have hl : iprop((bigSep Finset.univ fun c : Dev nD => bigSep Finset.univ fun k : CI => (atPos ER (cellAt (c, k)) 0 ∅ 0 : sProp 𝕄))
      ∗ (bigSep Finset.univ fun c : Dev nD => payToks c) ∗ (bigSep Finset.univ fun c : Dev nD => wsems c)) ⊢ (bigSep Finset.univ fun c : Dev nD => linear c : sProp 𝕄) := by
    rw [← bigSep_sep', ← bigSep_sep']; exact BI.Entails.refl _
  rw [bigSep_sep', bigSep_sep', bigSep_sep', bigSep_sep', ← bigSep_univ_prod (fun p : Dev nD × CI => iprop(∃ κ : ℕ, cellInv ER (sched m ρ) κ (cellAt p))),
    ← bigSep_univ_prod (fun p : Dev nD × CI => (reached ER (cellAt p) 0 : sProp 𝕄)), toks_around]
  iintro ⟨HI, Hat, #HR, Htok, Hw⟩
  ihave HK := (BI.bigSep_exists_pi Finset.univ (fun (p : Dev nD × CI) (κ : ℕ) => (cellInv ER (sched m ρ) κ (cellAt p) : sProp 𝕄))) $$ HI
  icases HK with ⟨%K, #HI⟩
  ihave Hl := hl $$ [Hat Htok Hw]
  · isplitl [Hat]; · iexact Hat
    isplitl [Htok] <;> iassumption
  have hg : ∀ c ∈ (Finset.univ : Finset (Dev nD)), iprop(records m ρ K ∗ linear c) ⊢ G' m ρ c := fun c _ => by
    unfold G'; iintro H; iexists K; iexact H
  iapply (spread (R := records m ρ K) hg)
  isplitr
  · unfold records; isplitl; · iexact HI
    iexact HR
  · iexact Hl

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.AggRun

end
-- ==== Proof.Run.lean ====
/-
The run of the four devices, over any float values: from the launch to the final memory.
-/
module

public import proofs.«01_k».proof.Proof.Cells
public import Idealize.ShloMosaic.Lib.Pipeline.CollectiveSegs

@[expose] public section

noncomputable section

namespace Cert.AggRun

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

open Idealize.ShloMosaic.Pipeline (Dat BodyObligation)
/-! ## What a device starts with -/

theorem dealt_intro (c : Dev nD) : iprop((cred (tallyAt (barCell c) () 3) ∗ xcreds 1 c ∗ xcreds 3 c) ∗ linear c) ⊢ (iprop(dealt c ∗ wsems c) : sProp 𝕄) := by
  unfold linear payToks dealt tokA tokR posW wtT xcreds xToks xTok
  rw [bigSep_CI]
  have hp : (bigSep Finset.univ fun x : XI => (atPos ER (cellAt (c, some x)) 0 ∅ 0 : sProp 𝕄))
      = iprop((bigSep Finset.univ fun s : Fin 3 => bigSep Finset.univ fun t : Fin 4 => atPos ER (dCell 0 s t c) 0 ∅ 0)
        ∗ (bigSep Finset.univ fun s : Fin 3 => bigSep Finset.univ fun t : Fin 4 => atPos ER (dCell 1 s t c) 0 ∅ 0)
        ∗ (bigSep Finset.univ fun s : Fin 3 => bigSep Finset.univ fun t : Fin 4 => atPos ER (dCell 2 s t c) 0 ∅ 0)
        ∗ (bigSep Finset.univ fun s : Fin 3 => bigSep Finset.univ fun t : Fin 4 => atPos ER (dCell 3 s t c) 0 ∅ 0)) :=
    (bigSep_XI fun k s t => atPos ER (dCell k s t c) 0 ∅ 0).trans (bigSep_four _)
  rw [hp]
  simp only [bigSep_sep']
  iintro ⟨⟨Hc, Hc1, Hc3⟩, ⟨Hat, Ha0, Ha1, Ha2, Ha3⟩, ⟨Htb, Ht0, Ht1, Ht2, Ht3⟩, Hw⟩
  isplitr [Hw]
  · isplitl [Hc Hat Htb]
    · isplitl [Htb]; · iexact Htb
      isplitl [Hc]; · iexact Hc
      iexact Hat
    isplitl [Ht0 Ht1]
    · isplitl [Ht0] <;> iassumption
    isplitl [Hc1 Ha1 Ht2 Ht3]
    · isplitl [Hc1]; · iexact Hc1
      isplitl [Ha1]; · iexact Ha1
      isplitl [Ht2] <;> iassumption
    isplitl [Ha0]; · iexact Ha0
    isplitl [Ha2]; · iexact Ha2
    isplitl [Hc3] <;> iassumption
  · iexact Hw

/-- The start: the protocol's records and what is dealt, the levels, the weights in high-bandwidth memory. -/
def start (c : Dev nD) : sProp 𝕄 :=
  iprop((∃ K, records m ρ K ∗ dealt c ∗ wsems c) ∗ levAts L lv ∗ w1H m c ∗ w2H m c)
def Φ₀ (c : Dev nD) : sProp 𝕄 := iprop(start m ρ c ∗ scr c)
def Φ₁ (c : Dev nD) : sProp 𝕄 := iprop(allZero c ∗ scr c ∗ w1H m c ∗ w2H m c)

/-- The proof data of the one staged grid point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outC m ρ c
  Φ t := match t with
    | ⟨0, _⟩ => Φ₀ m ρ c
    | ⟨_ + 1, _⟩ => Φ₁ m c
  q _ := fullShare
  owed t := match t with
    | ⟨0, _⟩ => owe c 27
    | ⟨_ + 1, _⟩ => 0

theorem whole_owns (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_x (t : Fin cfg0.N) : (cfg0.win (0 : Fin 2)).fetch t = true := by rw [fin_N0 t]; rfl

def pointPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def pointPost (c : Dev nD) : sProp 𝕄 :=
  iprop(Φ₁ m c ∗ (dats m ρ 0 c).owesAt () t0_0.succ ∗ stg c cc0_stg0_0 (xstg m ρ c) ∗ stg c cc0_stg1_0 (outC m ρ c))

theorem owes_in (c : Dev nD) : (dats (F := F) m ρ 0 c).owesAt () t0_0.castSucc ⊢ ow c 27 := by
  unfold Dat.owesAt Pipeline.owesWithin ow
  rw [show (dats m ρ 0 c).owed t0_0.castSucc = owe c 27 from rfl]
  iintro ⟨%W, %hW, HO⟩
  iexists W; iexact HO
theorem owes_out (c : Dev nD) : ow c 0 ⊢ (dats (F := F) m ρ 0 c).owesAt () t0_0.succ := by
  unfold Dat.owesAt Pipeline.owesWithin ow
  rw [show (dats m ρ 0 c).owed t0_0.succ = 0 from rfl]
  iintro ⟨%W, HO⟩
  iexists W
  isplitr; · ipureintro; exact fun _ _ => Or.inl trivial
  iexact HO
theorem before_x (c : Dev nD) (d) : (dats (F := F) m ρ 0 c).before (0 : Fin 2) t0_0 d = xstg m ρ c := by
  unfold Dat.before; rw [if_pos (fetch_x t0_0)]; rfl

theorem point (c : Dev nD) : pointPre m ρ c ⊢ wp frame (wpE (defs₀ (F := F)) 𝒱₀ (c : Thread nD τ) none) Set.univ (cc0_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10) fun _ => pointPost m ρ c := by
  unfold pointPre Φ₀ start stg
  iintro ⟨⟨⟨⟨%K, HR, Hd, Hws⟩, HL, Hw1, Hw2⟩, Hscr⟩, HO, ⟨%d0, %f0, %h0, Hx⟩, ⟨%d1, %f1, %h1, Hout⟩⟩
  rw [before_x] at h0
  subst h0
  ihave HO := (owes_in m ρ c) $$ HO
  iapply (wp_wand_r frame (wpE (defs₀ (F := F)) 𝒱₀ (c : Thread nD τ) none) Set.univ)
  isplitl [HR Hd Hws HL Hw1 Hw2 Hscr HO Hx Hout]
  · iapply (sound_body m ρ K c)
    unfold bodyPre gJ
    isplitl [HR HO]
    · isplitl [HR] <;> iassumption
    isplitl [HL]; · iexact HL
    isplitl [Hd]; · iexact Hd
    isplitl [Hscr]; · iexact Hscr
    isplitl [Hws]; · iexact Hws
    isplitl [Hw1]; · iexact Hw1
    isplitl [Hw2]; · iexact Hw2
    isplitl [Hx]; · iexact Hx
    iexists f1; iexact Hout
  · iintro %u H
    unfold bodyPost pointPost Φ₁ stg
    icases H with ⟨HO, Hz, Hscr, Hw1, Hw2, Hx, Hout⟩
    isplitl [Hz Hscr Hw1 Hw2]
    · isplitl [Hz]; · iexact Hz
      isplitl [Hscr]; · iexact Hscr
      isplitl [Hw1] <;> iassumption
    isplitl [HO]; · iapply (owes_out m ρ c); iexact HO
    isplitl [Hx]
    · iexists _; isplitr; · (ipureintro; rfl)
      iexact Hx
    iexists _; isplitr; · (ipureintro; rfl)
    iexact Hout

set_option maxRecDepth 4000 in
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [whole_owns]
  show pointPre m ρ c ⊢ wp frame (wpE (defs₀ (F := F)) 𝒱₀ (c : Thread nD τ) none) Set.univ (cc0_body xM (Memref.isWhole_whole _) w1M (Memref.isWhole_whole _) w2M (Memref.isWhole_whole _) oM (Memref.isWhole_whole _) gM (Memref.isWhole_whole _) pM (Memref.isWhole_whole _) aM (Memref.isWhole_whole _) bM (Memref.isWhole_whole _) uM (Memref.isWhole_whole _) vM (Memref.isWhole_whole _) cc0_scratch6 cc0_scratch7 cc0_scratch8 cc0_scratch9 cc0_scratch10) (fun _ => pointPost m ρ c)
  exact point m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owe d 27) c ∗ prngReg c (ρ c) ∗ G' m ρ c)
      ⊢ |={Set.univ}=> iprop(start m ρ c ∗ emp) := by
  have hw : (Pipeline.unscopedRestP Pipeline.Prefetch.none cfg0.spec c (fun b => m ((c : Thread nD τ).loc b)) : sProp 𝕄) ⊢ iprop(w1H m c ∗ w2H m c) :=
    by
      rw [show (Pipeline.unscopedRestP Pipeline.Prefetch.none cfg0.spec c (fun b => m ((c : Thread nD τ).loc b)) : sProp 𝕄)
        = Pipeline.unscopedRest spec0 c (fun b => m ((c : Thread nD τ).loc b)) from Pipeline.unscopedRestP_none _ _ _, unscopedRest0_eq]
      exact BI.Entails.refl _
  unfold G' start
  iintro ⟨Hw, Hlev, Hcr, -, ⟨%K, #HR, Hl⟩⟩
  ihave Hw := hw $$ Hw
  icases Hw with ⟨Hw1, Hw2⟩
  ihave Hc := (creds (F := F) c) $$ Hcr
  ihave Hd := (dealt_intro c) $$ [Hc Hl]
  · isplitl [Hc] <;> iassumption
  imodintro
  isplitl
  · isplitl [Hd]
    · iexists K
      isplitr; · iexact HR
      iexact Hd
    isplitl [Hlev]; · iexact Hlev
    isplitl [Hw1] <;> iassumption
  · iempintro

theorem scr_of_rest (c : Dev nD) : (Pipeline.scopedRest cfg0.spec c : sProp 𝕄) = scr c := by
  unfold scr aMAny bMAny uMAny vMAny
  exact scopedRest0_eq c

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scr_of_rest]
  unfold Φ₀
  iintro ⟨Hs, -, Hr⟩
  isplitl [Hs] <;> iassumption

/-- What is read at the end: the barrier's counter, the weights. -/
def atEnd (c : Dev nD) : sProp 𝕄 := iprop(unscopedSems0 c ∗ w1H m c ∗ w2H m c)
theorem phi1_exit (c : Dev nD) :
    (dats m ρ 0 c).Φ (Fin.last cfg0.N) ⊢ iprop(atEnd m c ∗ Pipeline.ownSems0 osem c ∗ Pipeline.scopedRest cfg0.spec c) := by
  rw [show (dats m ρ 0 c).Φ (Fin.last cfg0.N) = Φ₁ m c from rfl, scr_of_rest, ownSems0_eq]
  unfold Φ₁ allZero atEnd
  rw [unscopedSems0_eq, xzeros_eq]
  iintro ⟨⟨Hb, Hw, Hz⟩, Hs, Hw1, Hw2⟩
  isplitl [Hb Hw1 Hw2]
  · isplitl [Hb]; · iexact Hb
    isplitl [Hw1] <;> iassumption
  isplitl [Hw Hz]
  · isplitl [Hw] <;> iassumption
  iexact Hs

theorem waits (c : Dev nD) : (levAts L lv : sProp 𝕄) ⊢ Pipeline.cellsWaits cfgs (dats m ρ) () 0 c :=
  Pipeline.cellsWaits_intro cfgs (dats m ρ) () 0 c fun w s t => by
    have h0 : lvS (.dma ((cfgs 0).spec w |>.sem s)) = 0 := by fin_cases w <;> fin_cases s <;> decide
    rcases t with ⟨_ | _, ht⟩
    · exact mayWait_low c _ 27 h0
    · exact mayWait_low c _ 0 h0

/-! ## The run -/

def finalA (c : Dev nD) (w : Fin cfg0.W) : Buf (Elt F) ((cfg0.win w).arr.view.loc (c : Thread nD τ)) := (dats m ρ 0 c).arrAt w cfg0.N

/-- The final state: the staged arrays as computed, the weights untouched. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)
    ∧ r.2.mem ((c : Thread nD τ).loc main_arg2) = m ((c : Thread nD τ).loc main_arg2)

def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)
    ∧ s.mem ((c : Thread nD τ).loc main_arg2) = m ((c : Thread nD τ).loc main_arg2)

theorem read_end (c : Dev nD) (s' : Phys nD τ sig (Elt F)) : iprop(atEnd m c ∗ emp ∗ SI s') ⊢ (|={Set.univ}=> iprop(⌜QY m c s'.mem⌝ ∗ SI s') : sProp 𝕄) := by
  unfold atEnd w1H w2H QY
  iintro ⟨⟨Hu, H1, H2⟩, -, HSI⟩
  icombine HSI H1 gives %h1
  icombine HSI H2 gives %h2
  imod (Pipeline.unscopedSems0_read (X := unscopedSems0 c) (c := c) fupd_intro s') $$ [Hu HSI] with ⟨%h, HSI⟩
  · isplitl [Hu] <;> iassumption
  imodintro
  isplitr
  · ipureintro
    exact ⟨h, Buf.eq_of_forall_mem_univ h1, Buf.eq_of_forall_mem_univ h2⟩
  iexact HSI

set_option maxRecDepth 8000 in
/-- From any memory with zero counters, over any float values: every weakly fair execution of the four kernels
    terminates, with each device's result at the computed contents, the arguments unchanged, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := fun w => by fin_cases w <;> exact Nat.succ_pos _) (harr := arr_whole0) (hstage := stage_whole0) (hshare := share_eq m ρ)
    (hdistinct := winFacts0.arr_inj)
    (O₀ := fun d => owe d 27) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (show BI.own (((Emb.inl : Emb UB (UB × Counters)).trans embR) (initOf allCells allToks)) ⊢ (|==> bigSep Finset.univ (G m ρ) : sProp 𝕄) from fund_cells m ρ) $$ HX with HG
      imodintro
      isplitl [HP] <;> iassumption)
    (hglob := glob m ρ)
    (hA := fun _ _ => rfl) (hpf := fun _ k => k.elim0)
    (X := start m ρ) (Y := atEnd m) (Z := fun _ => iprop(emp))
    (hX := start_intro m ρ) (hin := phi0_intro m ρ) (hout := phi1_exit m ρ)
    (QY := QY m) (hY := read_end m)
    (hQ := fun _ h hs => ⟨fun c => ⟨(h c).1, (h c).2.2.2⟩, sem_eq_zero hs fun c => (h c).2.2.1⟩)

theorem finalA_x (c : Dev nD) : finalA m ρ c (0 : Fin 2) = (s₀ m ρ).mem (win0_0.arr.view.loc (c : Thread nD τ)) :=
  (dats (F := F) m ρ 0 c).arrAt_in (0 : Fin 2) rfl _
theorem finalA_o (c : Dev nD) : (win0_1.blk (0 : Fin 1)).view.read (Elt F) (finalA m ρ c (1 : Fin 2)) = outC m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _
/-- The staged input is the argument array; the result array is the computed result. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem final_out (c : Dev nD) : finalA m ρ c (1 : Fin 2) = outC m ρ c := by
  have hz : (fun a => (win0_1.index (0 : Fin 1)) a * main_v1.ty.shape.size a) = fun _ => 0 := funext fun a => by fin_cases a <;> decide
  have hr := fun f => Memref.read_access_unit_zero (Elt F) main_v1 hz (fun a => by fin_cases a <;> decide) f
  have ho := finalA_o (F := F) m ρ c
  exact (hr _).symm.trans ho

end Cert.AggRun

end
-- ==== Proof.Frames.lean ====
/-
The frames: the kernel runs on the four devices from every memory, leaves its arguments as they were
and every semaphore counter at zero; so do the two one-device references.
-/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.UnclippedIdeal.Run
public import proofs.«01_k».proof.Proof.Gen.Pre_within_clip_KernelIdeal
public import proofs.«01_k».proof.Proof.Gen.Pre_within_clip_ReferenceIdeal
public import Idealize.ShloMosaic.Lib.Quiescent

@[expose] public section

noncomputable section

namespace Cert.AggRun

open Idealize.ShloMosaic Idealize.ShloMosaic.TcCoe Idealize.SL.Sem

/-- The kernel over any float values: it ends, the arguments unchanged, every counter at zero. -/
theorem frame_run {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2))
        ∧ r.2.sem = fun _ => 0) :=
  (θ_run Cert.KernelIdeal.defs _ _).mono
    (fun _ h => ⟨fun c => ⟨((h.1 c).1 0).trans (finalA_x m ρ c), (h.1 c).2.1, (h.1 c).2.2⟩, h.2⟩)
    (run_main m ρ)

/-- The two printed programs have one body table: their texts are the same. -/
theorem table_eq : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | 0, (t, s) => exact rfl

/-- The two programs' tables with the pipeline's labels added. -/
theorem defs_eq : Cert.Kernel.defs (F := Bits) = Cert.KernelIdeal.defs (F := Bits) :=
  congrArg (Pipeline.defs (Cert.KernelIdeal.pcfgs (F := Bits))) table_eq

/-- The kernel over bits. -/
theorem frame_kernel : Cert.quiescent_Kernel := fun m ρ _ => by
  rw [defs_eq]
  exact frame_run (F := Bits) m ρ

/-- The kernel over the extended reals. -/
theorem frame_ideal : Cert.quiescent_KernelIdeal := fun m ρ _ => frame_run (F := Ideal) m ρ

/-- The same under the clip's precondition, which the run does not need. -/
theorem frame_ideal_pre : Cert.quiescent_KernelIdeal_pre_within_clip_KernelIdeal := fun m ρ _ =>
  frame_ideal m ρ trivial

/-- The clipped reference: host operations only, hence no semaphore at all. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- The same under the clip's precondition. -/
theorem frame_reference_pre : Cert.quiescent_ReferenceIdeal_pre_within_clip_ReferenceIdeal := fun m ρ _ =>
  frame_reference m ρ trivial

/-- The reference without the clip. -/
theorem frame_unclipped : Cert.quiescent_UnclippedIdeal := fun m ρ _ =>
  (θ_run Cert.UnclippedIdeal.defs _ _).mono
    (fun r h => ⟨fun c => (h c).2, sem_eq_zero_of_no_sems (by decide) r.2⟩)
    (Cert.UnclippedIdeal.Value.run m ρ)

end Cert.AggRun

end
-- ==== Proof.Silu.lean ====
/-
The mathematics of the value claims, with no program in it: the activation on the extended reals, the
hidden axis cut into devices and slabs, and the bound that keeps the clip from acting.
-/
module

public import Idealize.ShloMosaic.PureOps.Ideal
public import Mathlib.Algebra.Order.BigOperators.Ring.Finset

@[expose] public section

noncomputable section

namespace Cert.AggRun

open Idealize.ShloMosaic
open scoped BigOperators

/-! ### The activation -/

/-- `h · logistic h`, as the kernel spells it. -/
def act (h : EReal) : EReal := h * Ideal.logistic h

/-- An exponential is not negative. -/
theorem exp_nonneg (h : EReal) : 0 ≤ Ideal.exp h := by
  induction h with
  | bot => exact le_refl _
  | top => exact le_top
  | coe r => exact EReal.coe_nonneg.2 (Real.exp_pos r).le

/-- The denominator is never zero. -/
theorem one_add_exp_ne_zero (h : EReal) : 1 + Ideal.exp h ≠ 0 := by
  have h1 : (1 : EReal) ≤ 1 + Ideal.exp h := by
    have := add_le_add_right (exp_nonneg h) (1 : EReal)
    simpa using this
  exact (lt_of_lt_of_le zero_lt_one h1).ne'

/-- The reference's quotient is the kernel's product, at the infinities too. -/
theorem div_eq_act (h : EReal) : Ideal.div h (1 + Ideal.exp (-h)) = act h := by
  have hz := one_add_exp_ne_zero (-h)
  unfold act Ideal.logistic Ideal.div
  rw [if_neg hz, if_neg hz, one_mul]

/-! ### The hidden axis -/

/-- Hidden unit `1024 n + k` of device `c`. -/
def unit (c n : Fin 4) (k : Fin 1024) : Fin 16384 :=
  ⟨4096 * c.val + (1024 * n.val + k.val), by omega⟩

/-- A sum over all hidden units, device by device and slab by slab. -/
theorem sum_units (f : Fin 16384 → EReal) : ∑ q, f q = ∑ c, ∑ n, ∑ k, f (unit c n k) := by
  have hsplit : ∀ (g : Fin (4 * 4096) → EReal), ∑ q, g q = ∑ c : Fin 4, ∑ r : Fin 4096, g (finProdFinEquiv (c, r)) := by
    intro g
    rw [← Fintype.sum_prod_type', ← finProdFinEquiv.sum_comp g]
  have hsplit' : ∀ (g : Fin (4 * 1024) → EReal), ∑ q, g q = ∑ n : Fin 4, ∑ k : Fin 1024, g (finProdFinEquiv (n, k)) := by
    intro g
    rw [← Fintype.sum_prod_type', ← finProdFinEquiv.sum_comp g]
  refine (hsplit f).trans (Finset.sum_congr rfl fun c _ => ?_)
  refine (hsplit' fun r => f (finProdFinEquiv (c, r))).trans
    (Finset.sum_congr rfl fun n _ => Finset.sum_congr rfl fun k _ => congrArg f (Fin.ext ?_))
  show (k.val + 1024 * n.val) + 4096 * c.val = 4096 * c.val + (1024 * n.val + k.val)
  omega

/-! ### The bound -/

/-- A square is not negative. -/
theorem sq_nonneg_ereal (x : EReal) : 0 ≤ x * x := by
  induction x with
  | bot => simp
  | top => simp
  | coe r => exact_mod_cast mul_self_nonneg r

/-- A number with a bounded square is finite. -/
theorem finite_of_sq_le (x : EReal) (b : ℝ) (h : x * x ≤ (b : EReal)) : ∃ r : ℝ, x = r := by
  induction x with
  | bot => simp at h
  | top => simp at h
  | coe r => exact ⟨r, rfl⟩

/-- The members of a list with a bounded sum of squares are finite. -/
theorem finite_of_sum {n : ℕ} (f : Fin n → EReal) (b : ℝ) (h : ∑ i, f i * f i ≤ (b : EReal)) :
    ∃ r : Fin n → ℝ, f = fun i => (r i : EReal) := by
  have h1 : ∀ i, ∃ r : ℝ, f i = r := fun i =>
    finite_of_sq_le (f i) b
      ((Finset.single_le_sum (fun j _ => sq_nonneg_ereal (f j)) (Finset.mem_univ i)).trans h)
  choose r hr using h1
  exact ⟨r, funext hr⟩

/-- The embedding of the reals carries a finite sum to a finite sum. -/
theorem coe_sum {n : ℕ} (r : Fin n → ℝ) : ((∑ i, r i : ℝ) : EReal) = ∑ i, (r i : EReal) := by
  induction n with
  | zero => simp
  | succ n ih => rw [Fin.sum_univ_succ, Fin.sum_univ_succ, EReal.coe_add, ih]

/-- By Cauchy and Schwarz: a row and a column with short enough squares have a product of at most 60 in size. -/
theorem product_bounded {n : ℕ} (f g : Fin n → EReal)
    (hf : ∑ i, f i * f i ≤ ((1600 : ℝ) : EReal)) (hg : ∑ i, g i * g i ≤ ((9 / 4 : ℝ) : EReal)) :
    ((-60 : ℝ) : EReal) ≤ ∑ i, f i * g i ∧ ∑ i, f i * g i ≤ ((60 : ℝ) : EReal) := by
  obtain ⟨r, rfl⟩ := finite_of_sum f _ hf
  obtain ⟨s, rfl⟩ := finite_of_sum g _ hg
  have hr : ∑ i, r i * r i ≤ 1600 := by
    have : ((∑ i, r i * r i : ℝ) : EReal) ≤ ((1600 : ℝ) : EReal) := by rw [coe_sum]; simpa using hf
    exact_mod_cast this
  have hs : ∑ i, s i * s i ≤ 9 / 4 := by
    have : ((∑ i, s i * s i : ℝ) : EReal) ≤ ((9 / 4 : ℝ) : EReal) := by rw [coe_sum]; simpa using hg
    exact EReal.coe_le_coe_iff.1 this
  have hcs := Finset.sum_mul_sq_le_sq_mul_sq Finset.univ r s
  have hr0 : 0 ≤ ∑ i, s i * s i := Finset.sum_nonneg fun i _ => mul_self_nonneg _
  have e1 : ∑ i, r i ^ 2 = ∑ i, r i * r i := Finset.sum_congr rfl fun i _ => sq _
  have e2 : ∑ i, s i ^ 2 = ∑ i, s i * s i := Finset.sum_congr rfl fun i _ => sq _
  have h60 : (∑ i, r i * s i) ^ 2 ≤ 60 ^ 2 := by
    rw [e1, e2] at hcs
    calc (∑ i, r i * s i) ^ 2 ≤ (∑ i, r i * r i) * ∑ i, s i * s i := hcs
      _ ≤ 1600 * (9 / 4) := mul_le_mul hr hs hr0 (by norm_num)
      _ = 60 ^ 2 := by norm_num
  have habs := abs_le.1 (abs_le_of_sq_le_sq h60 (by norm_num))
  have e : ∑ i, ((r i : EReal) * (s i : EReal)) = ((∑ i, r i * s i : ℝ) : EReal) := by
    rw [coe_sum]; simp
  rw [e]
  exact ⟨EReal.coe_le_coe_iff.2 habs.1, EReal.coe_le_coe_iff.2 habs.2⟩

/-- Within its bounds the clip does nothing. -/
theorem clip_eq (h : EReal) (hb : ((-60 : ℝ) : EReal) ≤ h ∧ h ≤ ((60 : ℝ) : EReal)) :
    min ((60 : ℝ) : EReal) (max ((-60 : ℝ) : EReal) h) = h := by
  rw [max_eq_right hb.1, min_eq_right hb.2]

end Cert.AggRun

end
-- ==== Proof.Payload.lean ====
/-
The kernel's three payloads over the extended reals, read at an index.
-/
module

public import proofs.«01_k».proof.Proof.Silu
public import proofs.«01_k».proof.Proof.Gen.KernelIdeal
public import proofs.«01_k».proof.Proof.Gen.KernelIdeal.Skeleton
public import Idealize.ShloMosaic.Lib.Pointwise

@[expose] public section

noncomputable section

namespace Cert.AggRun

open Cert.KernelIdeal Cert.KernelIdeal.Gen
open Idealize.ShloMosaic
open scoped BigOperators

/-- The accumulator starts at zero. -/
theorem start_apply (r : Fin 256) (l : Fin 1024) : k0_pay16 (F := Ideal) (ix2 r l) = (0 : EReal) := by
  pointwise [k0_pay16]

/-- One slab: the accumulator plus the activated first product times the second weights. -/
theorem slab_apply (x : FVec Ideal S256x1024 .bf16) (acc : FVec Ideal S256x1024 .f32)
    (u v : FVec Ideal S1024x1024 .bf16) (r : Fin 256) (l : Fin 1024) :
    k0_pay17 (F := Ideal) x acc u v (ix2 r l)
      = (acc (ix2 r l) : EReal)
        + ∑ k : Fin 1024, act (∑ d : Fin 1024, (x (ix2 r d) : EReal) * u (ix2 d k)) * v (ix2 k l) := by
  pointwise [k0_pay17, act]

/-- The last sum: the device's own partial result and the three received. -/
theorem total_apply (o : FVec Ideal S1024x1024 .f32) (p q s : FVec Ideal S1x1024x1024 .bf16) (i l : Fin 1024) :
    k0_pay18 (F := Ideal) o p q s (ix2 i l)
      = (((o (ix2 i l) : EReal) + p (ix3 0 i l)) + q (ix3 0 i l)) + s (ix3 0 i l) := by
  pointwise [k0_pay18]

end Cert.AggRun

end
-- ==== Proof.Value.lean ====
/-
The kernel's result over the extended reals, element by element: each device's partial results are sums
over its own hidden units, and the four devices' hidden units together are all of them.
-/
module

public import proofs.«01_k».proof.Proof.Payload
public import proofs.«01_k».proof.Proof.Run

@[expose] public section

noncomputable section

namespace Cert.AggRun

open Cert.KernelIdeal Cert.KernelIdeal.Gen
open Idealize.ShloMosaic
open Idealize.ShloMosaic.TcCoe
open scoped BigOperators

/-- The two spellings of an index of two coordinates. -/
theorem ix2_eq {n0 n1 : ℕ} (a : Fin n0) (b : Fin n1) : ValueIdx.ix2 a b = ix2 a b := by
  funext i; match i with | ⟨0, _⟩ => rfl | ⟨1, _⟩ => rfl

/-- The two spellings of an index of three coordinates. -/
theorem ix3_eq {n0 n1 n2 : ℕ} (a : Fin n0) (b : Fin n1) (e : Fin n2) : ValueIdx.ix3 a b e = ix3 a b e := by
  funext i; match i with | ⟨0, _⟩ => rfl | ⟨1, _⟩ => rfl | ⟨2, _⟩ => rfl

variable (m : (ℓ : Loc nD τ sig) → Buf (Elt Ideal) ℓ) (ρ : Dev nD → PrngReg)

/-- Device `c`'s three arguments as arrays. -/
def argX (c : Dev nD) : FVec Ideal S1024x1024 .bf16 := m ((c : Thread nD τ).loc main_arg0)
def argU (c : Dev nD) : FVec Ideal S1024x4096 .f32 := m ((c : Thread nD τ).loc main_arg1)
def argV (c : Dev nD) : FVec Ideal S4096x1024 .f32 := m ((c : Thread nD τ).loc main_arg2)

/-- Hidden unit `k` of slab `n`, within a device. -/
def hid (n : Fin 4) (k : Fin 1024) : Fin 4096 := ⟨1024 * n.val + k.val, by omega⟩

/-- What slab `n` of device `c` adds to the result of row `i` of device `p`, at column `l`. -/
def slabTerm (c p : Dev nD) (i l : Fin 1024) (n : Fin 4) : EReal :=
  ∑ k : Fin 1024, act (∑ d : Fin 1024, (argX m p (ix2 i d) : EReal) * argU m c (ix2 d (hid n k)))
    * argV m c (ix2 (hid n k) l)

theorem slabTerm_eq (c p : Dev nD) (i l : Fin 1024) (n : Fin 4) :
    (∑ k : Fin 1024, act (∑ d : Fin 1024,
        (xTile m ρ p (i.val / 256) (ix2 ⟨i.val % 256, Nat.mod_lt _ (by decide)⟩ d) : EReal)
          * w1s m c n.val (ix2 d k)) * w2s m c n.val (ix2 k l))
      = slabTerm m c p i l n := by
  have hx : ∀ d : Fin 1024, (xTile m ρ p (i.val / 256) (ix2 ⟨i.val % 256, Nat.mod_lt _ (by decide)⟩ d) : EReal)
      = argX m p (ix2 i d) := fun d => by
    have hi : (⟨(256 * (i.val / 256) + i.val % 256) % 1024, Nat.mod_lt _ (by decide)⟩ : Fin 1024) = i :=
      Fin.ext (by show (256 * (i.val / 256) + i.val % 256) % 1024 = i.val; omega)
    show xstg m ρ p (ValueIdx.ix2 ⟨(256 * (i.val / 256) + i.val % 256) % 1024, _⟩ d) = _
    rw [xstg_eq, ix2_eq, hi]; rfl
  have hu : ∀ d k : Fin 1024, (w1s m c n.val (ix2 d k) : EReal) = argU m c (ix2 d (hid n k)) := fun d k => by
    have hk : (⟨(1024 * n.val + k.val) % 4096, Nat.mod_lt _ (by decide)⟩ : Fin 4096) = hid n k :=
      Fin.ext (by show (1024 * n.val + k.val) % 4096 = 1024 * n.val + k.val; omega)
    show argU m c (ValueIdx.ix2 d ⟨(1024 * n.val + k.val) % 4096, _⟩) = _
    rw [ix2_eq, hk]
  have hv : ∀ k : Fin 1024, (w2s m c n.val (ix2 k l) : EReal) = argV m c (ix2 (hid n k) l) := fun k => by
    have hk : (⟨(1024 * n.val + k.val) % 4096, Nat.mod_lt _ (by decide)⟩ : Fin 4096) = hid n k :=
      Fin.ext (by show (1024 * n.val + k.val) % 4096 = 1024 * n.val + k.val; omega)
    show argV m c (ValueIdx.ix2 ⟨(1024 * n.val + k.val) % 4096, _⟩ l) = _
    rw [ix2_eq, hk]
  unfold slabTerm
  refine Finset.sum_congr rfl fun k _ => ?_
  rw [hv]
  refine congrArg (fun h => act h * _) (Finset.sum_congr rfl fun d _ => ?_)
  rw [hx, hu]

/-- The partial result of device `c` for row `i` of device `p`: the sum of its four slabs. -/
theorem part_apply (c p : Dev nD) (i l : Fin 1024) :
    (gemmT m ρ c p (i.val / 256) (ix2 ⟨i.val % 256, Nat.mod_lt _ (by decide)⟩ l) : EReal)
      = ∑ n, slabTerm m c p i l n := by
  have h0 := slabTerm_eq m ρ c p i l 0
  have h1 := slabTerm_eq m ρ c p i l 1
  have h2 := slabTerm_eq m ρ c p i l 2
  have h3 := slabTerm_eq m ρ c p i l 3
  unfold gemmT
  simp only [gacc]
  rw [slab_apply, slab_apply, slab_apply, slab_apply, start_apply, zero_add, Fin.sum_univ_four]
  rw [← h0, ← h1, ← h2, ← h3]
  rfl

/-- What device `c'` contributes to row `i` of device `c`. -/
def devTerm (c : Dev nD) (i l : Fin 1024) (c' : Dev nD) : EReal := ∑ n, slabTerm m c' c i l n

theorem own_apply (c : Dev nD) (i l : Fin 1024) :
    (ownC m ρ c (ix2 i l) : EReal) = devTerm m c i l c := by
  have h := part_apply m ρ c c i l
  show gemmT m ρ c c (i.val / 256) (ValueIdx.ix2 ⟨i.val % 256, _⟩ l) = _
  rw [ix2_eq]; exact h

theorem slot_apply (c : Dev nD) (s : Fin 3) (i l : Fin 1024) :
    (prSlot m ρ c s (ix3 0 i l) : EReal) = devTerm m c i l (pl (rev s) c) := by
  have h := part_apply m ρ (pl (rev s) c) c i l
  show gemmT m ρ (pl (rev s) c) (pl s (pl (rev s) c)) (i.val / 256) (ValueIdx.ix2 ⟨i.val % 256, _⟩ l) = _
  rw [ix2_eq, pl_pl_rev]; exact h

/-- A device and its three peers are all the devices. -/
theorem sum_devices (c : Dev nD) (f : Dev nD → EReal) :
    ((f c + f (pl (rev 0) c)) + f (pl (rev 1) c)) + f (pl (rev 2) c) = ∑ c', f c' := by
  have e : ∑ c', f c' = f 0 + f 1 + f 2 + f 3 := Fin.sum_univ_four f
  rw [e]
  match c with
  | 0 => show ((f 0 + f 3) + f 2) + f 1 = _; ac_rfl
  | 1 => show ((f 1 + f 0) + f 3) + f 2 = _; ac_rfl
  | 2 => show ((f 2 + f 1) + f 0) + f 3 = _; ac_rfl
  | 3 => show ((f 3 + f 2) + f 1) + f 0 = _; ac_rfl

/-- The kernel's result on device `c`, row `i`, column `l`. -/
theorem out_apply (c : Dev nD) (i l : Fin 1024) :
    (outC m ρ c (ix2 i l) : EReal) = ∑ c', devTerm m c i l c' := by
  unfold outC
  refine (total_apply _ _ _ _ i l).trans ?_
  rw [own_apply, slot_apply, slot_apply, slot_apply]
  exact sum_devices c _

end Cert.AggRun

end
-- ==== Proof.Whole.lean ====
/-
The two references over the extended reals, read at an index, and the kernel's result as a block of them.
-/
module

public import proofs.«01_k».proof.Proof.Value
public import proofs.«01_k».proof.Proof.Gen.ReferenceIdeal.Run
public import proofs.«01_k».proof.Proof.Gen.UnclippedIdeal.Run
public import Idealize.ShloMosaic.Lib.Layout

@[expose] public section

noncomputable section

namespace Cert.AggRun

open Idealize.ShloMosaic
open Idealize.ShloMosaic.TcCoe
open scoped BigOperators

abbrev SX : Shape := ⟨2, ![4096, 1024]⟩
abbrev SU : Shape := ⟨2, ![1024, 16384]⟩
abbrev SV : Shape := ⟨2, ![16384, 1024]⟩
abbrev SH : Shape := ⟨2, ![4096, 16384]⟩

variable (X : FVec Ideal SX .bf16) (U : FVec Ideal SU .f32) (V : FVec Ideal SV .f32)

/-- The first product at row `j`, hidden unit `q`. -/
def hidden (j : Fin 4096) (q : Fin 16384) : EReal := ∑ d : Fin 1024, (X (ix2 j d) : EReal) * U (ix2 d q)

/-- The whole computation: every hidden unit activated, then weighed and summed. -/
def whole : FVec Ideal SX .f32 := fun j => ∑ q : Fin 16384, act (hidden X U (j 0) q) * V (ix2 q (j 1))

/-- The reference without the clip, as its operations compose. -/
def refPlain : FVec Ideal SX .f32 :=
  Host.dotGeneral Cert.UnclippedIdeal.dot_S4096x16384_S16384x1024_S4096x1024_1_0_0_1_n_n none
    (Host.divf (Host.dotGeneral Cert.UnclippedIdeal.dot_S4096x1024_S1024x16384_S4096x16384_1_0_0_1_n_n none
        (extf .f32 X Cert.UnclippedIdeal.Facts₀.bitsLt_bf16_f32) U)
      (addf (broadcastInDim SH ![] Cert.UnclippedIdeal.Facts₀.bcast_S_S4096x16384
          (constant Cert.UnclippedIdeal.S_ .f32 0x3F800000#32))
        (Host.exp (Host.negf (Host.dotGeneral
          Cert.UnclippedIdeal.dot_S4096x1024_S1024x16384_S4096x16384_1_0_0_1_n_n none
          (extf .f32 X Cert.UnclippedIdeal.Facts₀.bitsLt_bf16_f32) U))))) V

theorem refPlain_eq : refPlain X U V = whole X U V := by
  funext j
  have h : refPlain X U V j = ∑ q : Fin 16384,
      Ideal.div (hidden X U (j 0) q) (1 + Ideal.exp (-(hidden X U (j 0) q))) * V (ix2 q (j 1)) := by
    pointwise [refPlain, hidden]
  rw [h]
  exact Finset.sum_congr rfl fun q _ => by rw [div_eq_act]

/-- The first product held between the two bounds, at one element. -/
def clipped (h : EReal) : EReal := min ((60 : ℝ) : EReal) (max ((-60 : ℝ) : EReal) h)

/-- The reference with the clip, as its operations compose. -/
def refClip : FVec Ideal SX .f32 :=
  Host.dotGeneral Cert.ReferenceIdeal.dot_S4096x16384_S16384x1024_S4096x1024_1_0_0_1_n_n none
    (Host.divf (Host.dotGeneral Cert.ReferenceIdeal.dot_S4096x1024_S1024x16384_S4096x16384_1_0_0_1_n_n none
        (extf .f32 X Cert.ReferenceIdeal.Facts₀.bitsLt_bf16_f32) U)
      (addf (broadcastInDim SH ![] Cert.ReferenceIdeal.Facts₀.bcast_S_S4096x16384
          (constant Cert.ReferenceIdeal.S_ .f32 0x3F800000#32))
        (Host.exp (Host.negf (minimumf
          (broadcastInDim SH ![] Cert.ReferenceIdeal.Facts₀.bcast_S_S4096x16384
            (sitofp .f32 (constantI Cert.ReferenceIdeal.S_ 32 60#32)))
          (maximumf
            (broadcastInDim SH ![] Cert.ReferenceIdeal.Facts₀.bcast_S_S4096x16384
              (sitofp .f32 (constantI Cert.ReferenceIdeal.S_ 32 4294967236#32)))
            (Host.dotGeneral Cert.ReferenceIdeal.dot_S4096x1024_S1024x16384_S4096x16384_1_0_0_1_n_n none
              (extf .f32 X Cert.ReferenceIdeal.Facts₀.bitsLt_bf16_f32) U))))))) V

theorem sixty : (FloatOps.sitofp .f32 60#32 : Ideal .f32) = ((60 : ℝ) : EReal) := by
  show (((60#32 : BitVec 32).toInt : ℝ) : EReal) = _
  rw [show (60#32 : BitVec 32).toInt = 60 from by decide]; norm_num

theorem neg_sixty : (FloatOps.sitofp .f32 4294967236#32 : Ideal .f32) = ((-60 : ℝ) : EReal) := by
  show (((4294967236#32 : BitVec 32).toInt : ℝ) : EReal) = _
  rw [show (4294967236#32 : BitVec 32).toInt = -60 from by decide]; norm_num

theorem refClip_apply (j : SX.Idx) : refClip X U V j = ∑ q : Fin 16384,
    Ideal.div (hidden X U (j 0) q) (1 + Ideal.exp (-(clipped (hidden X U (j 0) q)))) * V (ix2 q (j 1)) := by
  pointwise [refClip, hidden, clipped]
  rw [sixty, neg_sixty]

/-- Where every first product lies within the bounds, the clipped reference is the whole computation. -/
theorem refClip_eq
    (hb : ∀ (j : Fin 4096) (q : Fin 16384),
      ((-60 : ℝ) : EReal) ≤ hidden X U j q ∧ hidden X U j q ≤ ((60 : ℝ) : EReal)) :
    refClip X U V = whole X U V := by
  funext j
  rw [refClip_apply]
  refine Finset.sum_congr rfl fun q _ => ?_
  rw [clipped, clip_eq _ (hb (j 0) q), div_eq_act]

/-! ### The blocks -/

/-- Row `i` of device `c`. -/
def row (c : Fin 4) (i : Fin 1024) : Fin 4096 := ⟨1024 * c.val + i.val, by omega⟩

/-- Hidden unit `r` of device `c`. -/
def col (c : Fin 4) (r : Fin 4096) : Fin 16384 := ⟨4096 * c.val + r.val, by omega⟩

variable (m : (ℓ : Loc Cert.KernelIdeal.nD Cert.KernelIdeal.τ Cert.KernelIdeal.sig) → Buf (Elt Ideal) ℓ)
  (ρ : Dev Cert.KernelIdeal.nD → PrngReg)

/-- The devices' arguments are the blocks of the whole arrays. -/
def Blocks : Prop := ∀ c : Dev Cert.KernelIdeal.nD,
  argX m c = Layout.block ⟨2, ![1024, 1024]⟩ ⟨2, ![4096, 1024]⟩ 0 4 c X
    ∧ argU m c = Layout.block ⟨2, ![1024, 4096]⟩ ⟨2, ![1024, 16384]⟩ 1 4 c U
    ∧ argV m c = Layout.block ⟨2, ![4096, 1024]⟩ ⟨2, ![16384, 1024]⟩ 0 4 c V

/-- An element of a block cut along the rows. -/
theorem block_rows (c : Fin 4) (Z : SX.Idx → EReal) (i l : Fin 1024) :
    Layout.block ⟨2, ![1024, 1024]⟩ ⟨2, ![4096, 1024]⟩ 0 4 c Z (by decide) (ix2 i l) = Z (ix2 (row c i) l) := by
  refine congrArg Z (funext fun b => ?_)
  match b with
  | ⟨0, _⟩ => exact Fin.ext (by show c.val * 1024 + i.val = 1024 * c.val + i.val; omega)
  | ⟨1, _⟩ => rfl

/-- An element of a block of the first weights, cut along the columns. -/
theorem block_cols (c : Fin 4) (Z : SU.Idx → EReal) (d : Fin 1024) (r : Fin 4096) :
    Layout.block ⟨2, ![1024, 4096]⟩ ⟨2, ![1024, 16384]⟩ 1 4 c Z (by decide) (ix2 d r) = Z (ix2 d (col c r)) := by
  refine congrArg Z (funext fun b => ?_)
  match b with
  | ⟨0, _⟩ => rfl
  | ⟨1, _⟩ => exact Fin.ext (by show c.val * 4096 + r.val = 4096 * c.val + r.val; omega)

/-- An element of a block of the second weights, cut along the rows. -/
theorem block_units (c : Fin 4) (Z : SV.Idx → EReal) (r : Fin 4096) (l : Fin 1024) :
    Layout.block ⟨2, ![4096, 1024]⟩ ⟨2, ![16384, 1024]⟩ 0 4 c Z (by decide) (ix2 r l) = Z (ix2 (col c r) l) := by
  refine congrArg Z (funext fun b => ?_)
  match b with
  | ⟨0, _⟩ => exact Fin.ext (by show c.val * 4096 + r.val = 4096 * c.val + r.val; omega)
  | ⟨1, _⟩ => rfl

variable {X U V m}

theorem argX_at (h : Blocks X U V m) (c : Fin 4) (i d : Fin 1024) : (argX m c (ix2 i d) : EReal) = X (ix2 (row c i) d) := by
  rw [(h c).1]; exact block_rows c X i d

theorem argU_at (h : Blocks X U V m) (c : Fin 4) (d : Fin 1024) (r : Fin 4096) :
    (argU m c (ix2 d r) : EReal) = U (ix2 d (col c r)) := by
  rw [(h c).2.1]; exact block_cols c U d r

theorem argV_at (h : Blocks X U V m) (c : Fin 4) (r : Fin 4096) (l : Fin 1024) :
    (argV m c (ix2 r l) : EReal) = V (ix2 (col c r) l) := by
  rw [(h c).2.2]; exact block_units c V r l

/-- The kernel's result on each device is its block of the whole computation. -/
theorem out_block (h : Blocks X U V m) (c : Fin 4) :
    outC m ρ c = Layout.block ⟨2, ![1024, 1024]⟩ ⟨2, ![4096, 1024]⟩ 0 4 c (whole X U V) := by
  funext j
  obtain ⟨i, l, rfl⟩ : ∃ (i l : Fin 1024), j = ix2 i l := ⟨j 0, j 1, eq_ix2 j⟩
  refine (out_apply m ρ c i l).trans (Eq.trans ?_ (block_rows c (whole X U V) i l).symm)
  show _ = ∑ q : Fin 16384, act (hidden X U (row c i) q) * V (ix2 q l)
  rw [sum_units]
  refine Finset.sum_congr rfl fun c' _ => Finset.sum_congr rfl fun n _ => Finset.sum_congr rfl fun k _ => ?_
  have hq : col c' (hid n k) = unit c' n k := rfl
  rw [argV_at h, hq]
  refine congrArg (fun z => act z * _) (Finset.sum_congr rfl fun d _ => ?_)
  rw [argX_at h, argU_at h, hq]

end Cert.AggRun

end
-- ==== Proof.Bound.lean ====
/-
The clip's precondition: each device's rows and columns are short enough that no first product leaves the
bounds of the clip.
-/
module

public import proofs.«01_k».proof.Defs
public import proofs.«01_k».proof.Proof.Whole
public import proofs.«01_k».proof.Proof.Gen.Pre_within_clip_KernelIdeal

@[expose] public section

noncomputable section

namespace Cert.AggRun

open Idealize.ShloMosaic
open Idealize.ShloMosaic.TcCoe
open scoped BigOperators

/-- The word of the bound on the rows. -/
theorem word_rows : (Ideal.ofBits .f32 0x44C80000#32 : EReal) = ((1600 : ℝ) : EReal) := by
  simp [Ideal.ofBits, Ideal.ieee]; rw [← EReal.coe_mul]; norm_num

/-- The word of the bound on the columns. -/
theorem word_cols : (Ideal.ofBits .f32 0x40100000#32 : EReal) = ((9 / 4 : ℝ) : EReal) := by
  simp [Ideal.ofBits, Ideal.ieee]; rw [← EReal.coe_mul]; norm_num

/-- A comparison whose bit is set holds. -/
theorem le_of_bit {a b : EReal} [Decidable (a ≤ b)] (h : BitVec.ofBool (decide (a ≤ b)) = 1#1) : a ≤ b := by
  by_contra hn
  rw [decide_eq_false hn] at h
  exact absurd h (by decide)

variable (x : FVec Ideal ⟨2, ![1024, 1024]⟩ .bf16) (u : FVec Ideal ⟨2, ![1024, 4096]⟩ .f32)
  (v : FVec Ideal ⟨2, ![4096, 1024]⟩ .f32)

/-- The first condition says that each row's squares sum to at most 1600. -/
theorem rows_of (h : (Cert.Pre_within_clip_KernelIdeal.fn (F := Ideal) x u v).1 = fun _ => 1#1) (i : Fin 1024) :
    ∑ d : Fin 1024, (x (ix2 i d) : EReal) * x (ix2 i d) ≤ ((1600 : ℝ) : EReal) := by
  have h' := congrFun h (ix1 i)
  pointwise [Cert.Pre_within_clip_KernelIdeal.fn] at h'
  rw [word_rows] at h'
  exact le_of_bit h'

/-- The second condition says that each column's squares sum to at most 9/4. -/
theorem cols_of (h : (Cert.Pre_within_clip_KernelIdeal.fn (F := Ideal) x u v).2 = fun _ => 1#1) (r : Fin 4096) :
    ∑ d : Fin 1024, (u (ix2 d r) : EReal) * u (ix2 d r) ≤ ((9 / 4 : ℝ) : EReal) := by
  have h' := congrFun h (ix1 r)
  pointwise [Cert.Pre_within_clip_KernelIdeal.fn] at h'
  rw [word_cols] at h'
  exact le_of_bit h'

variable {X : FVec Ideal SX .bf16} {U : FVec Ideal SU .f32} {V : FVec Ideal SV .f32}
  {m : (ℓ : Loc Cert.KernelIdeal.nD Cert.KernelIdeal.τ Cert.KernelIdeal.sig) → Buf (Elt Ideal) ℓ}

/-- Every row of the whole input is a device's row. -/
theorem row_surj (j : Fin 4096) : ∃ c i, j = row c i :=
  ⟨⟨j.val / 1024, by omega⟩, ⟨j.val % 1024, by omega⟩,
    Fin.ext (by show j.val = 1024 * (j.val / 1024) + j.val % 1024; omega)⟩

/-- Every hidden unit is a device's. -/
theorem col_surj (q : Fin 16384) : ∃ c r, q = col c r :=
  ⟨⟨q.val / 4096, by omega⟩, ⟨q.val % 4096, by omega⟩,
    Fin.ext (by show q.val = 4096 * (q.val / 4096) + q.val % 4096; omega)⟩

/-- Under the precondition no first product leaves the clip's bounds. -/
theorem hidden_bounded (hb : Blocks X U V m) (hp : Cert.Pre_KernelIdeal_within_clip_KernelIdeal m)
    (j : Fin 4096) (q : Fin 16384) :
    ((-60 : ℝ) : EReal) ≤ hidden X U j q ∧ hidden X U j q ≤ ((60 : ℝ) : EReal) := by
  obtain ⟨c, i, rfl⟩ := row_surj j
  obtain ⟨c', r, rfl⟩ := col_surj q
  refine product_bounded (fun d => X (ix2 (row c i) d)) (fun d => U (ix2 d (col c' r))) ?_ ?_
  · have h := rows_of (argX m c) (argU m c) (argV m c) (hp c).1 i
    simp only [argX_at hb] at h
    exact h
  · have h := cols_of (argX m c') (argU m c') (argV m c') (hp c').2 r
    simp only [argU_at hb] at h
    exact h

end Cert.AggRun

end
-- ==== Proof.Claims.lean ====
/-
The two value claims: the four devices' results are the blocks of the reference's result, for the reference
without the clip at every input, and for the reference with the clip where the clip does not act.
-/
module

public import proofs.«01_k».proof.Proof.Frames
public import proofs.«01_k».proof.Proof.Bound

@[expose] public section

noncomputable section

namespace Cert.AggRun

open Idealize.ShloMosaic Idealize.ShloMosaic.TcCoe Idealize.SL.Sem

/-- The kernel's run, its result given as a block of the whole computation. -/
theorem kernel_value {X : FVec Ideal SX .bf16} {U : FVec Ideal SU .f32} {V : FVec Ideal SV .f32}
    (m : (ℓ : Loc Cert.KernelIdeal.nD Cert.KernelIdeal.τ Cert.KernelIdeal.sig) → Buf (Elt Ideal) ℓ)
    (ρ : Dev Cert.KernelIdeal.nD → PrngReg) (hb : Blocks X U V m) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v1)
            = Layout.block ⟨2, ![1024, 1024]⟩ ⟨2, ![4096, 1024]⟩ 0 4 c (whole X U V)
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2)) :=
  (θ_run Cert.KernelIdeal.defs _ _).mono
    (fun _ h c => ⟨(((h.1 c).1 1).trans (final_out m ρ c)).trans (out_block ρ hb c),
      ((h.1 c).1 0).trans (finalA_x m ρ c), (h.1 c).2.1, (h.1 c).2.2⟩)
    (run_main m ρ)

/-- Against the reference without the clip, at every input. -/
theorem value_unclipped : Cert.algebraic_KernelIdeal_UnclippedIdeal := fun m ρ m' ρ' _ hb =>
  ⟨whole (m' (((0 : Dev Cert.UnclippedIdeal.nD).tc : Thread Cert.UnclippedIdeal.nD Cert.UnclippedIdeal.τ).loc Cert.UnclippedIdeal.main_arg0))
      (m' (((0 : Dev Cert.UnclippedIdeal.nD).tc : Thread Cert.UnclippedIdeal.nD Cert.UnclippedIdeal.τ).loc Cert.UnclippedIdeal.main_arg1))
      (m' (((0 : Dev Cert.UnclippedIdeal.nD).tc : Thread Cert.UnclippedIdeal.nD Cert.UnclippedIdeal.τ).loc Cert.UnclippedIdeal.main_arg2)),
    kernel_value m ρ hb,
    (θ_run Cert.UnclippedIdeal.defs _ _).mono
      (fun _ h => ⟨(h 0).1.trans (refPlain_eq _ _ _), (h 0).2⟩)
      (Cert.UnclippedIdeal.Value.run m' ρ')⟩

/-- Against the reference with the clip, where no first product passes the clip's bounds. -/
theorem value_clipped : Cert.algebraic_KernelIdeal_ReferenceIdeal_pre_within_clip_KernelIdeal :=
  fun m ρ m' ρ' hp hb =>
  ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    kernel_value m ρ hb,
    (θ_run Cert.ReferenceIdeal.defs _ _).mono
      (fun _ h => ⟨(h 0).1.trans (refClip_eq _ _ _ (hidden_bounded hb hp)), (h 0).2⟩)
      (Cert.ReferenceIdeal.Value.run m' ρ')⟩

end Cert.AggRun

end
-- ==== Proof.lean ====
/-
The proof of the certificate's claims: the frames, and the two value claims, put together.
-/
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.UnclippedIdeal
public import proofs.«01_k».proof.Proof.Gen.Pre_within_clip_KernelIdeal
public import proofs.«01_k».proof.Proof.Gen.Pre_within_clip_ReferenceIdeal

@[expose] public section

noncomputable section

namespace Cert.Proof

/-- Everything the certificate claims. -/
theorem claim : Cert.Claim :=
  ⟨Cert.Kernel.Gen.facts, Cert.KernelIdeal.Gen.facts, Cert.ReferenceIdeal.Gen.facts,
    Cert.UnclippedIdeal.Gen.facts, Cert.Pre_within_clip_KernelIdeal.Gen.facts,
    Cert.Pre_within_clip_ReferenceIdeal.Gen.facts,
    Cert.AggRun.frame_kernel, Cert.AggRun.frame_ideal, Cert.AggRun.frame_ideal_pre,
    Cert.AggRun.frame_reference, Cert.AggRun.frame_reference_pre, Cert.AggRun.frame_unclipped,
    trivial, Cert.AggRun.value_clipped, Cert.AggRun.value_unclipped⟩

end Cert.Proof

end
